-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DnProj (m : (ℓ : Loc Cert.DnProj.nD Cert.DnProj.τ Cert.DnProj.sig) → Buf (Elt Bits) ℓ) : Prop :=
  True

def Pre_DnProjIdeal (m : (ℓ : Loc Cert.DnProjIdeal.nD Cert.DnProjIdeal.τ Cert.DnProjIdeal.sig) → Buf (Elt Ideal) ℓ) : Prop :=
  True

def Pre_DnProjRefIdeal (m : (ℓ : Loc Cert.DnProjRefIdeal.nD Cert.DnProjRefIdeal.τ Cert.DnProjRefIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjRefIdeal (m : (ℓ : Loc Cert.FoxProjRefIdeal.nD Cert.FoxProjRefIdeal.τ Cert.FoxProjRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_KeyNorm (m : (ℓ : Loc Cert.KeyNorm.nD Cert.KeyNorm.τ Cert.KeyNorm.sig) → Buf (Elt Bits) ℓ) : Prop :=
  True

def Pre_KeyNormIdeal (m : (ℓ : Loc Cert.KeyNormIdeal.nD Cert.KeyNormIdeal.τ Cert.KeyNormIdeal.sig) → Buf (Elt Ideal) ℓ) : Prop :=
  True

def Pre_KeyNormRefIdeal (m : (ℓ : Loc Cert.KeyNormRefIdeal.nD Cert.KeyNormRefIdeal.τ Cert.KeyNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_DnProjS (m : (ℓ : Loc Cert.DnProjS.nD Cert.DnProjS.τ Cert.DnProjS.sig) → Buf (Elt Bits) ℓ) : Prop :=
  True

def Pre_DnProjSIdeal (m : (ℓ : Loc Cert.DnProjSIdeal.nD Cert.DnProjSIdeal.τ Cert.DnProjSIdeal.sig) → Buf (Elt Ideal) ℓ) : Prop :=
  True

def Pre_DnProjSRefIdeal (m : (ℓ : Loc Cert.DnProjSRefIdeal.nD Cert.DnProjSRefIdeal.τ Cert.DnProjSRefIdeal.sig) → Buf (Elt Ideal) ℓ) : Prop :=
  True

def Pre_FoxProjS (m : (ℓ : Loc Cert.FoxProjS.nD Cert.FoxProjS.τ Cert.FoxProjS.sig) → Buf (Elt Bits) ℓ) : Prop :=
  True

def Pre_FoxProjSIdeal (m : (ℓ : Loc Cert.FoxProjSIdeal.nD Cert.FoxProjSIdeal.τ Cert.FoxProjSIdeal.sig) → Buf (Elt Ideal) ℓ) : Prop :=
  True

def Pre_FoxProjSRefIdeal (m : (ℓ : Loc Cert.FoxProjSRefIdeal.nD Cert.FoxProjSRefIdeal.τ Cert.FoxProjSRefIdeal.sig) → Buf (Elt Ideal) ℓ) : Prop :=
  True

def Pre_KeyNormS (m : (ℓ : Loc Cert.KeyNormS.nD Cert.KeyNormS.τ Cert.KeyNormS.sig) → Buf (Elt Bits) ℓ) : Prop :=
  True

def Pre_KeyNormSIdeal (m : (ℓ : Loc Cert.KeyNormSIdeal.nD Cert.KeyNormSIdeal.τ Cert.KeyNormSIdeal.sig) → Buf (Elt Ideal) ℓ) : Prop :=
  True

def Pre_KeyNormSRefIdeal (m : (ℓ : Loc Cert.KeyNormSRefIdeal.nD Cert.KeyNormSRefIdeal.τ Cert.KeyNormSRefIdeal.sig) → Buf (Elt Ideal) ℓ) : Prop :=
  True

def Pre_GatesS (m : (ℓ : Loc Cert.GatesS.nD Cert.GatesS.τ Cert.GatesS.sig) → Buf (Elt Bits) ℓ) : Prop :=
  True

def Pre_GatesSIdeal (m : (ℓ : Loc Cert.GatesSIdeal.nD Cert.GatesSIdeal.τ Cert.GatesSIdeal.sig) → Buf (Elt Ideal) ℓ) : Prop :=
  True

def Pre_GatesSRefIdeal (m : (ℓ : Loc Cert.GatesSRefIdeal.nD Cert.GatesSRefIdeal.τ Cert.GatesSRefIdeal.sig) → Buf (Elt Ideal) ℓ) : Prop :=
  True

def Pre_RowNorm (m : (ℓ : Loc Cert.RowNorm.nD Cert.RowNorm.τ Cert.RowNorm.sig) → Buf (Elt Bits) ℓ) : Prop :=
  True

def Pre_RowNormIdeal (m : (ℓ : Loc Cert.RowNormIdeal.nD Cert.RowNormIdeal.τ Cert.RowNormIdeal.sig) → Buf (Elt Ideal) ℓ) : Prop :=
  True

def Pre_RowNormRefIdeal (m : (ℓ : Loc Cert.RowNormRefIdeal.nD Cert.RowNormRefIdeal.τ Cert.RowNormRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DnProj [hDnProj : Cert.DnProj.Facts] : Prop :=
  ∀ (m : (ℓ : Loc Cert.DnProj.nD Cert.DnProj.τ Cert.DnProj.sig) → Buf (Elt Bits) ℓ) (g : Dev Cert.DnProj.nD → PrngReg), Pre_DnProj m →
    θ_run (Cert.DnProj.defs (F := Bits)) (onTc (τ := Cert.DnProj.τ) (Cert.DnProj.main (F := Bits))) ⟨m, fun _ => 0, g⟩ (fun r => (∀ c : Dev Cert.DnProj.nD,
      r.2.mem ((c.tc : Thread Cert.DnProj.nD Cert.DnProj.τ).loc Cert.DnProj.main_arg0) = m ((c.tc : Thread Cert.DnProj.nD Cert.DnProj.τ).loc Cert.DnProj.main_arg0)
      ∧ r.2.mem ((c.tc : Thread Cert.DnProj.nD Cert.DnProj.τ).loc Cert.DnProj.main_arg1) = m ((c.tc : Thread Cert.DnProj.nD Cert.DnProj.τ).loc Cert.DnProj.main_arg1))
      ∧ r.2.sem = fun _ => 0)

def quiescent_DnProjIdeal [hDnProjIdeal : Cert.DnProjIdeal.Facts] : Prop :=
  ∀ (m : (ℓ : Loc Cert.DnProjIdeal.nD Cert.DnProjIdeal.τ Cert.DnProjIdeal.sig) → Buf (Elt Ideal) ℓ) (g : Dev Cert.DnProjIdeal.nD → PrngReg), Pre_DnProjIdeal m →
    θ_run (Cert.DnProjIdeal.defs (F := Ideal)) (onTc (τ := Cert.DnProjIdeal.τ) (Cert.DnProjIdeal.main (F := Ideal))) ⟨m, fun _ => 0, g⟩ (fun r => (∀ c : Dev Cert.DnProjIdeal.nD,
      r.2.mem ((c.tc : Thread Cert.DnProjIdeal.nD Cert.DnProjIdeal.τ).loc Cert.DnProjIdeal.main_arg0) = m ((c.tc : Thread Cert.DnProjIdeal.nD Cert.DnProjIdeal.τ).loc Cert.DnProjIdeal.main_arg0)
      ∧ r.2.mem ((c.tc : Thread Cert.DnProjIdeal.nD Cert.DnProjIdeal.τ).loc Cert.DnProjIdeal.main_arg1) = m ((c.tc : Thread Cert.DnProjIdeal.nD Cert.DnProjIdeal.τ).loc Cert.DnProjIdeal.main_arg1))
      ∧ r.2.sem = fun _ => 0)

def quiescent_DnProjRefIdeal [hDnProjRefIdeal : Cert.DnProjRefIdeal.Facts] : Prop :=
  ∀ (m : (ℓ : Loc Cert.DnProjRefIdeal.nD Cert.DnProjRefIdeal.τ Cert.DnProjRefIdeal.sig) → Buf (Elt Ideal) ℓ) (g : Dev Cert.DnProjRefIdeal.nD → PrngReg), Pre_DnProjRefIdeal m →
    θ_run (Cert.DnProjRefIdeal.defs (F := Ideal)) (onTc (τ := Cert.DnProjRefIdeal.τ) (Cert.DnProjRefIdeal.main (F := Ideal))) ⟨m, fun _ => 0, g⟩ (fun r => (∀ c : Dev Cert.DnProjRefIdeal.nD,
      r.2.mem ((c.tc : Thread Cert.DnProjRefIdeal.nD Cert.DnProjRefIdeal.τ).loc Cert.DnProjRefIdeal.main_arg0) = m ((c.tc : Thread Cert.DnProjRefIdeal.nD Cert.DnProjRefIdeal.τ).loc Cert.DnProjRefIdeal.main_arg0)
      ∧ r.2.mem ((c.tc : Thread Cert.DnProjRefIdeal.nD Cert.DnProjRefIdeal.τ).loc Cert.DnProjRefIdeal.main_arg1) = m ((c.tc : Thread Cert.DnProjRefIdeal.nD Cert.DnProjRefIdeal.τ).loc Cert.DnProjRefIdeal.main_arg1))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ r.2.sem = fun _ => 0)

def quiescent_FoxProjRefIdeal [hFoxProjRefIdeal : Cert.FoxProjRefIdeal.Facts] : Prop :=
  ∀ (m : (ℓ : Loc Cert.FoxProjRefIdeal.nD Cert.FoxProjRefIdeal.τ Cert.FoxProjRefIdeal.sig) → Buf (Elt Ideal) ℓ) (g : Dev Cert.FoxProjRefIdeal.nD → PrngReg), Pre_FoxProjRefIdeal m →
    θ_run (Cert.FoxProjRefIdeal.defs (F := Ideal)) (onTc (τ := Cert.FoxProjRefIdeal.τ) (Cert.FoxProjRefIdeal.main (F := Ideal))) ⟨m, fun _ => 0, g⟩ (fun r => (∀ c : Dev Cert.FoxProjRefIdeal.nD,
      r.2.mem ((c.tc : Thread Cert.FoxProjRefIdeal.nD Cert.FoxProjRefIdeal.τ).loc Cert.FoxProjRefIdeal.main_arg0) = m ((c.tc : Thread Cert.FoxProjRefIdeal.nD Cert.FoxProjRefIdeal.τ).loc Cert.FoxProjRefIdeal.main_arg0)
      ∧ r.2.mem ((c.tc : Thread Cert.FoxProjRefIdeal.nD Cert.FoxProjRefIdeal.τ).loc Cert.FoxProjRefIdeal.main_arg1) = m ((c.tc : Thread Cert.FoxProjRefIdeal.nD Cert.FoxProjRefIdeal.τ).loc Cert.FoxProjRefIdeal.main_arg1))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_KeyNorm [hKeyNorm : Cert.KeyNorm.Facts] : Prop :=
  ∀ (m : (ℓ : Loc Cert.KeyNorm.nD Cert.KeyNorm.τ Cert.KeyNorm.sig) → Buf (Elt Bits) ℓ) (g : Dev Cert.KeyNorm.nD → PrngReg), Pre_KeyNorm m →
    θ_run (Cert.KeyNorm.defs (F := Bits)) (onTc (τ := Cert.KeyNorm.τ) (Cert.KeyNorm.main (F := Bits))) ⟨m, fun _ => 0, g⟩ (fun r => (∀ c : Dev Cert.KeyNorm.nD,
      r.2.mem ((c.tc : Thread Cert.KeyNorm.nD Cert.KeyNorm.τ).loc Cert.KeyNorm.main_arg0) = m ((c.tc : Thread Cert.KeyNorm.nD Cert.KeyNorm.τ).loc Cert.KeyNorm.main_arg0)
      ∧ r.2.mem ((c.tc : Thread Cert.KeyNorm.nD Cert.KeyNorm.τ).loc Cert.KeyNorm.main_arg1) = m ((c.tc : Thread Cert.KeyNorm.nD Cert.KeyNorm.τ).loc Cert.KeyNorm.main_arg1))
      ∧ r.2.sem = fun _ => 0)

def quiescent_KeyNormIdeal [hKeyNormIdeal : Cert.KeyNormIdeal.Facts] : Prop :=
  ∀ (m : (ℓ : Loc Cert.KeyNormIdeal.nD Cert.KeyNormIdeal.τ Cert.KeyNormIdeal.sig) → Buf (Elt Ideal) ℓ) (g : Dev Cert.KeyNormIdeal.nD → PrngReg), Pre_KeyNormIdeal m →
    θ_run (Cert.KeyNormIdeal.defs (F := Ideal)) (onTc (τ := Cert.KeyNormIdeal.τ) (Cert.KeyNormIdeal.main (F := Ideal))) ⟨m, fun _ => 0, g⟩ (fun r => (∀ c : Dev Cert.KeyNormIdeal.nD,
      r.2.mem ((c.tc : Thread Cert.KeyNormIdeal.nD Cert.KeyNormIdeal.τ).loc Cert.KeyNormIdeal.main_arg0) = m ((c.tc : Thread Cert.KeyNormIdeal.nD Cert.KeyNormIdeal.τ).loc Cert.KeyNormIdeal.main_arg0)
      ∧ r.2.mem ((c.tc : Thread Cert.KeyNormIdeal.nD Cert.KeyNormIdeal.τ).loc Cert.KeyNormIdeal.main_arg1) = m ((c.tc : Thread Cert.KeyNormIdeal.nD Cert.KeyNormIdeal.τ).loc Cert.KeyNormIdeal.main_arg1))
      ∧ r.2.sem = fun _ => 0)

def quiescent_KeyNormRefIdeal [hKeyNormRefIdeal : Cert.KeyNormRefIdeal.Facts] : Prop :=
  ∀ (m : (ℓ : Loc Cert.KeyNormRefIdeal.nD Cert.KeyNormRefIdeal.τ Cert.KeyNormRefIdeal.sig) → Buf (Elt Ideal) ℓ) (g : Dev Cert.KeyNormRefIdeal.nD → PrngReg), Pre_KeyNormRefIdeal m →
    θ_run (Cert.KeyNormRefIdeal.defs (F := Ideal)) (onTc (τ := Cert.KeyNormRefIdeal.τ) (Cert.KeyNormRefIdeal.main (F := Ideal))) ⟨m, fun _ => 0, g⟩ (fun r => (∀ c : Dev Cert.KeyNormRefIdeal.nD,
      r.2.mem ((c.tc : Thread Cert.KeyNormRefIdeal.nD Cert.KeyNormRefIdeal.τ).loc Cert.KeyNormRefIdeal.main_arg0) = m ((c.tc : Thread Cert.KeyNormRefIdeal.nD Cert.KeyNormRefIdeal.τ).loc Cert.KeyNormRefIdeal.main_arg0)
      ∧ r.2.mem ((c.tc : Thread Cert.KeyNormRefIdeal.nD Cert.KeyNormRefIdeal.τ).loc Cert.KeyNormRefIdeal.main_arg1) = m ((c.tc : Thread Cert.KeyNormRefIdeal.nD Cert.KeyNormRefIdeal.τ).loc Cert.KeyNormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_DnProjS [hDnProjS : Cert.DnProjS.Facts] : Prop :=
  ∀ (m : (ℓ : Loc Cert.DnProjS.nD Cert.DnProjS.τ Cert.DnProjS.sig) → Buf (Elt Bits) ℓ) (g : Dev Cert.DnProjS.nD → PrngReg), Pre_DnProjS m →
    θ_run (Cert.DnProjS.defs (F := Bits)) (onTc (τ := Cert.DnProjS.τ) (Cert.DnProjS.main (F := Bits))) ⟨m, fun _ => 0, g⟩ (fun r => (∀ c : Dev Cert.DnProjS.nD,
      r.2.mem ((c.tc : Thread Cert.DnProjS.nD Cert.DnProjS.τ).loc Cert.DnProjS.main_arg0) = m ((c.tc : Thread Cert.DnProjS.nD Cert.DnProjS.τ).loc Cert.DnProjS.main_arg0)
      ∧ r.2.mem ((c.tc : Thread Cert.DnProjS.nD Cert.DnProjS.τ).loc Cert.DnProjS.main_arg1) = m ((c.tc : Thread Cert.DnProjS.nD Cert.DnProjS.τ).loc Cert.DnProjS.main_arg1))
      ∧ r.2.sem = fun _ => 0)

def quiescent_DnProjSIdeal [hDnProjSIdeal : Cert.DnProjSIdeal.Facts] : Prop :=
  ∀ (m : (ℓ : Loc Cert.DnProjSIdeal.nD Cert.DnProjSIdeal.τ Cert.DnProjSIdeal.sig) → Buf (Elt Ideal) ℓ) (g : Dev Cert.DnProjSIdeal.nD → PrngReg), Pre_DnProjSIdeal m →
    θ_run (Cert.DnProjSIdeal.defs (F := Ideal)) (onTc (τ := Cert.DnProjSIdeal.τ) (Cert.DnProjSIdeal.main (F := Ideal))) ⟨m, fun _ => 0, g⟩ (fun r => (∀ c : Dev Cert.DnProjSIdeal.nD,
      r.2.mem ((c.tc : Thread Cert.DnProjSIdeal.nD Cert.DnProjSIdeal.τ).loc Cert.DnProjSIdeal.main_arg0) = m ((c.tc : Thread Cert.DnProjSIdeal.nD Cert.DnProjSIdeal.τ).loc Cert.DnProjSIdeal.main_arg0)
      ∧ r.2.mem ((c.tc : Thread Cert.DnProjSIdeal.nD Cert.DnProjSIdeal.τ).loc Cert.DnProjSIdeal.main_arg1) = m ((c.tc : Thread Cert.DnProjSIdeal.nD Cert.DnProjSIdeal.τ).loc Cert.DnProjSIdeal.main_arg1))
      ∧ r.2.sem = fun _ => 0)

def quiescent_DnProjSRefIdeal [hDnProjSRefIdeal : Cert.DnProjSRefIdeal.Facts] : Prop :=
  ∀ (m : (ℓ : Loc Cert.DnProjSRefIdeal.nD Cert.DnProjSRefIdeal.τ Cert.DnProjSRefIdeal.sig) → Buf (Elt Ideal) ℓ) (g : Dev Cert.DnProjSRefIdeal.nD → PrngReg), Pre_DnProjSRefIdeal m →
    θ_run (Cert.DnProjSRefIdeal.defs (F := Ideal)) (onTc (τ := Cert.DnProjSRefIdeal.τ) (Cert.DnProjSRefIdeal.main (F := Ideal))) ⟨m, fun _ => 0, g⟩ (fun r => (∀ c : Dev Cert.DnProjSRefIdeal.nD,
      r.2.mem ((c.tc : Thread Cert.DnProjSRefIdeal.nD Cert.DnProjSRefIdeal.τ).loc Cert.DnProjSRefIdeal.main_arg0) = m ((c.tc : Thread Cert.DnProjSRefIdeal.nD Cert.DnProjSRefIdeal.τ).loc Cert.DnProjSRefIdeal.main_arg0)
      ∧ r.2.mem ((c.tc : Thread Cert.DnProjSRefIdeal.nD Cert.DnProjSRefIdeal.τ).loc Cert.DnProjSRefIdeal.main_arg1) = m ((c.tc : Thread Cert.DnProjSRefIdeal.nD Cert.DnProjSRefIdeal.τ).loc Cert.DnProjSRefIdeal.main_arg1))
      ∧ r.2.sem = fun _ => 0)

def quiescent_FoxProjS [hFoxProjS : Cert.FoxProjS.Facts] : Prop :=
  ∀ (m : (ℓ : Loc Cert.FoxProjS.nD Cert.FoxProjS.τ Cert.FoxProjS.sig) → Buf (Elt Bits) ℓ) (g : Dev Cert.FoxProjS.nD → PrngReg), Pre_FoxProjS m →
    θ_run (Cert.FoxProjS.defs (F := Bits)) (onTc (τ := Cert.FoxProjS.τ) (Cert.FoxProjS.main (F := Bits))) ⟨m, fun _ => 0, g⟩ (fun r => (∀ c : Dev Cert.FoxProjS.nD,
      r.2.mem ((c.tc : Thread Cert.FoxProjS.nD Cert.FoxProjS.τ).loc Cert.FoxProjS.main_arg0) = m ((c.tc : Thread Cert.FoxProjS.nD Cert.FoxProjS.τ).loc Cert.FoxProjS.main_arg0)
      ∧ r.2.mem ((c.tc : Thread Cert.FoxProjS.nD Cert.FoxProjS.τ).loc Cert.FoxProjS.main_arg1) = m ((c.tc : Thread Cert.FoxProjS.nD Cert.FoxProjS.τ).loc Cert.FoxProjS.main_arg1))
      ∧ r.2.sem = fun _ => 0)

def quiescent_FoxProjSIdeal [hFoxProjSIdeal : Cert.FoxProjSIdeal.Facts] : Prop :=
  ∀ (m : (ℓ : Loc Cert.FoxProjSIdeal.nD Cert.FoxProjSIdeal.τ Cert.FoxProjSIdeal.sig) → Buf (Elt Ideal) ℓ) (g : Dev Cert.FoxProjSIdeal.nD → PrngReg), Pre_FoxProjSIdeal m →
    θ_run (Cert.FoxProjSIdeal.defs (F := Ideal)) (onTc (τ := Cert.FoxProjSIdeal.τ) (Cert.FoxProjSIdeal.main (F := Ideal))) ⟨m, fun _ => 0, g⟩ (fun r => (∀ c : Dev Cert.FoxProjSIdeal.nD,
      r.2.mem ((c.tc : Thread Cert.FoxProjSIdeal.nD Cert.FoxProjSIdeal.τ).loc Cert.FoxProjSIdeal.main_arg0) = m ((c.tc : Thread Cert.FoxProjSIdeal.nD Cert.FoxProjSIdeal.τ).loc Cert.FoxProjSIdeal.main_arg0)
      ∧ r.2.mem ((c.tc : Thread Cert.FoxProjSIdeal.nD Cert.FoxProjSIdeal.τ).loc Cert.FoxProjSIdeal.main_arg1) = m ((c.tc : Thread Cert.FoxProjSIdeal.nD Cert.FoxProjSIdeal.τ).loc Cert.FoxProjSIdeal.main_arg1))
      ∧ r.2.sem = fun _ => 0)

def quiescent_FoxProjSRefIdeal [hFoxProjSRefIdeal : Cert.FoxProjSRefIdeal.Facts] : Prop :=
  ∀ (m : (ℓ : Loc Cert.FoxProjSRefIdeal.nD Cert.FoxProjSRefIdeal.τ Cert.FoxProjSRefIdeal.sig) → Buf (Elt Ideal) ℓ) (g : Dev Cert.FoxProjSRefIdeal.nD → PrngReg), Pre_FoxProjSRefIdeal m →
    θ_run (Cert.FoxProjSRefIdeal.defs (F := Ideal)) (onTc (τ := Cert.FoxProjSRefIdeal.τ) (Cert.FoxProjSRefIdeal.main (F := Ideal))) ⟨m, fun _ => 0, g⟩ (fun r => (∀ c : Dev Cert.FoxProjSRefIdeal.nD,
      r.2.mem ((c.tc : Thread Cert.FoxProjSRefIdeal.nD Cert.FoxProjSRefIdeal.τ).loc Cert.FoxProjSRefIdeal.main_arg0) = m ((c.tc : Thread Cert.FoxProjSRefIdeal.nD Cert.FoxProjSRefIdeal.τ).loc Cert.FoxProjSRefIdeal.main_arg0)
      ∧ r.2.mem ((c.tc : Thread Cert.FoxProjSRefIdeal.nD Cert.FoxProjSRefIdeal.τ).loc Cert.FoxProjSRefIdeal.main_arg1) = m ((c.tc : Thread Cert.FoxProjSRefIdeal.nD Cert.FoxProjSRefIdeal.τ).loc Cert.FoxProjSRefIdeal.main_arg1))
      ∧ r.2.sem = fun _ => 0)

def quiescent_KeyNormS [hKeyNormS : Cert.KeyNormS.Facts] : Prop :=
  ∀ (m : (ℓ : Loc Cert.KeyNormS.nD Cert.KeyNormS.τ Cert.KeyNormS.sig) → Buf (Elt Bits) ℓ) (g : Dev Cert.KeyNormS.nD → PrngReg), Pre_KeyNormS m →
    θ_run (Cert.KeyNormS.defs (F := Bits)) (onTc (τ := Cert.KeyNormS.τ) (Cert.KeyNormS.main (F := Bits))) ⟨m, fun _ => 0, g⟩ (fun r => (∀ c : Dev Cert.KeyNormS.nD,
      r.2.mem ((c.tc : Thread Cert.KeyNormS.nD Cert.KeyNormS.τ).loc Cert.KeyNormS.main_arg0) = m ((c.tc : Thread Cert.KeyNormS.nD Cert.KeyNormS.τ).loc Cert.KeyNormS.main_arg0)
      ∧ r.2.mem ((c.tc : Thread Cert.KeyNormS.nD Cert.KeyNormS.τ).loc Cert.KeyNormS.main_arg1) = m ((c.tc : Thread Cert.KeyNormS.nD Cert.KeyNormS.τ).loc Cert.KeyNormS.main_arg1))
      ∧ r.2.sem = fun _ => 0)

def quiescent_KeyNormSIdeal [hKeyNormSIdeal : Cert.KeyNormSIdeal.Facts] : Prop :=
  ∀ (m : (ℓ : Loc Cert.KeyNormSIdeal.nD Cert.KeyNormSIdeal.τ Cert.KeyNormSIdeal.sig) → Buf (Elt Ideal) ℓ) (g : Dev Cert.KeyNormSIdeal.nD → PrngReg), Pre_KeyNormSIdeal m →
    θ_run (Cert.KeyNormSIdeal.defs (F := Ideal)) (onTc (τ := Cert.KeyNormSIdeal.τ) (Cert.KeyNormSIdeal.main (F := Ideal))) ⟨m, fun _ => 0, g⟩ (fun r => (∀ c : Dev Cert.KeyNormSIdeal.nD,
      r.2.mem ((c.tc : Thread Cert.KeyNormSIdeal.nD Cert.KeyNormSIdeal.τ).loc Cert.KeyNormSIdeal.main_arg0) = m ((c.tc : Thread Cert.KeyNormSIdeal.nD Cert.KeyNormSIdeal.τ).loc Cert.KeyNormSIdeal.main_arg0)
      ∧ r.2.mem ((c.tc : Thread Cert.KeyNormSIdeal.nD Cert.KeyNormSIdeal.τ).loc Cert.KeyNormSIdeal.main_arg1) = m ((c.tc : Thread Cert.KeyNormSIdeal.nD Cert.KeyNormSIdeal.τ).loc Cert.KeyNormSIdeal.main_arg1))
      ∧ r.2.sem = fun _ => 0)

def quiescent_KeyNormSRefIdeal [hKeyNormSRefIdeal : Cert.KeyNormSRefIdeal.Facts] : Prop :=
  ∀ (m : (ℓ : Loc Cert.KeyNormSRefIdeal.nD Cert.KeyNormSRefIdeal.τ Cert.KeyNormSRefIdeal.sig) → Buf (Elt Ideal) ℓ) (g : Dev Cert.KeyNormSRefIdeal.nD → PrngReg), Pre_KeyNormSRefIdeal m →
    θ_run (Cert.KeyNormSRefIdeal.defs (F := Ideal)) (onTc (τ := Cert.KeyNormSRefIdeal.τ) (Cert.KeyNormSRefIdeal.main (F := Ideal))) ⟨m, fun _ => 0, g⟩ (fun r => (∀ c : Dev Cert.KeyNormSRefIdeal.nD,
      r.2.mem ((c.tc : Thread Cert.KeyNormSRefIdeal.nD Cert.KeyNormSRefIdeal.τ).loc Cert.KeyNormSRefIdeal.main_arg0) = m ((c.tc : Thread Cert.KeyNormSRefIdeal.nD Cert.KeyNormSRefIdeal.τ).loc Cert.KeyNormSRefIdeal.main_arg0)
      ∧ r.2.mem ((c.tc : Thread Cert.KeyNormSRefIdeal.nD Cert.KeyNormSRefIdeal.τ).loc Cert.KeyNormSRefIdeal.main_arg1) = m ((c.tc : Thread Cert.KeyNormSRefIdeal.nD Cert.KeyNormSRefIdeal.τ).loc Cert.KeyNormSRefIdeal.main_arg1))
      ∧ r.2.sem = fun _ => 0)

def quiescent_GatesS [hGatesS : Cert.GatesS.Facts] : Prop :=
  ∀ (m : (ℓ : Loc Cert.GatesS.nD Cert.GatesS.τ Cert.GatesS.sig) → Buf (Elt Bits) ℓ) (g : Dev Cert.GatesS.nD → PrngReg), Pre_GatesS m →
    θ_run (Cert.GatesS.defs (F := Bits)) (onTc (τ := Cert.GatesS.τ) (Cert.GatesS.main (F := Bits))) ⟨m, fun _ => 0, g⟩ (fun r => (∀ c : Dev Cert.GatesS.nD,
      r.2.mem ((c.tc : Thread Cert.GatesS.nD Cert.GatesS.τ).loc Cert.GatesS.main_arg0) = m ((c.tc : Thread Cert.GatesS.nD Cert.GatesS.τ).loc Cert.GatesS.main_arg0)
      ∧ r.2.mem ((c.tc : Thread Cert.GatesS.nD Cert.GatesS.τ).loc Cert.GatesS.main_arg1) = m ((c.tc : Thread Cert.GatesS.nD Cert.GatesS.τ).loc Cert.GatesS.main_arg1)
      ∧ r.2.mem ((c.tc : Thread Cert.GatesS.nD Cert.GatesS.τ).loc Cert.GatesS.main_arg2) = m ((c.tc : Thread Cert.GatesS.nD Cert.GatesS.τ).loc Cert.GatesS.main_arg2)
      ∧ r.2.mem ((c.tc : Thread Cert.GatesS.nD Cert.GatesS.τ).loc Cert.GatesS.main_arg3) = m ((c.tc : Thread Cert.GatesS.nD Cert.GatesS.τ).loc Cert.GatesS.main_arg3))
      ∧ r.2.sem = fun _ => 0)

def quiescent_GatesSIdeal [hGatesSIdeal : Cert.GatesSIdeal.Facts] : Prop :=
  ∀ (m : (ℓ : Loc Cert.GatesSIdeal.nD Cert.GatesSIdeal.τ Cert.GatesSIdeal.sig) → Buf (Elt Ideal) ℓ) (g : Dev Cert.GatesSIdeal.nD → PrngReg), Pre_GatesSIdeal m →
    θ_run (Cert.GatesSIdeal.defs (F := Ideal)) (onTc (τ := Cert.GatesSIdeal.τ) (Cert.GatesSIdeal.main (F := Ideal))) ⟨m, fun _ => 0, g⟩ (fun r => (∀ c : Dev Cert.GatesSIdeal.nD,
      r.2.mem ((c.tc : Thread Cert.GatesSIdeal.nD Cert.GatesSIdeal.τ).loc Cert.GatesSIdeal.main_arg0) = m ((c.tc : Thread Cert.GatesSIdeal.nD Cert.GatesSIdeal.τ).loc Cert.GatesSIdeal.main_arg0)
      ∧ r.2.mem ((c.tc : Thread Cert.GatesSIdeal.nD Cert.GatesSIdeal.τ).loc Cert.GatesSIdeal.main_arg1) = m ((c.tc : Thread Cert.GatesSIdeal.nD Cert.GatesSIdeal.τ).loc Cert.GatesSIdeal.main_arg1)
      ∧ r.2.mem ((c.tc : Thread Cert.GatesSIdeal.nD Cert.GatesSIdeal.τ).loc Cert.GatesSIdeal.main_arg2) = m ((c.tc : Thread Cert.GatesSIdeal.nD Cert.GatesSIdeal.τ).loc Cert.GatesSIdeal.main_arg2)
      ∧ r.2.mem ((c.tc : Thread Cert.GatesSIdeal.nD Cert.GatesSIdeal.τ).loc Cert.GatesSIdeal.main_arg3) = m ((c.tc : Thread Cert.GatesSIdeal.nD Cert.GatesSIdeal.τ).loc Cert.GatesSIdeal.main_arg3))
      ∧ r.2.sem = fun _ => 0)

def quiescent_GatesSRefIdeal [hGatesSRefIdeal : Cert.GatesSRefIdeal.Facts] : Prop :=
  ∀ (m : (ℓ : Loc Cert.GatesSRefIdeal.nD Cert.GatesSRefIdeal.τ Cert.GatesSRefIdeal.sig) → Buf (Elt Ideal) ℓ) (g : Dev Cert.GatesSRefIdeal.nD → PrngReg), Pre_GatesSRefIdeal m →
    θ_run (Cert.GatesSRefIdeal.defs (F := Ideal)) (onTc (τ := Cert.GatesSRefIdeal.τ) (Cert.GatesSRefIdeal.main (F := Ideal))) ⟨m, fun _ => 0, g⟩ (fun r => (∀ c : Dev Cert.GatesSRefIdeal.nD,
      r.2.mem ((c.tc : Thread Cert.GatesSRefIdeal.nD Cert.GatesSRefIdeal.τ).loc Cert.GatesSRefIdeal.main_arg0) = m ((c.tc : Thread Cert.GatesSRefIdeal.nD Cert.GatesSRefIdeal.τ).loc Cert.GatesSRefIdeal.main_arg0)
      ∧ r.2.mem ((c.tc : Thread Cert.GatesSRefIdeal.nD Cert.GatesSRefIdeal.τ).loc Cert.GatesSRefIdeal.main_arg1) = m ((c.tc : Thread Cert.GatesSRefIdeal.nD Cert.GatesSRefIdeal.τ).loc Cert.GatesSRefIdeal.main_arg1)
      ∧ r.2.mem ((c.tc : Thread Cert.GatesSRefIdeal.nD Cert.GatesSRefIdeal.τ).loc Cert.GatesSRefIdeal.main_arg2) = m ((c.tc : Thread Cert.GatesSRefIdeal.nD Cert.GatesSRefIdeal.τ).loc Cert.GatesSRefIdeal.main_arg2)
      ∧ r.2.mem ((c.tc : Thread Cert.GatesSRefIdeal.nD Cert.GatesSRefIdeal.τ).loc Cert.GatesSRefIdeal.main_arg3) = m ((c.tc : Thread Cert.GatesSRefIdeal.nD Cert.GatesSRefIdeal.τ).loc Cert.GatesSRefIdeal.main_arg3))
      ∧ r.2.sem = fun _ => 0)

def quiescent_RowNorm [hRowNorm : Cert.RowNorm.Facts] : Prop :=
  ∀ (m : (ℓ : Loc Cert.RowNorm.nD Cert.RowNorm.τ Cert.RowNorm.sig) → Buf (Elt Bits) ℓ) (g : Dev Cert.RowNorm.nD → PrngReg), Pre_RowNorm m →
    θ_run (Cert.RowNorm.defs (F := Bits)) (onTc (τ := Cert.RowNorm.τ) (Cert.RowNorm.main (F := Bits))) ⟨m, fun _ => 0, g⟩ (fun r => (∀ c : Dev Cert.RowNorm.nD,
      r.2.mem ((c.tc : Thread Cert.RowNorm.nD Cert.RowNorm.τ).loc Cert.RowNorm.main_arg0) = m ((c.tc : Thread Cert.RowNorm.nD Cert.RowNorm.τ).loc Cert.RowNorm.main_arg0)
      ∧ r.2.mem ((c.tc : Thread Cert.RowNorm.nD Cert.RowNorm.τ).loc Cert.RowNorm.main_arg1) = m ((c.tc : Thread Cert.RowNorm.nD Cert.RowNorm.τ).loc Cert.RowNorm.main_arg1))
      ∧ r.2.sem = fun _ => 0)

def quiescent_RowNormIdeal [hRowNormIdeal : Cert.RowNormIdeal.Facts] : Prop :=
  ∀ (m : (ℓ : Loc Cert.RowNormIdeal.nD Cert.RowNormIdeal.τ Cert.RowNormIdeal.sig) → Buf (Elt Ideal) ℓ) (g : Dev Cert.RowNormIdeal.nD → PrngReg), Pre_RowNormIdeal m →
    θ_run (Cert.RowNormIdeal.defs (F := Ideal)) (onTc (τ := Cert.RowNormIdeal.τ) (Cert.RowNormIdeal.main (F := Ideal))) ⟨m, fun _ => 0, g⟩ (fun r => (∀ c : Dev Cert.RowNormIdeal.nD,
      r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
      ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ r.2.sem = fun _ => 0)

def quiescent_RowNormRefIdeal [hRowNormRefIdeal : Cert.RowNormRefIdeal.Facts] : Prop :=
  ∀ (m : (ℓ : Loc Cert.RowNormRefIdeal.nD Cert.RowNormRefIdeal.τ Cert.RowNormRefIdeal.sig) → Buf (Elt Ideal) ℓ) (g : Dev Cert.RowNormRefIdeal.nD → PrngReg), Pre_RowNormRefIdeal m →
    θ_run (Cert.RowNormRefIdeal.defs (F := Ideal)) (onTc (τ := Cert.RowNormRefIdeal.τ) (Cert.RowNormRefIdeal.main (F := Ideal))) ⟨m, fun _ => 0, g⟩ (fun r => (∀ c : Dev Cert.RowNormRefIdeal.nD,
      r.2.mem ((c.tc : Thread Cert.RowNormRefIdeal.nD Cert.RowNormRefIdeal.τ).loc Cert.RowNormRefIdeal.main_arg0) = m ((c.tc : Thread Cert.RowNormRefIdeal.nD Cert.RowNormRefIdeal.τ).loc Cert.RowNormRefIdeal.main_arg0)
      ∧ r.2.mem ((c.tc : Thread Cert.RowNormRefIdeal.nD Cert.RowNormRefIdeal.τ).loc Cert.RowNormRefIdeal.main_arg1) = m ((c.tc : Thread Cert.RowNormRefIdeal.nD Cert.RowNormRefIdeal.τ).loc Cert.RowNormRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DnProj_DnProjIdeal : Prop :=
  True

def algebraic_DnProjIdeal_DnProjRefIdeal [hDnProjIdeal : Cert.DnProjIdeal.Facts] [hDnProjRefIdeal : Cert.DnProjRefIdeal.Facts] : Prop :=
  ∀ (m : (ℓ : Loc Cert.DnProjIdeal.nD Cert.DnProjIdeal.τ Cert.DnProjIdeal.sig) → Buf (Elt Ideal) ℓ) (g : Dev Cert.DnProjIdeal.nD → PrngReg)
    (m' : (ℓ : Loc Cert.DnProjRefIdeal.nD Cert.DnProjRefIdeal.τ Cert.DnProjRefIdeal.sig) → Buf (Elt Ideal) ℓ) (g' : Dev Cert.DnProjRefIdeal.nD → PrngReg), Pre_DnProjIdeal m →
    (∀ c : Dev Cert.DnProjIdeal.nD,
      m' ((c.tc : Thread Cert.DnProjRefIdeal.nD Cert.DnProjRefIdeal.τ).loc Cert.DnProjRefIdeal.main_arg0) = m ((c.tc : Thread Cert.DnProjIdeal.nD Cert.DnProjIdeal.τ).loc Cert.DnProjIdeal.main_arg0)
      ∧ m' ((c.tc : Thread Cert.DnProjRefIdeal.nD Cert.DnProjRefIdeal.τ).loc Cert.DnProjRefIdeal.main_arg1) = m ((c.tc : Thread Cert.DnProjIdeal.nD Cert.DnProjIdeal.τ).loc Cert.DnProjIdeal.main_arg1)) →
    ∃ (v0 : (c : Dev Cert.DnProjIdeal.nD) → Buf (Elt Ideal) ((c.tc : Thread Cert.DnProjIdeal.nD Cert.DnProjIdeal.τ).loc Cert.DnProjIdeal.main_v6)),
      θ_run (Cert.DnProjIdeal.defs (F := Ideal)) (onTc (τ := Cert.DnProjIdeal.τ) (Cert.DnProjIdeal.main (F := Ideal))) ⟨m, fun _ => 0, g⟩ (fun r => ∀ c : Dev Cert.DnProjIdeal.nD,
          r.2.mem ((c.tc : Thread Cert.DnProjIdeal.nD Cert.DnProjIdeal.τ).loc Cert.DnProjIdeal.main_v6) = v0 c
          ∧ r.2.mem ((c.tc : Thread Cert.DnProjIdeal.nD Cert.DnProjIdeal.τ).loc Cert.DnProjIdeal.main_arg0) = m ((c.tc : Thread Cert.DnProjIdeal.nD Cert.DnProjIdeal.τ).loc Cert.DnProjIdeal.main_arg0)
          ∧ r.2.mem ((c.tc : Thread Cert.DnProjIdeal.nD Cert.DnProjIdeal.τ).loc Cert.DnProjIdeal.main_arg1) = m ((c.tc : Thread Cert.DnProjIdeal.nD Cert.DnProjIdeal.τ).loc Cert.DnProjIdeal.main_arg1))
      ∧ θ_run (Cert.DnProjRefIdeal.defs (F := Ideal)) (onTc (τ := Cert.DnProjRefIdeal.τ) (Cert.DnProjRefIdeal.main (F := Ideal))) ⟨m', fun _ => 0, g'⟩ (fun r => ∀ c : Dev Cert.DnProjRefIdeal.nD,
          r.2.mem ((c.tc : Thread Cert.DnProjRefIdeal.nD Cert.DnProjRefIdeal.τ).loc Cert.DnProjRefIdeal.main_v3) = v0 c
          ∧ r.2.mem ((c.tc : Thread Cert.DnProjRefIdeal.nD Cert.DnProjRefIdeal.τ).loc Cert.DnProjRefIdeal.main_arg0) = m' ((c.tc : Thread Cert.DnProjRefIdeal.nD Cert.DnProjRefIdeal.τ).loc Cert.DnProjRefIdeal.main_arg0)
          ∧ r.2.mem ((c.tc : Thread Cert.DnProjRefIdeal.nD Cert.DnProjRefIdeal.τ).loc Cert.DnProjRefIdeal.main_arg1) = m' ((c.tc : Thread Cert.DnProjRefIdeal.nD Cert.DnProjRefIdeal.τ).loc Cert.DnProjRefIdeal.main_arg1))

def preserves_FoxProj_FoxProjIdeal : Prop :=
  True

def algebraic_FoxProjIdeal_FoxProjRefIdeal [hFoxProjIdeal : Cert.FoxProjIdeal.Facts] [hFoxProjRefIdeal : Cert.FoxProjRefIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjRefIdeal.nD Cert.FoxProjRefIdeal.τ Cert.FoxProjRefIdeal.sig) → Buf (Elt Ideal) ℓ) (g' : Dev Cert.FoxProjRefIdeal.nD → PrngReg), Pre_FoxProjIdeal m →
    (∀ c : Dev Cert.FoxProjIdeal.nD,
      m' ((c.tc : Thread Cert.FoxProjRefIdeal.nD Cert.FoxProjRefIdeal.τ).loc Cert.FoxProjRefIdeal.main_arg0) = m ((c.tc : Thread Cert.FoxProjIdeal.nD Cert.FoxProjIdeal.τ).loc Cert.FoxProjIdeal.main_arg0)
      ∧ m' ((c.tc : Thread Cert.FoxProjRefIdeal.nD Cert.FoxProjRefIdeal.τ).loc Cert.FoxProjRefIdeal.main_arg1) = m ((c.tc : Thread Cert.FoxProjIdeal.nD Cert.FoxProjIdeal.τ).loc Cert.FoxProjIdeal.main_arg1)) →
    ∃ (v0 : (c : Dev Cert.FoxProjIdeal.nD) → Buf (Elt Ideal) ((c.tc : Thread Cert.FoxProjIdeal.nD Cert.FoxProjIdeal.τ).loc Cert.FoxProjIdeal.main_v6)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v6) = v0 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ θ_run (Cert.FoxProjRefIdeal.defs (F := Ideal)) (onTc (τ := Cert.FoxProjRefIdeal.τ) (Cert.FoxProjRefIdeal.main (F := Ideal))) ⟨m', fun _ => 0, g'⟩ (fun r => ∀ c : Dev Cert.FoxProjRefIdeal.nD,
          r.2.mem ((c.tc : Thread Cert.FoxProjRefIdeal.nD Cert.FoxProjRefIdeal.τ).loc Cert.FoxProjRefIdeal.main_v3) = v0 c
          ∧ r.2.mem ((c.tc : Thread Cert.FoxProjRefIdeal.nD Cert.FoxProjRefIdeal.τ).loc Cert.FoxProjRefIdeal.main_arg0) = m' ((c.tc : Thread Cert.FoxProjRefIdeal.nD Cert.FoxProjRefIdeal.τ).loc Cert.FoxProjRefIdeal.main_arg0)
          ∧ r.2.mem ((c.tc : Thread Cert.FoxProjRefIdeal.nD Cert.FoxProjRefIdeal.τ).loc Cert.FoxProjRefIdeal.main_arg1) = m' ((c.tc : Thread Cert.FoxProjRefIdeal.nD Cert.FoxProjRefIdeal.τ).loc Cert.FoxProjRefIdeal.main_arg1))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)) →
    ∃ (v0 : (c : Dev Cert.MemProjIdeal.nD) → Buf (Elt Ideal) ((c.tc : Thread Cert.MemProjIdeal.nD Cert.MemProjIdeal.τ).loc Cert.MemProjIdeal.main_v6)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v6) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v3) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v4)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_KeyNorm_KeyNormIdeal : Prop :=
  True

def algebraic_KeyNormIdeal_KeyNormRefIdeal [hKeyNormIdeal : Cert.KeyNormIdeal.Facts] [hKeyNormRefIdeal : Cert.KeyNormRefIdeal.Facts] : Prop :=
  ∀ (m : (ℓ : Loc Cert.KeyNormIdeal.nD Cert.KeyNormIdeal.τ Cert.KeyNormIdeal.sig) → Buf (Elt Ideal) ℓ) (g : Dev Cert.KeyNormIdeal.nD → PrngReg)
    (m' : (ℓ : Loc Cert.KeyNormRefIdeal.nD Cert.KeyNormRefIdeal.τ Cert.KeyNormRefIdeal.sig) → Buf (Elt Ideal) ℓ) (g' : Dev Cert.KeyNormRefIdeal.nD → PrngReg), Pre_KeyNormIdeal m →
    (∀ c : Dev Cert.KeyNormIdeal.nD,
      m' ((c.tc : Thread Cert.KeyNormRefIdeal.nD Cert.KeyNormRefIdeal.τ).loc Cert.KeyNormRefIdeal.main_arg0) = m ((c.tc : Thread Cert.KeyNormIdeal.nD Cert.KeyNormIdeal.τ).loc Cert.KeyNormIdeal.main_arg0)
      ∧ m' ((c.tc : Thread Cert.KeyNormRefIdeal.nD Cert.KeyNormRefIdeal.τ).loc Cert.KeyNormRefIdeal.main_arg1) = m ((c.tc : Thread Cert.KeyNormIdeal.nD Cert.KeyNormIdeal.τ).loc Cert.KeyNormIdeal.main_arg1)) →
    ∃ (v0 : (c : Dev Cert.KeyNormIdeal.nD) → Buf (Elt Ideal) ((c.tc : Thread Cert.KeyNormIdeal.nD Cert.KeyNormIdeal.τ).loc Cert.KeyNormIdeal.main_v3)),
      θ_run (Cert.KeyNormIdeal.defs (F := Ideal)) (onTc (τ := Cert.KeyNormIdeal.τ) (Cert.KeyNormIdeal.main (F := Ideal))) ⟨m, fun _ => 0, g⟩ (fun r => ∀ c : Dev Cert.KeyNormIdeal.nD,
          r.2.mem ((c.tc : Thread Cert.KeyNormIdeal.nD Cert.KeyNormIdeal.τ).loc Cert.KeyNormIdeal.main_v3) = v0 c
          ∧ r.2.mem ((c.tc : Thread Cert.KeyNormIdeal.nD Cert.KeyNormIdeal.τ).loc Cert.KeyNormIdeal.main_arg0) = m ((c.tc : Thread Cert.KeyNormIdeal.nD Cert.KeyNormIdeal.τ).loc Cert.KeyNormIdeal.main_arg0)
          ∧ r.2.mem ((c.tc : Thread Cert.KeyNormIdeal.nD Cert.KeyNormIdeal.τ).loc Cert.KeyNormIdeal.main_arg1) = m ((c.tc : Thread Cert.KeyNormIdeal.nD Cert.KeyNormIdeal.τ).loc Cert.KeyNormIdeal.main_arg1))
      ∧ θ_run (Cert.KeyNormRefIdeal.defs (F := Ideal)) (onTc (τ := Cert.KeyNormRefIdeal.τ) (Cert.KeyNormRefIdeal.main (F := Ideal))) ⟨m', fun _ => 0, g'⟩ (fun r => ∀ c : Dev Cert.KeyNormRefIdeal.nD,
          r.2.mem ((c.tc : Thread Cert.KeyNormRefIdeal.nD Cert.KeyNormRefIdeal.τ).loc Cert.KeyNormRefIdeal.main_v16) = v0 c
          ∧ r.2.mem ((c.tc : Thread Cert.KeyNormRefIdeal.nD Cert.KeyNormRefIdeal.τ).loc Cert.KeyNormRefIdeal.main_arg0) = m' ((c.tc : Thread Cert.KeyNormRefIdeal.nD Cert.KeyNormRefIdeal.τ).loc Cert.KeyNormRefIdeal.main_arg0)
          ∧ r.2.mem ((c.tc : Thread Cert.KeyNormRefIdeal.nD Cert.KeyNormRefIdeal.τ).loc Cert.KeyNormRefIdeal.main_arg1) = m' ((c.tc : Thread Cert.KeyNormRefIdeal.nD Cert.KeyNormRefIdeal.τ).loc Cert.KeyNormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v3)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v3) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v16) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v19)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v19) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v27) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_DnProjS_DnProjSIdeal : Prop :=
  True

def algebraic_DnProjSIdeal_DnProjSRefIdeal [hDnProjSIdeal : Cert.DnProjSIdeal.Facts] [hDnProjSRefIdeal : Cert.DnProjSRefIdeal.Facts] : Prop :=
  ∀ (m : (ℓ : Loc Cert.DnProjSIdeal.nD Cert.DnProjSIdeal.τ Cert.DnProjSIdeal.sig) → Buf (Elt Ideal) ℓ) (g : Dev Cert.DnProjSIdeal.nD → PrngReg)
    (m' : (ℓ : Loc Cert.DnProjSRefIdeal.nD Cert.DnProjSRefIdeal.τ Cert.DnProjSRefIdeal.sig) → Buf (Elt Ideal) ℓ) (g' : Dev Cert.DnProjSRefIdeal.nD → PrngReg), Pre_DnProjSIdeal m →
    (∀ c : Dev Cert.DnProjSIdeal.nD,
      m' ((c.tc : Thread Cert.DnProjSRefIdeal.nD Cert.DnProjSRefIdeal.τ).loc Cert.DnProjSRefIdeal.main_arg0) = m ((c.tc : Thread Cert.DnProjSIdeal.nD Cert.DnProjSIdeal.τ).loc Cert.DnProjSIdeal.main_arg0)
      ∧ m' ((c.tc : Thread Cert.DnProjSRefIdeal.nD Cert.DnProjSRefIdeal.τ).loc Cert.DnProjSRefIdeal.main_arg1) = m ((c.tc : Thread Cert.DnProjSIdeal.nD Cert.DnProjSIdeal.τ).loc Cert.DnProjSIdeal.main_arg1)) →
    ∃ (v0 : (c : Dev Cert.DnProjSIdeal.nD) → Buf (Elt Ideal) ((c.tc : Thread Cert.DnProjSIdeal.nD Cert.DnProjSIdeal.τ).loc Cert.DnProjSIdeal.main_v6)),
      θ_run (Cert.DnProjSIdeal.defs (F := Ideal)) (onTc (τ := Cert.DnProjSIdeal.τ) (Cert.DnProjSIdeal.main (F := Ideal))) ⟨m, fun _ => 0, g⟩ (fun r => ∀ c : Dev Cert.DnProjSIdeal.nD,
          r.2.mem ((c.tc : Thread Cert.DnProjSIdeal.nD Cert.DnProjSIdeal.τ).loc Cert.DnProjSIdeal.main_v6) = v0 c
          ∧ r.2.mem ((c.tc : Thread Cert.DnProjSIdeal.nD Cert.DnProjSIdeal.τ).loc Cert.DnProjSIdeal.main_arg0) = m ((c.tc : Thread Cert.DnProjSIdeal.nD Cert.DnProjSIdeal.τ).loc Cert.DnProjSIdeal.main_arg0)
          ∧ r.2.mem ((c.tc : Thread Cert.DnProjSIdeal.nD Cert.DnProjSIdeal.τ).loc Cert.DnProjSIdeal.main_arg1) = m ((c.tc : Thread Cert.DnProjSIdeal.nD Cert.DnProjSIdeal.τ).loc Cert.DnProjSIdeal.main_arg1))
      ∧ θ_run (Cert.DnProjSRefIdeal.defs (F := Ideal)) (onTc (τ := Cert.DnProjSRefIdeal.τ) (Cert.DnProjSRefIdeal.main (F := Ideal))) ⟨m', fun _ => 0, g'⟩ (fun r => ∀ c : Dev Cert.DnProjSRefIdeal.nD,
          r.2.mem ((c.tc : Thread Cert.DnProjSRefIdeal.nD Cert.DnProjSRefIdeal.τ).loc Cert.DnProjSRefIdeal.main_v3) = v0 c
          ∧ r.2.mem ((c.tc : Thread Cert.DnProjSRefIdeal.nD Cert.DnProjSRefIdeal.τ).loc Cert.DnProjSRefIdeal.main_arg0) = m' ((c.tc : Thread Cert.DnProjSRefIdeal.nD Cert.DnProjSRefIdeal.τ).loc Cert.DnProjSRefIdeal.main_arg0)
          ∧ r.2.mem ((c.tc : Thread Cert.DnProjSRefIdeal.nD Cert.DnProjSRefIdeal.τ).loc Cert.DnProjSRefIdeal.main_arg1) = m' ((c.tc : Thread Cert.DnProjSRefIdeal.nD Cert.DnProjSRefIdeal.τ).loc Cert.DnProjSRefIdeal.main_arg1))

def preserves_FoxProjS_FoxProjSIdeal : Prop :=
  True

def algebraic_FoxProjSIdeal_FoxProjSRefIdeal [hFoxProjSIdeal : Cert.FoxProjSIdeal.Facts] [hFoxProjSRefIdeal : Cert.FoxProjSRefIdeal.Facts] : Prop :=
  ∀ (m : (ℓ : Loc Cert.FoxProjSIdeal.nD Cert.FoxProjSIdeal.τ Cert.FoxProjSIdeal.sig) → Buf (Elt Ideal) ℓ) (g : Dev Cert.FoxProjSIdeal.nD → PrngReg)
    (m' : (ℓ : Loc Cert.FoxProjSRefIdeal.nD Cert.FoxProjSRefIdeal.τ Cert.FoxProjSRefIdeal.sig) → Buf (Elt Ideal) ℓ) (g' : Dev Cert.FoxProjSRefIdeal.nD → PrngReg), Pre_FoxProjSIdeal m →
    (∀ c : Dev Cert.FoxProjSIdeal.nD,
      m' ((c.tc : Thread Cert.FoxProjSRefIdeal.nD Cert.FoxProjSRefIdeal.τ).loc Cert.FoxProjSRefIdeal.main_arg0) = m ((c.tc : Thread Cert.FoxProjSIdeal.nD Cert.FoxProjSIdeal.τ).loc Cert.FoxProjSIdeal.main_arg0)
      ∧ m' ((c.tc : Thread Cert.FoxProjSRefIdeal.nD Cert.FoxProjSRefIdeal.τ).loc Cert.FoxProjSRefIdeal.main_arg1) = m ((c.tc : Thread Cert.FoxProjSIdeal.nD Cert.FoxProjSIdeal.τ).loc Cert.FoxProjSIdeal.main_arg1)) →
    ∃ (v0 : (c : Dev Cert.FoxProjSIdeal.nD) → Buf (Elt Ideal) ((c.tc : Thread Cert.FoxProjSIdeal.nD Cert.FoxProjSIdeal.τ).loc Cert.FoxProjSIdeal.main_v6)),
      θ_run (Cert.FoxProjSIdeal.defs (F := Ideal)) (onTc (τ := Cert.FoxProjSIdeal.τ) (Cert.FoxProjSIdeal.main (F := Ideal))) ⟨m, fun _ => 0, g⟩ (fun r => ∀ c : Dev Cert.FoxProjSIdeal.nD,
          r.2.mem ((c.tc : Thread Cert.FoxProjSIdeal.nD Cert.FoxProjSIdeal.τ).loc Cert.FoxProjSIdeal.main_v6) = v0 c
          ∧ r.2.mem ((c.tc : Thread Cert.FoxProjSIdeal.nD Cert.FoxProjSIdeal.τ).loc Cert.FoxProjSIdeal.main_arg0) = m ((c.tc : Thread Cert.FoxProjSIdeal.nD Cert.FoxProjSIdeal.τ).loc Cert.FoxProjSIdeal.main_arg0)
          ∧ r.2.mem ((c.tc : Thread Cert.FoxProjSIdeal.nD Cert.FoxProjSIdeal.τ).loc Cert.FoxProjSIdeal.main_arg1) = m ((c.tc : Thread Cert.FoxProjSIdeal.nD Cert.FoxProjSIdeal.τ).loc Cert.FoxProjSIdeal.main_arg1))
      ∧ θ_run (Cert.FoxProjSRefIdeal.defs (F := Ideal)) (onTc (τ := Cert.FoxProjSRefIdeal.τ) (Cert.FoxProjSRefIdeal.main (F := Ideal))) ⟨m', fun _ => 0, g'⟩ (fun r => ∀ c : Dev Cert.FoxProjSRefIdeal.nD,
          r.2.mem ((c.tc : Thread Cert.FoxProjSRefIdeal.nD Cert.FoxProjSRefIdeal.τ).loc Cert.FoxProjSRefIdeal.main_v3) = v0 c
          ∧ r.2.mem ((c.tc : Thread Cert.FoxProjSRefIdeal.nD Cert.FoxProjSRefIdeal.τ).loc Cert.FoxProjSRefIdeal.main_arg0) = m' ((c.tc : Thread Cert.FoxProjSRefIdeal.nD Cert.FoxProjSRefIdeal.τ).loc Cert.FoxProjSRefIdeal.main_arg0)
          ∧ r.2.mem ((c.tc : Thread Cert.FoxProjSRefIdeal.nD Cert.FoxProjSRefIdeal.τ).loc Cert.FoxProjSRefIdeal.main_arg1) = m' ((c.tc : Thread Cert.FoxProjSRefIdeal.nD Cert.FoxProjSRefIdeal.τ).loc Cert.FoxProjSRefIdeal.main_arg1))

def preserves_KeyNormS_KeyNormSIdeal : Prop :=
  True

def algebraic_KeyNormSIdeal_KeyNormSRefIdeal [hKeyNormSIdeal : Cert.KeyNormSIdeal.Facts] [hKeyNormSRefIdeal : Cert.KeyNormSRefIdeal.Facts] : Prop :=
  ∀ (m : (ℓ : Loc Cert.KeyNormSIdeal.nD Cert.KeyNormSIdeal.τ Cert.KeyNormSIdeal.sig) → Buf (Elt Ideal) ℓ) (g : Dev Cert.KeyNormSIdeal.nD → PrngReg)
    (m' : (ℓ : Loc Cert.KeyNormSRefIdeal.nD Cert.KeyNormSRefIdeal.τ Cert.KeyNormSRefIdeal.sig) → Buf (Elt Ideal) ℓ) (g' : Dev Cert.KeyNormSRefIdeal.nD → PrngReg), Pre_KeyNormSIdeal m →
    (∀ c : Dev Cert.KeyNormSIdeal.nD,
      m' ((c.tc : Thread Cert.KeyNormSRefIdeal.nD Cert.KeyNormSRefIdeal.τ).loc Cert.KeyNormSRefIdeal.main_arg0) = m ((c.tc : Thread Cert.KeyNormSIdeal.nD Cert.KeyNormSIdeal.τ).loc Cert.KeyNormSIdeal.main_arg0)
      ∧ m' ((c.tc : Thread Cert.KeyNormSRefIdeal.nD Cert.KeyNormSRefIdeal.τ).loc Cert.KeyNormSRefIdeal.main_arg1) = m ((c.tc : Thread Cert.KeyNormSIdeal.nD Cert.KeyNormSIdeal.τ).loc Cert.KeyNormSIdeal.main_arg1)) →
    ∃ (v0 : (c : Dev Cert.KeyNormSIdeal.nD) → Buf (Elt Ideal) ((c.tc : Thread Cert.KeyNormSIdeal.nD Cert.KeyNormSIdeal.τ).loc Cert.KeyNormSIdeal.main_v3)),
      θ_run (Cert.KeyNormSIdeal.defs (F := Ideal)) (onTc (τ := Cert.KeyNormSIdeal.τ) (Cert.KeyNormSIdeal.main (F := Ideal))) ⟨m, fun _ => 0, g⟩ (fun r => ∀ c : Dev Cert.KeyNormSIdeal.nD,
          r.2.mem ((c.tc : Thread Cert.KeyNormSIdeal.nD Cert.KeyNormSIdeal.τ).loc Cert.KeyNormSIdeal.main_v3) = v0 c
          ∧ r.2.mem ((c.tc : Thread Cert.KeyNormSIdeal.nD Cert.KeyNormSIdeal.τ).loc Cert.KeyNormSIdeal.main_arg0) = m ((c.tc : Thread Cert.KeyNormSIdeal.nD Cert.KeyNormSIdeal.τ).loc Cert.KeyNormSIdeal.main_arg0)
          ∧ r.2.mem ((c.tc : Thread Cert.KeyNormSIdeal.nD Cert.KeyNormSIdeal.τ).loc Cert.KeyNormSIdeal.main_arg1) = m ((c.tc : Thread Cert.KeyNormSIdeal.nD Cert.KeyNormSIdeal.τ).loc Cert.KeyNormSIdeal.main_arg1))
      ∧ θ_run (Cert.KeyNormSRefIdeal.defs (F := Ideal)) (onTc (τ := Cert.KeyNormSRefIdeal.τ) (Cert.KeyNormSRefIdeal.main (F := Ideal))) ⟨m', fun _ => 0, g'⟩ (fun r => ∀ c : Dev Cert.KeyNormSRefIdeal.nD,
          r.2.mem ((c.tc : Thread Cert.KeyNormSRefIdeal.nD Cert.KeyNormSRefIdeal.τ).loc Cert.KeyNormSRefIdeal.main_v16) = v0 c
          ∧ r.2.mem ((c.tc : Thread Cert.KeyNormSRefIdeal.nD Cert.KeyNormSRefIdeal.τ).loc Cert.KeyNormSRefIdeal.main_arg0) = m' ((c.tc : Thread Cert.KeyNormSRefIdeal.nD Cert.KeyNormSRefIdeal.τ).loc Cert.KeyNormSRefIdeal.main_arg0)
          ∧ r.2.mem ((c.tc : Thread Cert.KeyNormSRefIdeal.nD Cert.KeyNormSRefIdeal.τ).loc Cert.KeyNormSRefIdeal.main_arg1) = m' ((c.tc : Thread Cert.KeyNormSRefIdeal.nD Cert.KeyNormSRefIdeal.τ).loc Cert.KeyNormSRefIdeal.main_arg1))

def preserves_GatesS_GatesSIdeal : Prop :=
  True

def algebraic_GatesSIdeal_GatesSRefIdeal [hGatesSIdeal : Cert.GatesSIdeal.Facts] [hGatesSRefIdeal : Cert.GatesSRefIdeal.Facts] : Prop :=
  ∀ (m : (ℓ : Loc Cert.GatesSIdeal.nD Cert.GatesSIdeal.τ Cert.GatesSIdeal.sig) → Buf (Elt Ideal) ℓ) (g : Dev Cert.GatesSIdeal.nD → PrngReg)
    (m' : (ℓ : Loc Cert.GatesSRefIdeal.nD Cert.GatesSRefIdeal.τ Cert.GatesSRefIdeal.sig) → Buf (Elt Ideal) ℓ) (g' : Dev Cert.GatesSRefIdeal.nD → PrngReg), Pre_GatesSIdeal m →
    (∀ c : Dev Cert.GatesSIdeal.nD,
      m' ((c.tc : Thread Cert.GatesSRefIdeal.nD Cert.GatesSRefIdeal.τ).loc Cert.GatesSRefIdeal.main_arg0) = m ((c.tc : Thread Cert.GatesSIdeal.nD Cert.GatesSIdeal.τ).loc Cert.GatesSIdeal.main_arg0)
      ∧ m' ((c.tc : Thread Cert.GatesSRefIdeal.nD Cert.GatesSRefIdeal.τ).loc Cert.GatesSRefIdeal.main_arg1) = m ((c.tc : Thread Cert.GatesSIdeal.nD Cert.GatesSIdeal.τ).loc Cert.GatesSIdeal.main_arg1)
      ∧ m' ((c.tc : Thread Cert.GatesSRefIdeal.nD Cert.GatesSRefIdeal.τ).loc Cert.GatesSRefIdeal.main_arg2) = m ((c.tc : Thread Cert.GatesSIdeal.nD Cert.GatesSIdeal.τ).loc Cert.GatesSIdeal.main_arg2)
      ∧ m' ((c.tc : Thread Cert.GatesSRefIdeal.nD Cert.GatesSRefIdeal.τ).loc Cert.GatesSRefIdeal.main_arg3) = m ((c.tc : Thread Cert.GatesSIdeal.nD Cert.GatesSIdeal.τ).loc Cert.GatesSIdeal.main_arg3)) →
    ∃ (v0 : (c : Dev Cert.GatesSIdeal.nD) → Buf (Elt Ideal) ((c.tc : Thread Cert.GatesSIdeal.nD Cert.GatesSIdeal.τ).loc Cert.GatesSIdeal.main_v19)),
      θ_run (Cert.GatesSIdeal.defs (F := Ideal)) (onTc (τ := Cert.GatesSIdeal.τ) (Cert.GatesSIdeal.main (F := Ideal))) ⟨m, fun _ => 0, g⟩ (fun r => ∀ c : Dev Cert.GatesSIdeal.nD,
          r.2.mem ((c.tc : Thread Cert.GatesSIdeal.nD Cert.GatesSIdeal.τ).loc Cert.GatesSIdeal.main_v19) = v0 c
          ∧ r.2.mem ((c.tc : Thread Cert.GatesSIdeal.nD Cert.GatesSIdeal.τ).loc Cert.GatesSIdeal.main_arg0) = m ((c.tc : Thread Cert.GatesSIdeal.nD Cert.GatesSIdeal.τ).loc Cert.GatesSIdeal.main_arg0)
          ∧ r.2.mem ((c.tc : Thread Cert.GatesSIdeal.nD Cert.GatesSIdeal.τ).loc Cert.GatesSIdeal.main_arg1) = m ((c.tc : Thread Cert.GatesSIdeal.nD Cert.GatesSIdeal.τ).loc Cert.GatesSIdeal.main_arg1)
          ∧ r.2.mem ((c.tc : Thread Cert.GatesSIdeal.nD Cert.GatesSIdeal.τ).loc Cert.GatesSIdeal.main_arg2) = m ((c.tc : Thread Cert.GatesSIdeal.nD Cert.GatesSIdeal.τ).loc Cert.GatesSIdeal.main_arg2)
          ∧ r.2.mem ((c.tc : Thread Cert.GatesSIdeal.nD Cert.GatesSIdeal.τ).loc Cert.GatesSIdeal.main_arg3) = m ((c.tc : Thread Cert.GatesSIdeal.nD Cert.GatesSIdeal.τ).loc Cert.GatesSIdeal.main_arg3))
      ∧ θ_run (Cert.GatesSRefIdeal.defs (F := Ideal)) (onTc (τ := Cert.GatesSRefIdeal.τ) (Cert.GatesSRefIdeal.main (F := Ideal))) ⟨m', fun _ => 0, g'⟩ (fun r => ∀ c : Dev Cert.GatesSRefIdeal.nD,
          r.2.mem ((c.tc : Thread Cert.GatesSRefIdeal.nD Cert.GatesSRefIdeal.τ).loc Cert.GatesSRefIdeal.main_v27) = v0 c
          ∧ r.2.mem ((c.tc : Thread Cert.GatesSRefIdeal.nD Cert.GatesSRefIdeal.τ).loc Cert.GatesSRefIdeal.main_arg0) = m' ((c.tc : Thread Cert.GatesSRefIdeal.nD Cert.GatesSRefIdeal.τ).loc Cert.GatesSRefIdeal.main_arg0)
          ∧ r.2.mem ((c.tc : Thread Cert.GatesSRefIdeal.nD Cert.GatesSRefIdeal.τ).loc Cert.GatesSRefIdeal.main_arg1) = m' ((c.tc : Thread Cert.GatesSRefIdeal.nD Cert.GatesSRefIdeal.τ).loc Cert.GatesSRefIdeal.main_arg1)
          ∧ r.2.mem ((c.tc : Thread Cert.GatesSRefIdeal.nD Cert.GatesSRefIdeal.τ).loc Cert.GatesSRefIdeal.main_arg2) = m' ((c.tc : Thread Cert.GatesSRefIdeal.nD Cert.GatesSRefIdeal.τ).loc Cert.GatesSRefIdeal.main_arg2)
          ∧ r.2.mem ((c.tc : Thread Cert.GatesSRefIdeal.nD Cert.GatesSRefIdeal.τ).loc Cert.GatesSRefIdeal.main_arg3) = m' ((c.tc : Thread Cert.GatesSRefIdeal.nD Cert.GatesSRefIdeal.τ).loc Cert.GatesSRefIdeal.main_arg3))

def preserves_RowNorm_RowNormIdeal : Prop :=
  True

def algebraic_RowNormIdeal_RowNormRefIdeal [hRowNormIdeal : Cert.RowNormIdeal.Facts] [hRowNormRefIdeal : Cert.RowNormRefIdeal.Facts] : Prop :=
  ∀ (m : (ℓ : Loc Cert.RowNormIdeal.nD Cert.RowNormIdeal.τ Cert.RowNormIdeal.sig) → Buf (Elt Ideal) ℓ) (g : Dev Cert.RowNormIdeal.nD → PrngReg)
    (m' : (ℓ : Loc Cert.RowNormRefIdeal.nD Cert.RowNormRefIdeal.τ Cert.RowNormRefIdeal.sig) → Buf (Elt Ideal) ℓ) (g' : Dev Cert.RowNormRefIdeal.nD → PrngReg), Pre_RowNormIdeal m →
    (∀ c : Dev Cert.RowNormIdeal.nD,
      m' ((c.tc : Thread Cert.RowNormRefIdeal.nD Cert.RowNormRefIdeal.τ).loc Cert.RowNormRefIdeal.main_arg0) = m ((c.tc : Thread Cert.RowNormIdeal.nD Cert.RowNormIdeal.τ).loc Cert.RowNormIdeal.main_arg0)
      ∧ m' ((c.tc : Thread Cert.RowNormRefIdeal.nD Cert.RowNormRefIdeal.τ).loc Cert.RowNormRefIdeal.main_arg1) = m ((c.tc : Thread Cert.RowNormIdeal.nD Cert.RowNormIdeal.τ).loc Cert.RowNormIdeal.main_arg1)) →
    ∃ (v0 : (c : Dev Cert.RowNormIdeal.nD) → Buf (Elt Ideal) ((c.tc : Thread Cert.RowNormIdeal.nD Cert.RowNormIdeal.τ).loc Cert.RowNormIdeal.main_v3)),
      θ_run (Cert.RowNormIdeal.defs (F := Ideal)) (onTc (τ := Cert.RowNormIdeal.τ) (Cert.RowNormIdeal.main (F := Ideal))) ⟨m, fun _ => 0, g⟩ (fun r => ∀ c : Dev Cert.RowNormIdeal.nD,
          r.2.mem ((c.tc : Thread Cert.RowNormIdeal.nD Cert.RowNormIdeal.τ).loc Cert.RowNormIdeal.main_v3) = v0 c
          ∧ r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
          ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ θ_run (Cert.RowNormRefIdeal.defs (F := Ideal)) (onTc (τ := Cert.RowNormRefIdeal.τ) (Cert.RowNormRefIdeal.main (F := Ideal))) ⟨m', fun _ => 0, g'⟩ (fun r => ∀ c : Dev Cert.RowNormRefIdeal.nD,
          r.2.mem ((c.tc : Thread Cert.RowNormRefIdeal.nD Cert.RowNormRefIdeal.τ).loc Cert.RowNormRefIdeal.main_v15) = v0 c
          ∧ r.2.mem ((c.tc : Thread Cert.RowNormRefIdeal.nD Cert.RowNormRefIdeal.τ).loc Cert.RowNormRefIdeal.main_arg0) = m' ((c.tc : Thread Cert.RowNormRefIdeal.nD Cert.RowNormRefIdeal.τ).loc Cert.RowNormRefIdeal.main_arg0)
          ∧ r.2.mem ((c.tc : Thread Cert.RowNormRefIdeal.nD Cert.RowNormRefIdeal.τ).loc Cert.RowNormRefIdeal.main_arg1) = m' ((c.tc : Thread Cert.RowNormRefIdeal.nD Cert.RowNormRefIdeal.τ).loc Cert.RowNormRefIdeal.main_arg1))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v7)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v7) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v32) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3))

def Claim : Prop :=
  ∃ (hKernel : Cert.Kernel.Facts) (hKernelIdeal : Cert.KernelIdeal.Facts) (hReferenceIdeal : Cert.ReferenceIdeal.Facts) (hDnProj : Cert.DnProj.Facts) (hDnProjIdeal : Cert.DnProjIdeal.Facts) (hDnProjRefIdeal : Cert.DnProjRefIdeal.Facts) (hFoxProj : Cert.FoxProj.Facts) (hFoxProjIdeal : Cert.FoxProjIdeal.Facts) (hFoxProjRefIdeal : Cert.FoxProjRefIdeal.Facts) (hMemProj : Cert.MemProj.Facts) (hMemProjIdeal : Cert.MemProjIdeal.Facts) (hMemProjRefIdeal : Cert.MemProjRefIdeal.Facts) (hOutProj : Cert.OutProj.Facts) (hOutProjIdeal : Cert.OutProjIdeal.Facts) (hOutProjRefIdeal : Cert.OutProjRefIdeal.Facts) (hMemKv : Cert.MemKv.Facts) (hMemKvIdeal : Cert.MemKvIdeal.Facts) (hMemKvRefIdeal : Cert.MemKvRefIdeal.Facts) (hKeyNorm : Cert.KeyNorm.Facts) (hKeyNormIdeal : Cert.KeyNormIdeal.Facts) (hKeyNormRefIdeal : Cert.KeyNormRefIdeal.Facts) (hMemNorm : Cert.MemNorm.Facts) (hMemNormIdeal : Cert.MemNormIdeal.Facts) (hMemNormRefIdeal : Cert.MemNormRefIdeal.Facts) (hGates : Cert.Gates.Facts) (hGatesIdeal : Cert.GatesIdeal.Facts) (hGatesRefIdeal : Cert.GatesRefIdeal.Facts) (hDnProjS : Cert.DnProjS.Facts) (hDnProjSIdeal : Cert.DnProjSIdeal.Facts) (hDnProjSRefIdeal : Cert.DnProjSRefIdeal.Facts) (hFoxProjS : Cert.FoxProjS.Facts) (hFoxProjSIdeal : Cert.FoxProjSIdeal.Facts) (hFoxProjSRefIdeal : Cert.FoxProjSRefIdeal.Facts) (hKeyNormS : Cert.KeyNormS.Facts) (hKeyNormSIdeal : Cert.KeyNormSIdeal.Facts) (hKeyNormSRefIdeal : Cert.KeyNormSRefIdeal.Facts) (hGatesS : Cert.GatesS.Facts) (hGatesSIdeal : Cert.GatesSIdeal.Facts) (hGatesSRefIdeal : Cert.GatesSRefIdeal.Facts) (hRowNorm : Cert.RowNorm.Facts) (hRowNormIdeal : Cert.RowNormIdeal.Facts) (hRowNormRefIdeal : Cert.RowNormRefIdeal.Facts) (hMemAttn : Cert.MemAttn.Facts) (hMemAttnIdeal : Cert.MemAttnIdeal.Facts) (hMemAttnRefIdeal : Cert.MemAttnRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_DnProj (hDnProj := hDnProj)
    ∧ quiescent_DnProjIdeal (hDnProjIdeal := hDnProjIdeal)
    ∧ quiescent_DnProjRefIdeal (hDnProjRefIdeal := hDnProjRefIdeal)
    ∧ quiescent_FoxProj (hFoxProj := hFoxProj)
    ∧ quiescent_FoxProjIdeal (hFoxProjIdeal := hFoxProjIdeal)
    ∧ quiescent_FoxProjRefIdeal (hFoxProjRefIdeal := hFoxProjRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_KeyNorm (hKeyNorm := hKeyNorm)
    ∧ quiescent_KeyNormIdeal (hKeyNormIdeal := hKeyNormIdeal)
    ∧ quiescent_KeyNormRefIdeal (hKeyNormRefIdeal := hKeyNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_Gates (hGates := hGates)
    ∧ quiescent_GatesIdeal (hGatesIdeal := hGatesIdeal)
    ∧ quiescent_GatesRefIdeal (hGatesRefIdeal := hGatesRefIdeal)
    ∧ quiescent_DnProjS (hDnProjS := hDnProjS)
    ∧ quiescent_DnProjSIdeal (hDnProjSIdeal := hDnProjSIdeal)
    ∧ quiescent_DnProjSRefIdeal (hDnProjSRefIdeal := hDnProjSRefIdeal)
    ∧ quiescent_FoxProjS (hFoxProjS := hFoxProjS)
    ∧ quiescent_FoxProjSIdeal (hFoxProjSIdeal := hFoxProjSIdeal)
    ∧ quiescent_FoxProjSRefIdeal (hFoxProjSRefIdeal := hFoxProjSRefIdeal)
    ∧ quiescent_KeyNormS (hKeyNormS := hKeyNormS)
    ∧ quiescent_KeyNormSIdeal (hKeyNormSIdeal := hKeyNormSIdeal)
    ∧ quiescent_KeyNormSRefIdeal (hKeyNormSRefIdeal := hKeyNormSRefIdeal)
    ∧ quiescent_GatesS (hGatesS := hGatesS)
    ∧ quiescent_GatesSIdeal (hGatesSIdeal := hGatesSIdeal)
    ∧ quiescent_GatesSRefIdeal (hGatesSRefIdeal := hGatesSRefIdeal)
    ∧ quiescent_RowNorm (hRowNorm := hRowNorm)
    ∧ quiescent_RowNormIdeal (hRowNormIdeal := hRowNormIdeal)
    ∧ quiescent_RowNormRefIdeal (hRowNormRefIdeal := hRowNormRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_DnProj_DnProjIdeal
    ∧ algebraic_DnProjIdeal_DnProjRefIdeal (hDnProjIdeal := hDnProjIdeal) (hDnProjRefIdeal := hDnProjRefIdeal)
    ∧ preserves_FoxProj_FoxProjIdeal
    ∧ algebraic_FoxProjIdeal_FoxProjRefIdeal (hFoxProjIdeal := hFoxProjIdeal) (hFoxProjRefIdeal := hFoxProjRefIdeal)
    ∧ preserves_MemProj_MemProjIdeal
    ∧ algebraic_MemProjIdeal_MemProjRefIdeal (hMemProjIdeal := hMemProjIdeal) (hMemProjRefIdeal := hMemProjRefIdeal)
    ∧ preserves_OutProj_OutProjIdeal
    ∧ algebraic_OutProjIdeal_OutProjRefIdeal (hOutProjIdeal := hOutProjIdeal) (hOutProjRefIdeal := hOutProjRefIdeal)
    ∧ preserves_MemKv_MemKvIdeal
    ∧ algebraic_MemKvIdeal_MemKvRefIdeal (hMemKvIdeal := hMemKvIdeal) (hMemKvRefIdeal := hMemKvRefIdeal)
    ∧ preserves_KeyNorm_KeyNormIdeal
    ∧ algebraic_KeyNormIdeal_KeyNormRefIdeal (hKeyNormIdeal := hKeyNormIdeal) (hKeyNormRefIdeal := hKeyNormRefIdeal)
    ∧ preserves_MemNorm_MemNormIdeal
    ∧ algebraic_MemNormIdeal_MemNormRefIdeal (hMemNormIdeal := hMemNormIdeal) (hMemNormRefIdeal := hMemNormRefIdeal)
    ∧ preserves_Gates_GatesIdeal
    ∧ algebraic_GatesIdeal_GatesRefIdeal (hGatesIdeal := hGatesIdeal) (hGatesRefIdeal := hGatesRefIdeal)
    ∧ preserves_DnProjS_DnProjSIdeal
    ∧ algebraic_DnProjSIdeal_DnProjSRefIdeal (hDnProjSIdeal := hDnProjSIdeal) (hDnProjSRefIdeal := hDnProjSRefIdeal)
    ∧ preserves_FoxProjS_FoxProjSIdeal
    ∧ algebraic_FoxProjSIdeal_FoxProjSRefIdeal (hFoxProjSIdeal := hFoxProjSIdeal) (hFoxProjSRefIdeal := hFoxProjSRefIdeal)
    ∧ preserves_KeyNormS_KeyNormSIdeal
    ∧ algebraic_KeyNormSIdeal_KeyNormSRefIdeal (hKeyNormSIdeal := hKeyNormSIdeal) (hKeyNormSRefIdeal := hKeyNormSRefIdeal)
    ∧ preserves_GatesS_GatesSIdeal
    ∧ algebraic_GatesSIdeal_GatesSRefIdeal (hGatesSIdeal := hGatesSIdeal) (hGatesSRefIdeal := hGatesSRefIdeal)
    ∧ preserves_RowNorm_RowNormIdeal
    ∧ algebraic_RowNormIdeal_RowNormRefIdeal (hRowNormIdeal := hRowNormIdeal) (hRowNormRefIdeal := hRowNormRefIdeal)
    ∧ preserves_MemAttn_MemAttnIdeal
    ∧ algebraic_MemAttnIdeal_MemAttnRefIdeal (hMemAttnIdeal := hMemAttnIdeal) (hMemAttnRefIdeal := hMemAttnRefIdeal)
-- ==== Pre_finite_scores.lean ====
abbrev S2x4096x8x128 : Shape := ⟨4, ![2, 4096, 8, 128]⟩
abbrev S2x4096x8 : Shape := ⟨3, ![2, 4096, 8]⟩
abbrev S_ : Shape := ⟨0, ![]⟩

class Facts : Prop where
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn {F : FTy → Type} [FloatOps F] (main_arg0 : FVec F S2x4096x8x128 .f32) (main_arg1 : FVec F S2x4096x8x128 .f32) (main_arg2 : FVec F S2x4096x8x128 .f32) (main_arg3 : FVec F S2x4096x8 .f32) : IVec S_ 1 :=
  let main_v0 : FVec F S2x4096x8x128 .f32 := Host.absf main_arg0
  let main_cst : FVec F S_ .f32 := constant S_ .f32 0x7F800000#32
  let main_v1 : FVec F S2x4096x8x128 .f32 := broadcastInDim S2x4096x8x128 ![] bcast_S_S2x4096x8x128 main_cst
  let main_v2 : IVec S2x4096x8x128 1 := cmpf .olt main_v0 main_v1
  let main_c : IVec S_ 1 := constantI S_ 1 1#1
  let main_v3 : IVec S_ 1 := (fun x v => Host.reduce IntOp.andi x v reducesTo_S2x4096x8x128_S_d0_1_2_3 h_S_) main_v2 main_c
  let main_v4 : FVec F S2x4096x8x128 .f32 := Host.absf main_arg1
  let main_cst_0 : FVec F S_ .f32 := constant S_ .f32 0x7F800000#32
  let main_v5 : FVec F S2x4096x8x128 .f32 := broadcastInDim S2x4096x8x128 ![] bcast_S_S2x4096x8x128 main_cst_0
  let main_v6 : IVec S2x4096x8x128 1 := cmpf .olt main_v4 main_v5
  let main_c_1 : IVec S_ 1 := constantI S_ 1 1#1
  let main_v7 : IVec S_ 1 := (fun x v => Host.reduce IntOp.andi x v reducesTo_S2x4096x8x128_S_d0_1_2_3 h_S_) main_v6 main_c_1
  let main_v8 : IVec S_ 1 := andi main_v3 main_v7
  let main_v9 : FVec F S2x4096x8 .f32 := Host.absf main_arg3
  let main_cst_2 : FVec F S_ .f32 := constant S_ .f32 0x7F800000#32
  let main_v10 : FVec F S2x4096x8 .f32 := broadcastInDim S2x4096x8 ![] bcast_S_S2x4096x8 main_cst_2
  let main_v11 : IVec S2x4096x8 1 := cmpf .olt main_v9 main_v10
  let main_c_3 : IVec S_ 1 := constantI S_ 1 1#1
  let main_v12 : IVec S_ 1 := (fun x v => Host.reduce IntOp.andi x v reducesTo_S2x4096x8_S_d0_1_2 h_S_) main_v11 main_c_3
  let main_v13 : IVec S_ 1 := andi main_v8 main_v12
  main_v13
-- ==== Kernel.lean ====
abbrev S2x4096x8x128 : Shape := ⟨4, ![2, 4096, 8, 128]⟩
abbrev S2x4096x8 : Shape := ⟨3, ![2, 4096, 8]⟩
abbrev S8192x1024 : Shape := ⟨2, ![8192, 1024]⟩
abbrev S2x8x4096 : Shape := ⟨3, ![2, 8, 4096]⟩
abbrev S16x1x4096 : Shape := ⟨3, ![16, 1, 4096]⟩
abbrev S512x256 : Shape := ⟨2, ![512, 256]⟩
abbrev S4096x256 : Shape := ⟨2, ![4096, 256]⟩
abbrev S2x1x4096 : Shape := ⟨3, ![2, 1, 4096]⟩
abbrev S512x128 : Shape := ⟨2, ![512, 128]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S2x8x4096, .f32⟩
  | .hbm, ⟨11, _⟩ => ⟨S16x1x4096, .f32⟩
  | .hbm, ⟨12, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S2x1x4096, .f32⟩
  | .local _ .vmem, ⟨7, _⟩ => ⟨S2x1x4096, .f32⟩
  | .local _ .vmem, ⟨8, _⟩ => ⟨S512x256, .bf16⟩
  | .local _ .vmem, ⟨9, _⟩ => ⟨S512x256, .bf16⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 3 → Nat :=
  let c0_2 : Index := 0#32
  let c0_3 : Index := 0#32
  let arg2 : BitVec 32 := BitVec.ofNat 32 (i 2).val
  let c512_i32 : BitVec 32 := 512#32
  let v0 : BitVec 32 := Scalar.muli arg2 c512_i32
  let v1 : BitVec 32 := v0
  let v6 : Index := Scalar.indexCast v1
  ![0, 0, v6.toNat]
def k0_off2 (i : grid0.Coords) : Fin 3 → Nat :=
  let c1 : Index := 1#32
  let c0_5 : Index := 0#32
  let arg2 : BitVec 32 := BitVec.ofNat 32 (i 2).val
  let c512_i32 : BitVec 32 := 512#32
  let v0 : BitVec 32 := Scalar.muli arg2 c512_i32
  let v1 : BitVec 32 := v0
  let v18 : Index := Scalar.indexCast v1
  ![1, 0, v18.toNat]
@[reducible] def k0_t1_loop (i : grid0.Coords) : Scf.Loop 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_14 : BitVec 32 := 1#32
  ⟨c0_i32, v40, c1_i32_14⟩
def k0_mult2 (i : grid0.Coords) (k0_t1 : Fin (k0_t1_loop i).trips) : BitVec 32 :=
  let c0_i32 : BitVec 32 := 0#32
  let c1_i32_14 : BitVec 32 := 1#32
  let arg8 : BitVec 32 := Scf.iv c0_i32 c1_i32_14 k0_t1
  let c512_i32_40 : BitVec 32 := 512#32
  let v124 : BitVec 32 := Scalar.muli arg8 c512_i32_40
  v124
def k0_off3 (i : grid0.Coords) (k0_t1 : Fin (k0_t1_loop i).trips) : Fin 2 → Nat :=
  let c0_i32 : BitVec 32 := 0#32
  let c1_i32_14 : BitVec 32 := 1#32
  let arg8 : BitVec 32 := Scf.iv c0_i32 c1_i32_14 k0_t1
  let c512_i32_40 : BitVec 32 := 512#32
  let v124 : BitVec 32 := Scalar.muli arg8 c512_i32_40
  let v125 : BitVec 32 := v124
  let v126 : Index := Scalar.indexCast v125
  let c0_41 : Index := 0#32
  ![v126.toNat, 0]
def k0_off4 (i : grid0.Coords) (k0_t1 : Fin (k0_t1_loop i).trips) : Fin 3 → Nat :=
  let c0_44 : Index := 0#32
  let c0_45 : Index := 0#32
  let c0_i32 : BitVec 32 := 0#32
  let c1_i32_14 : BitVec 32 := 1#32
  let arg8 : BitVec 32 := Scf.iv c0_i32 c1_i32_14 k0_t1
  let c512_i32_40 : BitVec 32 := 512#32
  let v124 : BitVec 32 := Scalar.muli arg8 c512_i32_40
  let v125 : BitVec 32 := v124
  let v132 : Index := Scalar.indexCast v125
  ![0, 0, v132.toNat]
def k0_off5 (i : grid0.Coords) (k0_t1 : Fin (k0_t1_loop i).trips) : Fin 2 → Nat :=
  let c0_i32 : BitVec 32 := 0#32
  let c1_i32_14 : BitVec 32 := 1#32
  let arg8 : BitVec 32 := Scf.iv c0_i32 c1_i32_14 k0_t1
  let c512_i32_40 : BitVec 32 := 512#32
  let v124 : BitVec 32 := Scalar.muli arg8 c512_i32_40
  let v125 : BitVec 32 := v124
  let v139 : Index := Scalar.indexCast v125
  let c128_46 : Index := 128#32
  ![v139.toNat, 128]
def k0_off6 (i : grid0.Coords) (k0_t1 : Fin (k0_t1_loop i).trips) : Fin 3 → Nat :=
  let c1_49 : Index := 1#32
  let c0_50 : Index := 0#32
  let c0_i32 : BitVec 32 := 0#32
  let c1_i32_14 : BitVec 32 := 1#32
  let arg8 : BitVec 32 := Scf.iv c0_i32 c1_i32_14 k0_t1
  let c512_i32_40 : BitVec 32 := 512#32
  let v124 : BitVec 32 := Scalar.muli arg8 c512_i32_40
  let v125 : BitVec 32 := v124
  let v145 : Index := Scalar.indexCast v125
  ![1, 0, v145.toNat]
@[reducible] def k0_t2_loop (i : grid0.Coords) : Scf.Loop 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let v37 : BitVec 32 := Scalar.addi c0_i32 v36
  let c1_i32_15 : BitVec 32 := 1#32
  ⟨v40, v37, c1_i32_15⟩
def k0_mult3 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_15 : BitVec 32 := 1#32
  let arg8 : BitVec 32 := Scf.iv v40 c1_i32_15 k0_t2
  let c512_i32_40 : BitVec 32 := 512#32
  let v124 : BitVec 32 := Scalar.muli arg8 c512_i32_40
  v124
def k0_off7 (i : grid0.Coords) (k0_t2 : Fin (k0_t2_loop i).trips) : Fin 2 → Nat :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_15 : BitVec 32 := 1#32
  let arg8 : BitVec 32 := Scf.iv v40 c1_i32_15 k0_t2
  let c512_i32_40 : BitVec 32 := 512#32
  let v124 : BitVec 32 := Scalar.muli arg8 c512_i32_40
  let v125 : BitVec 32 := v124
  let v126 : Index := Scalar.indexCast v125
  let c0_41 : Index := 0#32
  ![v126.toNat, 0]
def k0_off8 (i : grid0.Coords) (k0_t2 : Fin (k0_t2_loop i).trips) : Fin 3 → Nat :=
  let c0_44 : Index := 0#32
  let c0_45 : Index := 0#32
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_15 : BitVec 32 := 1#32
  let arg8 : BitVec 32 := Scf.iv v40 c1_i32_15 k0_t2
  let c512_i32_40 : BitVec 32 := 512#32
  let v124 : BitVec 32 := Scalar.muli arg8 c512_i32_40
  let v125 : BitVec 32 := v124
  let v132 : Index := Scalar.indexCast v125
  ![0, 0, v132.toNat]
def k0_off9 (i : grid0.Coords) (k0_t2 : Fin (k0_t2_loop i).trips) : Fin 2 → Nat :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_15 : BitVec 32 := 1#32
  let arg8 : BitVec 32 := Scf.iv v40 c1_i32_15 k0_t2
  let c512_i32_40 : BitVec 32 := 512#32
  let v124 : BitVec 32 := Scalar.muli arg8 c512_i32_40
  let v125 : BitVec 32 := v124
  let v139 : Index := Scalar.indexCast v125
  let c128_46 : Index := 128#32
  ![v139.toNat, 128]
def k0_off10 (i : grid0.Coords) (k0_t2 : Fin (k0_t2_loop i).trips) : Fin 3 → Nat :=
  let c1_49 : Index := 1#32
  let c0_50 : Index := 0#32
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_15 : BitVec 32 := 1#32
  let arg8 : BitVec 32 := Scf.iv v40 c1_i32_15 k0_t2
  let c512_i32_40 : BitVec 32 := 512#32
  let v124 : BitVec 32 := Scalar.muli arg8 c512_i32_40
  let v125 : BitVec 32 := v124
  let v145 : Index := Scalar.indexCast v125
  ![1, 0, v145.toNat]
def k0_off11 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v46 : Index := Scalar.indexCast v1
  let c0_16 : Index := 0#32
  ![v46.toNat, 0]
def k0_off12 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v85 : Index := Scalar.indexCast v1
  let c128_28 : Index := 128#32
  ![v85.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x4096x8x128 : Shape := ⟨4, ![2, 4096, 8, 128]⟩
abbrev S2x4096x8 : Shape := ⟨3, ![2, 4096, 8]⟩
abbrev S4096 : Shape := ⟨1, ![4096]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩
abbrev S8192x1024 : Shape := ⟨2, ![8192, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x8, .f32⟩
  | .hbm, ⟨4, _⟩ => ⟨S4096, .i32⟩
  | .hbm, ⟨5, _⟩ => ⟨S2x8x4096x4096, .f32⟩
  | .hbm, ⟨6, _⟩ => ⟨S_, .f32⟩
  | .hbm, ⟨7, _⟩ => ⟨S2x8x4096x4096, .f32⟩
  | .hbm, ⟨8, _⟩ => ⟨S2x8x4096x4096, .f32⟩
  | .hbm, ⟨9, _⟩ => ⟨S2x8x4096, .f32⟩
  | .hbm, ⟨10, _⟩ => ⟨S2x8x4096x1, .f32⟩
  | .hbm, ⟨11, _⟩ => ⟨S2x8x4096, .f32⟩
  | .hbm, ⟨12, _⟩ => ⟨S2x8x1x4096, .f32⟩
  | .hbm, ⟨13, _⟩ => ⟨S2x8x4096x4096, .f32⟩
  | .hbm, ⟨14, _⟩ => ⟨S2x8x4096x4096, .f32⟩
  | .hbm, ⟨15, _⟩ => ⟨S2x8x4096x4096, .f32⟩
  | .hbm, ⟨16, _⟩ => ⟨S2x8x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S2x8x4096x4096, .i1⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S_, .f32⟩
  | .hbm, ⟨30, _⟩ => ⟨S2x8x4096, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S2x8x4096x1, .f32⟩
  | .hbm, ⟨39, _⟩ => ⟨S2x8x4096x4096, .f32⟩
  | .hbm, ⟨40, _⟩ => ⟨S2x8x4096x4096, .f32⟩
  | .hbm, ⟨41, _⟩ => ⟨S2x8x128x4096, .f32⟩
  | .hbm, ⟨42, _⟩ => ⟨S2x4096x8x128, .f32⟩
  | .hbm, ⟨43, _⟩ => ⟨S8192x1024, .f32⟩
  | .hbm, ⟨44, _⟩ => ⟨S8192x1024, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== DnProj.lean ====
abbrev S2x4096x4096 : Shape := ⟨3, ![2, 4096, 4096]⟩
abbrev S1x4096x12328 : Shape := ⟨3, ![1, 4096, 12328]⟩
abbrev S4096x12328 : Shape := ⟨2, ![4096, 12328]⟩
abbrev S12328x4096 : Shape := ⟨2, ![12328, 4096]⟩
abbrev S8192x4096 : Shape := ⟨2, ![8192, 4096]⟩
abbrev S8192x8192 : Shape := ⟨2, ![8192, 8192]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12328, .f32⟩
  | .hbm, ⟨2, _⟩ => ⟨S4096x12328, .f32⟩
  | .hbm, ⟨3, _⟩ => ⟨S12328x4096, .f32⟩
  | .hbm, ⟨4, _⟩ => ⟨S8192x4096, .f32⟩
  | .hbm, ⟨5, _⟩ => ⟨S8192x4096, .bf16⟩
  | .hbm, ⟨6, _⟩ => ⟨S8192x4096, .f32⟩
  | .hbm, ⟨7, _⟩ => ⟨S8192x4096, .bf16⟩
  | .hbm, ⟨8, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnProjRefIdeal.lean ====
abbrev S2x4096x4096 : Shape := ⟨3, ![2, 4096, 4096]⟩
abbrev S1x4096x12328 : Shape := ⟨3, ![1, 4096, 12328]⟩
abbrev S4096x12328 : Shape := ⟨2, ![4096, 12328]⟩
abbrev S2x4096x12328 : Shape := ⟨3, ![2, 4096, 12328]⟩
abbrev S2x4096x8192 : Shape := ⟨3, ![2, 4096, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12328, .f32⟩
  | .hbm, ⟨2, _⟩ => ⟨S4096x12328, .f32⟩
  | .hbm, ⟨3, _⟩ => ⟨S2x4096x12328, .f32⟩
  | .hbm, ⟨4, _⟩ => ⟨S2x4096x8192, .f32⟩
  | .hbm, ⟨5, _⟩ => ⟨S8192x8192, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FoxProj.lean ====
abbrev S2x4096x4096 : Shape := ⟨3, ![2, 4096, 4096]⟩
abbrev S1x4096x12328 : Shape := ⟨3, ![1, 4096, 12328]⟩
abbrev S4096x12328 : Shape := ⟨2, ![4096, 12328]⟩
abbrev S12328x4096 : Shape := ⟨2, ![12328, 4096]⟩
abbrev S8192x4096 : Shape := ⟨2, ![8192, 4096]⟩
abbrev S3072x4096 : Shape := ⟨2, ![3072, 4096]⟩
abbrev S8192x3072 : Shape := ⟨2, ![8192, 3072]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12328, .f32⟩
  | .hbm, ⟨2, _⟩ => ⟨S4096x12328, .f32⟩
  | .hbm, ⟨3, _⟩ => ⟨S12328x4096, .f32⟩
  | .hbm, ⟨4, _⟩ => ⟨S8192x4096, .f32⟩
  | .hbm, ⟨5, _⟩ => ⟨S8192x4096, .bf16⟩
  | .hbm, ⟨6, _⟩ => ⟨S3072x4096, .f32⟩
  | .hbm, ⟨7, _⟩ => ⟨S3072x4096, .bf16⟩
  | .hbm, ⟨8, _⟩ => ⟨S8192x3072, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FoxProjRefIdeal.lean ====
abbrev S2x4096x4096 : Shape := ⟨3, ![2, 4096, 4096]⟩
abbrev S1x4096x12328 : Shape := ⟨3, ![1, 4096, 12328]⟩
abbrev S4096x12328 : Shape := ⟨2, ![4096, 12328]⟩
abbrev S2x4096x12328 : Shape := ⟨3, ![2, 4096, 12328]⟩
abbrev S2x4096x3072 : Shape := ⟨3, ![2, 4096, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12328, .f32⟩
  | .hbm, ⟨2, _⟩ => ⟨S4096x12328, .f32⟩
  | .hbm, ⟨3, _⟩ => ⟨S2x4096x12328, .f32⟩
  | .hbm, ⟨4, _⟩ => ⟨S2x4096x3072, .f32⟩
  | .hbm, ⟨5, _⟩ => ⟨S8192x3072, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemProj.lean ====
abbrev S2x4096x4096 : Shape := ⟨3, ![2, 4096, 4096]⟩
abbrev S1x4096x12328 : Shape := ⟨3, ![1, 4096, 12328]⟩
abbrev S4096x12328 : Shape := ⟨2, ![4096, 12328]⟩
abbrev S12328x4096 : Shape := ⟨2, ![12328, 4096]⟩
abbrev S8192x4096 : Shape := ⟨2, ![8192, 4096]⟩
abbrev S1024x4096 : Shape := ⟨2, ![1024, 4096]⟩
abbrev S8192x1024 : Shape := ⟨2, ![8192, 1024]⟩
abbrev S512x4096 : Shape := ⟨2, ![512, 4096]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12328, .f32⟩
  | .hbm, ⟨2, _⟩ => ⟨S4096x12328, .f32⟩
  | .hbm, ⟨3, _⟩ => ⟨S12328x4096, .f32⟩
  | .hbm, ⟨4, _⟩ => ⟨S8192x4096, .f32⟩
  | .hbm, ⟨5, _⟩ => ⟨S8192x4096, .bf16⟩
  | .hbm, ⟨6, _⟩ => ⟨S1024x4096, .f32⟩
  | .hbm, ⟨7, _⟩ => ⟨S1024x4096, .bf16⟩
  | .hbm, ⟨8, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemProjRefIdeal.lean ====
abbrev S2x4096x4096 : Shape := ⟨3, ![2, 4096, 4096]⟩
abbrev S1x4096x12328 : Shape := ⟨3, ![1, 4096, 12328]⟩
abbrev S4096x12328 : Shape := ⟨2, ![4096, 12328]⟩
abbrev S2x4096x12328 : Shape := ⟨3, ![2, 4096, 12328]⟩
abbrev S2x4096x1024 : Shape := ⟨3, ![2, 4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12328, .f32⟩
  | .hbm, ⟨2, _⟩ => ⟨S4096x12328, .f32⟩
  | .hbm, ⟨3, _⟩ => ⟨S2x4096x12328, .f32⟩
  | .hbm, ⟨4, _⟩ => ⟨S2x4096x1024, .f32⟩
  | .hbm, ⟨5, _⟩ => ⟨S8192x1024, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S2x4096x4096 : Shape := ⟨3, ![2, 4096, 4096]⟩
abbrev S2x4096x2048 : Shape := ⟨3, ![2, 4096, 2048]⟩
abbrev S2x4096x1024 : Shape := ⟨3, ![2, 4096, 1024]⟩
abbrev S1x4096x4096 : Shape := ⟨3, ![1, 4096, 4096]⟩
abbrev S8192x2048 : Shape := ⟨2, ![8192, 2048]⟩
abbrev S8192x1024 : Shape := ⟨2, ![8192, 1024]⟩
abbrev S4096x4096 : Shape := ⟨2, ![4096, 4096]⟩
abbrev S8192x4096 : Shape := ⟨2, ![8192, 4096]⟩
abbrev S1024x2048 : Shape := ⟨2, ![1024, 2048]⟩
abbrev S1024x1024 : Shape := ⟨2, ![1024, 1024]⟩
abbrev S4096x512 : Shape := ⟨2, ![4096, 512]⟩
abbrev S1024x512 : Shape := ⟨2, ![1024, 512]⟩
abbrev S2048x512 : Shape := ⟨2, ![2048, 512]⟩

abbrev nBuf : Space → Nat
  | .hbm => 15
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .f32⟩
  | .hbm, ⟨2, _⟩ => ⟨S2x4096x1024, .f32⟩
  | .hbm, ⟨3, _⟩ => ⟨S2x4096x1024, .f32⟩
  | .hbm, ⟨4, _⟩ => ⟨S1x4096x4096, .f32⟩
  | .hbm, ⟨5, _⟩ => ⟨S8192x2048, .f32⟩
  | .hbm, ⟨6, _⟩ => ⟨S8192x2048, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S4096x4096, .f32⟩
  | .hbm, ⟨12, _⟩ => ⟨S4096x4096, .bf16⟩
  | .hbm, ⟨13, _⟩ => ⟨S8192x4096, .f32⟩
  | .hbm, ⟨14, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S2x4096x4096 : Shape := ⟨3, ![2, 4096, 4096]⟩
abbrev S2x4096x2048 : Shape := ⟨3, ![2, 4096, 2048]⟩
abbrev S2x4096x1024 : Shape := ⟨3, ![2, 4096, 1024]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2048, .f32⟩
  | .hbm, ⟨2, _⟩ => ⟨S2x4096x1024, .f32⟩
  | .hbm, ⟨3, _⟩ => ⟨S2x4096x1024, .f32⟩
  | .hbm, ⟨4, _⟩ => ⟨S1x4096x4096, .f32⟩
  | .hbm, ⟨5, _⟩ => ⟨S2x4096x4096, .f32⟩
  | .hbm, ⟨6, _⟩ => ⟨S4096x4096, .f32⟩
  | .hbm, ⟨7, _⟩ => ⟨S2x4096x4096, .f32⟩
  | .hbm, ⟨8, _⟩ => ⟨S2x4096x4096, .f32⟩
  | .hbm, ⟨9, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== MemKv.lean ====
abbrev S2x256x4096 : Shape := ⟨3, ![2, 256, 4096]⟩
abbrev S1x4096x2048 : Shape := ⟨3, ![1, 4096, 2048]⟩
abbrev S512x4096 : Shape := ⟨2, ![512, 4096]⟩
abbrev S4096x2048 : Shape := ⟨2, ![4096, 2048]⟩
abbrev S512x2048 : Shape := ⟨2, ![512, 2048]⟩
abbrev S4096x512 : Shape := ⟨2, ![4096, 512]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S2x256x4096, .f32⟩
  | .hbm, ⟨1, _⟩ => ⟨S1x4096x2048, .f32⟩
  | .hbm, ⟨2, _⟩ => ⟨S512x4096, .f32⟩
  | .hbm, ⟨3, _⟩ => ⟨S512x4096, .bf16⟩
  | .hbm, ⟨4, _⟩ => ⟨S4096x2048, .f32⟩
  | .hbm, ⟨5, _⟩ => ⟨S4096x2048, .bf16⟩
  | .hbm, ⟨6, _⟩ => ⟨S512x2048, .f32⟩
  | .local _ .vmem, ⟨0, _⟩ => ⟨S512x4096, .bf16⟩
  | .local _ .vmem, ⟨1, _⟩ => ⟨S4096x512, .bf16⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S2x256x4096 : Shape := ⟨3, ![2, 256, 4096]⟩
abbrev S1x4096x2048 : Shape := ⟨3, ![1, 4096, 2048]⟩
abbrev S4096x2048 : Shape := ⟨2, ![4096, 2048]⟩
abbrev S2x256x2048 : Shape := ⟨3, ![2, 256, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S1x4096x2048, .f32⟩
  | .hbm, ⟨2, _⟩ => ⟨S4096x2048, .f32⟩
  | .hbm, ⟨3, _⟩ => ⟨S2x256x2048, .f32⟩
  | .hbm, ⟨4, _⟩ => ⟨S512x2048, .f32⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeyNorm.lean ====
abbrev S2x4096x3072 : Shape := ⟨3, ![2, 4096, 3072]⟩
abbrev S1x128 : Shape := ⟨2, ![1, 128]⟩
abbrev S8192x3072 : Shape := ⟨2, ![8192, 3072]⟩
abbrev S128 : Shape := ⟨1, ![128]⟩
abbrev S8192x1024 : Shape := ⟨2, ![8192, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x3072, .f32⟩
  | .hbm, ⟨1, _⟩ => ⟨S1x128, .f32⟩
  | .hbm, ⟨2, _⟩ => ⟨S8192x3072, .f32⟩
  | .hbm, ⟨3, _⟩ => ⟨S128, .f32⟩
  | .hbm, ⟨4, _⟩ => ⟨S1x128, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x128, .f32⟩
  | .local _ .vmem, ⟨3, _⟩ => ⟨S512x1024, .f32⟩
  | .local _ .vmem, ⟨4, _⟩ => ⟨S512x1024, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KeyNormRefIdeal.lean ====
abbrev S2x4096x3072 : Shape := ⟨3, ![2, 4096, 3072]⟩
abbrev S1x128 : Shape := ⟨2, ![1, 128]⟩
abbrev S2x4096x1024 : Shape := ⟨3, ![2, 4096, 1024]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S128 : Shape := ⟨1, ![128]⟩
abbrev S1x1x1x128 : Shape := ⟨4, ![1, 1, 1, 128]⟩
abbrev S8192x1024 : Shape := ⟨2, ![8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x3072, .f32⟩
  | .hbm, ⟨1, _⟩ => ⟨S1x128, .f32⟩
  | .hbm, ⟨2, _⟩ => ⟨S2x4096x1024, .f32⟩
  | .hbm, ⟨3, _⟩ => ⟨S2x4096x8x128, .f32⟩
  | .hbm, ⟨4, _⟩ => ⟨S2x4096x8x128, .f32⟩
  | .hbm, ⟨5, _⟩ => ⟨S_, .f32⟩
  | .hbm, ⟨6, _⟩ => ⟨S2x4096x8, .f32⟩
  | .hbm, ⟨7, _⟩ => ⟨S2x4096x8x1, .f32⟩
  | .hbm, ⟨8, _⟩ => ⟨S_, .f32⟩
  | .hbm, ⟨9, _⟩ => ⟨S2x4096x8x1, .f32⟩
  | .hbm, ⟨10, _⟩ => ⟨S2x4096x8x1, .f32⟩
  | .hbm, ⟨11, _⟩ => ⟨S_, .f32⟩
  | .hbm, ⟨12, _⟩ => ⟨S2x4096x8x1, .f32⟩
  | .hbm, ⟨13, _⟩ => ⟨S2x4096x8x1, .f32⟩
  | .hbm, ⟨14, _⟩ => ⟨S2x4096x8x1, .f32⟩
  | .hbm, ⟨15, _⟩ => ⟨S2x4096x8x128, .f32⟩
  | .hbm, ⟨16, _⟩ => ⟨S2x4096x8x128, .f32⟩
  | .hbm, ⟨17, _⟩ => ⟨S128, .f32⟩
  | .hbm, ⟨18, _⟩ => ⟨S1x1x1x128, .f32⟩
  | .hbm, ⟨19, _⟩ => ⟨S2x4096x8x128, .f32⟩
  | .hbm, ⟨20, _⟩ => ⟨S2x4096x8x128, .f32⟩
  | .hbm, ⟨21, _⟩ => ⟨S8192x1024, .f32⟩
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== MemNorm.lean ====
abbrev S2x256x2048 : Shape := ⟨3, ![2, 256, 2048]⟩
abbrev S1x256 : Shape := ⟨2, ![1, 256]⟩
abbrev S512x2048 : Shape := ⟨2, ![512, 2048]⟩
abbrev S256 : Shape := ⟨1, ![256]⟩
abbrev S512x1024 : Shape := ⟨2, ![512, 1024]⟩
abbrev S256x1024 : Shape := ⟨2, ![256, 1024]⟩
abbrev S256x256 : Shape := ⟨2, ![256, 256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S1x256, .f32⟩
  | .hbm, ⟨2, _⟩ => ⟨S512x2048, .f32⟩
  | .hbm, ⟨3, _⟩ => ⟨S256, .f32⟩
  | .hbm, ⟨4, _⟩ => ⟨S1x256, .f32⟩
  | .hbm, ⟨5, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1x256, .f32⟩
  | .local _ .vmem, ⟨3, _⟩ => ⟨S256x1024, .f32⟩
  | .local _ .vmem, ⟨4, _⟩ => ⟨S256x1024, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemNormRefIdeal.lean ====
abbrev S2x256x2048 : Shape := ⟨3, ![2, 256, 2048]⟩
abbrev S1x256 : Shape := ⟨2, ![1, 256]⟩
abbrev S2x256x1024 : Shape := ⟨3, ![2, 256, 1024]⟩
abbrev S2x256x4x256 : Shape := ⟨4, ![2, 256, 4, 256]⟩
abbrev S_ : Shape := ⟨0, ![]⟩
abbrev S2x256x4 : Shape := ⟨3, ![2, 256, 4]⟩
abbrev S2x256x4x1 : Shape := ⟨4, ![2, 256, 4, 1]⟩
abbrev S256 : Shape := ⟨1, ![256]⟩
abbrev S1x1x1x256 : Shape := ⟨4, ![1, 1, 1, 256]⟩
abbrev S512x1024 : Shape := ⟨2, ![512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x256, .f32⟩
  | .hbm, ⟨2, _⟩ => ⟨S2x256x1024, .f32⟩
  | .hbm, ⟨3, _⟩ => ⟨S2x256x4x256, .f32⟩
  | .hbm, ⟨4, _⟩ => ⟨S2x256x4x256, .f32⟩
  | .hbm, ⟨5, _⟩ => ⟨S_, .f32⟩
  | .hbm, ⟨6, _⟩ => ⟨S2x256x4, .f32⟩
  | .hbm, ⟨7, _⟩ => ⟨S2x256x4x1, .f32⟩
  | .hbm, ⟨8, _⟩ => ⟨S_, .f32⟩
  | .hbm, ⟨9, _⟩ => ⟨S2x256x4x1, .f32⟩
  | .hbm, ⟨10, _⟩ => ⟨S2x256x4x1, .f32⟩
  | .hbm, ⟨11, _⟩ => ⟨S_, .f32⟩
  | .hbm, ⟨12, _⟩ => ⟨S2x256x4x1, .f32⟩
  | .hbm, ⟨13, _⟩ => ⟨S2x256x4x1, .f32⟩
  | .hbm, ⟨14, _⟩ => ⟨S2x256x4x1, .f32⟩
  | .hbm, ⟨15, _⟩ => ⟨S2x256x4x256, .f32⟩
  | .hbm, ⟨16, _⟩ => ⟨S2x256x4x256, .f32⟩
  | .hbm, ⟨17, _⟩ => ⟨S256, .f32⟩
  | .hbm, ⟨18, _⟩ => ⟨S1x1x1x256, .f32⟩
  | .hbm, ⟨19, _⟩ => ⟨S2x256x4x256, .f32⟩
  | .hbm, ⟨20, _⟩ => ⟨S2x256x4x256, .f32⟩
  | .hbm, ⟨21, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Gates.lean ====
abbrev S2x4096x128 : Shape := ⟨3, ![2, 4096, 128]⟩
abbrev S1x16 : Shape := ⟨2, ![1, 16]⟩
abbrev S1x8 : Shape := ⟨2, ![1, 8]⟩
abbrev S8192x128 : Shape := ⟨2, ![8192, 128]⟩
abbrev S16 : Shape := ⟨1, ![16]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S1024x128 : Shape := ⟨2, ![1024, 128]⟩

abbrev nBuf : Space → Nat
  | .hbm => 33
  | .vmem => 7
  | .smem => 0
  | _ => 0

abbrev bufTy : (tb : Table) → Fin (tcTables nBuf tb) → BufTy
  | .hbm, ⟨0, _⟩ => ⟨S2x4096x128, .f32⟩
  | .hbm, ⟨1, _⟩ => ⟨S1x16, .f32⟩
  | .hbm, ⟨2, _⟩ => ⟨S1x16, .f32⟩
  | .hbm, ⟨3, _⟩ => ⟨S1x8, .f32⟩
  | .hbm, ⟨4, _⟩ => ⟨S8192x128, .f32⟩
  | .hbm, ⟨5, _⟩ => ⟨S16, .f32⟩
  | .hbm, ⟨6, _⟩ => ⟨S16, .f32⟩
  | .hbm, ⟨7, _⟩ => ⟨S8, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesRefIdeal.lean ====
abbrev S2x4096x128 : Shape := ⟨3, ![2, 4096, 128]⟩
abbrev S1x16 : Shape := ⟨2, ![1, 16]⟩
abbrev S1x8 : Shape := ⟨2, ![1, 8]⟩
abbrev S2x4096x16 : Shape := ⟨3, ![2, 4096, 16]⟩
abbrev S2x4096x8 : Shape := ⟨3, ![2, 4096, 8]⟩
abbrev S_ : Shape := ⟨0, ![]⟩
abbrev S16 : Shape := ⟨1, ![16]⟩
abbrev S1x1x16 : Shape := ⟨3, ![1, 1, 16]⟩
abbrev S8 : Shape := ⟨1, ![8]⟩
abbrev S1x1x8 : Shape := ⟨3, ![1, 1, 8]⟩
abbrev S2x4096x88 : Shape := ⟨3, ![2, 4096, 88]⟩
abbrev S8192x128 : Shape := ⟨2, ![8192, 128]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x128, .f32⟩
  | .hbm, ⟨1, _⟩ => ⟨S1x16, .f32⟩
  | .hbm, ⟨2, _⟩ => ⟨S1x16, .f32⟩
  | .hbm, ⟨3, _⟩ => ⟨S1x8, .f32⟩
  | .hbm, ⟨4, _⟩ => ⟨S2x4096x16, .f32⟩
  | .hbm, ⟨5, _⟩ => ⟨S2x4096x16, .f32⟩
  | .hbm, ⟨6, _⟩ => ⟨S2x4096x8, .f32⟩
  | .hbm, ⟨7, _⟩ => ⟨S2x4096x16, .f32⟩
  | .hbm, ⟨8, _⟩ => ⟨S2x4096x16, .f32⟩
  | .hbm, ⟨9, _⟩ => ⟨S_, .f32⟩
  | .hbm, ⟨10, _⟩ => ⟨S2x4096x16, .f32⟩
  | .hbm, ⟨11, _⟩ => ⟨S2x4096x16, .f32⟩
  | .hbm, ⟨12, _⟩ => ⟨S_, .f32⟩
  | .hbm, ⟨13, _⟩ => ⟨S2x4096x16, .f32⟩
  | .hbm, ⟨14, _⟩ => ⟨S2x4096x16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S1x1x16, .f32⟩
  | .hbm, ⟨20, _⟩ => ⟨S2x4096x16, .f32⟩
  | .hbm, ⟨21, _⟩ => ⟨S2x4096x16, .f32⟩
  | .hbm, ⟨22, _⟩ => ⟨S_, .f32⟩
  | .hbm, ⟨23, _⟩ => ⟨S2x4096x16, .f32⟩
  | .hbm, ⟨24, _⟩ => ⟨S2x4096x16, .f32⟩
  | .hbm, ⟨25, _⟩ => ⟨S2x4096x16, .f32⟩
  | .hbm, ⟨26, _⟩ => ⟨S2x4096x16, .f32⟩
  | .hbm, ⟨27, _⟩ => ⟨S2x4096x16, .i1⟩
  | .hbm, ⟨28, _⟩ => ⟨S2x4096x16, .f32⟩
  | .hbm, ⟨29, _⟩ => ⟨S2x4096x16, .f32⟩
  | .hbm, ⟨30, _⟩ => ⟨S2x4096x16, .f32⟩
  | .hbm, ⟨31, _⟩ => ⟨S2x4096x16, .f32⟩
  | .hbm, ⟨32, _⟩ => ⟨S2x4096x16, .f32⟩
  | .hbm, ⟨33, _⟩ => ⟨S2x4096x16, .f32⟩
  | .hbm, ⟨34, _⟩ => ⟨S2x4096x16, .f32⟩
  | .hbm, ⟨35, _⟩ => ⟨S2x4096x16, .f32⟩
  | .hbm, ⟨36, _⟩ => ⟨S1x1x16, .f32⟩
  | .hbm, ⟨37, _⟩ => ⟨S2x4096x16, .f32⟩
  | .hbm, ⟨38, _⟩ => ⟨S2x4096x16, .f32⟩
  | .hbm, ⟨39, _⟩ => ⟨S8, .f32⟩
  | .hbm, ⟨40, _⟩ => ⟨S1x1x8, .f32⟩
  | .hbm, ⟨41, _⟩ => ⟨S2x4096x8, .f32⟩
  | .hbm, ⟨42, _⟩ => ⟨S2x4096x8, .f32⟩
  | .hbm, ⟨43, _⟩ => ⟨S2x4096x8, .f32⟩
  | .hbm, ⟨44, _⟩ => ⟨S_, .f32⟩
  | .hbm, ⟨45, _⟩ => ⟨S2x4096x8, .f32⟩
  | .hbm, ⟨46, _⟩ => ⟨S2x4096x8, .f32⟩
  | .hbm, ⟨47, _⟩ => ⟨S2x4096x8, .f32⟩
  | .hbm, ⟨48, _⟩ => ⟨S2x4096x8, .f32⟩
  | .hbm, ⟨49, _⟩ => ⟨S2x4096x8, .i1⟩
  | .hbm, ⟨50, _⟩ => ⟨S2x4096x8, .f32⟩
  | .hbm, ⟨51, _⟩ => ⟨S2x4096x8, .f32⟩
  | .hbm, ⟨52, _⟩ => ⟨S2x4096x8, .f32⟩
  | .hbm, ⟨53, _⟩ => ⟨S2x4096x8, .f32⟩
  | .hbm, ⟨54, _⟩ => ⟨S2x4096x8, .f32⟩
  | .hbm, ⟨55, _⟩ => ⟨S2x4096x8, .f32⟩
  | .hbm, ⟨56, _⟩ => ⟨S2x4096x8, .f32⟩
  | .hbm, ⟨57, _⟩ => ⟨S2x4096x8, .f32⟩
  | .hbm, ⟨58, _⟩ => ⟨S2x4096x8, .f32⟩
  | .hbm, ⟨59, _⟩ => ⟨S_, .f32⟩
  | .hbm, ⟨60, _⟩ => ⟨S2x4096x88, .f32⟩
  | .hbm, ⟨61, _⟩ => ⟨S2x4096x128, .f32⟩
  | .hbm, ⟨62, _⟩ => ⟨S8192x128, .f32⟩
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v24 : Ref sig .tc := ⟨.hbm, 58, rfl⟩
abbrev main_cst_1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩

abbrev nD : Nat := 1
abbrev τ : Topo := Topo.v7x

variable {F : FTy → Type} [FloatOps F]
-- ==== DnProjS.lean ====
abbrev S128x1x4096 : Shape := ⟨3, ![128, 1, 4096]⟩
abbrev S1x4096x12328 : Shape := ⟨3, ![1, 4096, 12328]⟩
abbrev S4096x12328 : Shape := ⟨2, ![4096, 12328]⟩
abbrev S12328x4096 : Shape := ⟨2, ![12328, 4096]⟩
abbrev S128x4096 : Shape := ⟨2, ![128, 4096]⟩
abbrev S8192x4096 : Shape := ⟨2, ![8192, 4096]⟩
abbrev S128x8192 : Shape := ⟨2, ![128, 8192]⟩
abbrev S512x4096 : Shape := ⟨2, ![512, 4096]⟩
abbrev S128x512 : Shape := ⟨2, ![128, 512]⟩

abbrev nBuf : Space → Nat
  | .hbm => 9
  | .vmem => 5
  | .smem => 0
  | _ => 0

abbrev bufTy : (tb : Table) → Fin (tcTables nBuf tb) → BufTy
  | .hbm, ⟨0, _⟩ => ⟨S128x1x4096, .f32⟩
  | .hbm, ⟨1, _⟩ => ⟨S1x4096x12328, .f32⟩
  | .hbm, ⟨2, _⟩ => ⟨S4096x12328, .f32⟩
  | .hbm, ⟨3, _⟩ => ⟨S12328x4096, .f32⟩
  | .hbm, ⟨4, _⟩ => ⟨S128x4096, .f32⟩
  | .hbm, ⟨5, _⟩ => ⟨S128x4096, .bf16⟩
  | .hbm, ⟨6, _⟩ => ⟨S8192x4096, .f32⟩
  | .hbm, ⟨7, _⟩ => ⟨S8192x4096, .bf16⟩
  | .hbm, ⟨8, _⟩ => ⟨S128x8192, .f32⟩
  | .local _ .vmem, ⟨0, _⟩ => ⟨S128x4096, .bf16⟩
  | .local _ .vmem, ⟨1, _⟩ => ⟨S512x4096, .bf16⟩
  | .local _ .vmem, ⟨2, _⟩ => ⟨S512x4096, .bf16⟩
  | .local _ .vmem, ⟨3, _⟩ => ⟨S128x512, .f32⟩
  | .local _ .vmem, ⟨4, _⟩ => ⟨S128x512, .f32⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnProjSRefIdeal.lean ====
abbrev S128x1x4096 : Shape := ⟨3, ![128, 1, 4096]⟩
abbrev S1x4096x12328 : Shape := ⟨3, ![1, 4096, 12328]⟩
abbrev S4096x12328 : Shape := ⟨2, ![4096, 12328]⟩
abbrev S128x1x12328 : Shape := ⟨3, ![128, 1, 12328]⟩
abbrev S128x1x8192 : Shape := ⟨3, ![128, 1, 8192]⟩
abbrev S128x8192 : Shape := ⟨2, ![128, 8192]⟩

abbrev nBuf : Space → Nat
  | .hbm => 6
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S1x4096x12328, .f32⟩
  | .hbm, ⟨2, _⟩ => ⟨S4096x12328, .f32⟩
  | .hbm, ⟨3, _⟩ => ⟨S128x1x12328, .f32⟩
  | .hbm, ⟨4, _⟩ => ⟨S128x1x8192, .f32⟩
  | .hbm, ⟨5, _⟩ => ⟨S128x8192, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FoxProjS.lean ====
abbrev S128x1x4096 : Shape := ⟨3, ![128, 1, 4096]⟩
abbrev S1x4096x12328 : Shape := ⟨3, ![1, 4096, 12328]⟩
abbrev S4096x12328 : Shape := ⟨2, ![4096, 12328]⟩
abbrev S12328x4096 : Shape := ⟨2, ![12328, 4096]⟩
abbrev S128x4096 : Shape := ⟨2, ![128, 4096]⟩
abbrev S3072x4096 : Shape := ⟨2, ![3072, 4096]⟩
abbrev S128x3072 : Shape := ⟨2, ![128, 3072]⟩
abbrev S512x4096 : Shape := ⟨2, ![512, 4096]⟩
abbrev S128x512 : Shape := ⟨2, ![128, 512]⟩

abbrev nBuf : Space → Nat
  | .hbm => 9
  | .vmem => 5
  | .smem => 0
  | _ => 0

abbrev bufTy : (tb : Table) → Fin (tcTables nBuf tb) → BufTy
  | .hbm, ⟨0, _⟩ => ⟨S128x1x4096, .f32⟩
  | .hbm, ⟨1, _⟩ => ⟨S1x4096x12328, .f32⟩
  | .hbm, ⟨2, _⟩ => ⟨S4096x12328, .f32⟩
  | .hbm, ⟨3, _⟩ => ⟨S12328x4096, .f32⟩
  | .hbm, ⟨4, _⟩ => ⟨S128x4096, .f32⟩
  | .hbm, ⟨5, _⟩ => ⟨S128x4096, .bf16⟩
  | .hbm, ⟨6, _⟩ => ⟨S3072x4096, .f32⟩
  | .hbm, ⟨7, _⟩ => ⟨S3072x4096, .bf16⟩
  | .hbm, ⟨8, _⟩ => ⟨S128x3072, .f32⟩
  | .local _ .vmem, ⟨0, _⟩ => ⟨S128x4096, .bf16⟩
  | .local _ .vmem, ⟨1, _⟩ => ⟨S512x4096, .bf16⟩
  | .local _ .vmem, ⟨2, _⟩ => ⟨S512x4096, .bf16⟩
  | .local _ .vmem, ⟨3, _⟩ => ⟨S128x512, .f32⟩
  | .local _ .vmem, ⟨4, _⟩ => ⟨S128x512, .f32⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FoxProjSRefIdeal.lean ====
abbrev S128x1x4096 : Shape := ⟨3, ![128, 1, 4096]⟩
abbrev S1x4096x12328 : Shape := ⟨3, ![1, 4096, 12328]⟩
abbrev S4096x12328 : Shape := ⟨2, ![4096, 12328]⟩
abbrev S128x1x12328 : Shape := ⟨3, ![128, 1, 12328]⟩
abbrev S128x1x3072 : Shape := ⟨3, ![128, 1, 3072]⟩
abbrev S128x3072 : Shape := ⟨2, ![128, 3072]⟩

abbrev nBuf : Space → Nat
  | .hbm => 6
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S1x4096x12328, .f32⟩
  | .hbm, ⟨2, _⟩ => ⟨S4096x12328, .f32⟩
  | .hbm, ⟨3, _⟩ => ⟨S128x1x12328, .f32⟩
  | .hbm, ⟨4, _⟩ => ⟨S128x1x3072, .f32⟩
  | .hbm, ⟨5, _⟩ => ⟨S128x3072, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KeyNormS.lean ====
abbrev S128x1x3072 : Shape := ⟨3, ![128, 1, 3072]⟩
abbrev S1x128 : Shape := ⟨2, ![1, 128]⟩
abbrev S128x3072 : Shape := ⟨2, ![128, 3072]⟩
abbrev S128 : Shape := ⟨1, ![128]⟩
abbrev S128x1024 : Shape := ⟨2, ![128, 1024]⟩
abbrev S128x128 : Shape := ⟨2, ![128, 128]⟩
abbrev S128x1 : Shape := ⟨2, ![128, 1]⟩

abbrev nBuf : Space → Nat
  | .hbm => 6
  | .vmem => 3
  | .smem => 0
  | _ => 0

abbrev bufTy : (tb : Table) → Fin (tcTables nBuf tb) → BufTy
  | .hbm, ⟨0, _⟩ => ⟨S128x1x3072, .f32⟩
  | .hbm, ⟨1, _⟩ => ⟨S1x128, .f32⟩
  | .hbm, ⟨2, _⟩ => ⟨S128x3072, .f32⟩
  | .hbm, ⟨3, _⟩ => ⟨S128, .f32⟩
  | .hbm, ⟨4, _⟩ => ⟨S1x128, .f32⟩
  | .hbm, ⟨5, _⟩ => ⟨S128x1024, .f32⟩
  | .local _ .vmem, ⟨0, _⟩ => ⟨S128x1024, .f32⟩
  | .local _ .vmem, ⟨1, _⟩ => ⟨S1x128, .f32⟩
  | .local _ .vmem, ⟨2, _⟩ => ⟨S128x1024, .f32⟩
  | _, _ => ⟨S128x1x3072, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== KeyNormSRefIdeal.lean ====
abbrev S128x1x3072 : Shape := ⟨3, ![128, 1, 3072]⟩
abbrev S1x128 : Shape := ⟨2, ![1, 128]⟩
abbrev S128x1x1024 : Shape := ⟨3, ![128, 1, 1024]⟩
abbrev S128x1x8x128 : Shape := ⟨4, ![128, 1, 8, 128]⟩
abbrev S_ : Shape := ⟨0, ![]⟩
abbrev S128x1x8 : Shape := ⟨3, ![128, 1, 8]⟩
abbrev S128x1x8x1 : Shape := ⟨4, ![128, 1, 8, 1]⟩
abbrev S128 : Shape := ⟨1, ![128]⟩
abbrev S1x1x1x128 : Shape := ⟨4, ![1, 1, 1, 128]⟩
abbrev S128x1024 : Shape := ⟨2, ![128, 1024]⟩

abbrev nBuf : Space → Nat
  | .hbm => 22
  | .vmem => 0
  | .smem => 0
  | _ => 0

abbrev bufTy : (tb : Table) → Fin (tcTables nBuf tb) → BufTy
  | .hbm, ⟨0, _⟩ => ⟨S128x1x3072, .f32⟩
  | .hbm, ⟨1, _⟩ => ⟨S1x128, .f32⟩
  | .hbm, ⟨2, _⟩ => ⟨S128x1x1024, .f32⟩
  | .hbm, ⟨3, _⟩ => ⟨S128x1x8x128, .f32⟩
  | .hbm, ⟨4, _⟩ => ⟨S128x1x8x128, .f32⟩
  | .hbm, ⟨5, _⟩ => ⟨S_, .f32⟩
  | .hbm, ⟨6, _⟩ => ⟨S128x1x8, .f32⟩
  | .hbm, ⟨7, _⟩ => ⟨S128x1x8x1, .f32⟩
  | .hbm, ⟨8, _⟩ => ⟨S_, .f32⟩
  | .hbm, ⟨9, _⟩ => ⟨S128x1x8x1, .f32⟩
  | .hbm, ⟨10, _⟩ => ⟨S128x1x8x1, .f32⟩
  | .hbm, ⟨11, _⟩ => ⟨S_, .f32⟩
  | .hbm, ⟨12, _⟩ => ⟨S128x1x8x1, .f32⟩
  | .hbm, ⟨13, _⟩ => ⟨S128x1x8x1, .f32⟩
  | .hbm, ⟨14, _⟩ => ⟨S128x1x8x1, .f32⟩
  | .hbm, ⟨15, _⟩ => ⟨S128x1x8x128, .f32⟩
  | .hbm, ⟨16, _⟩ => ⟨S128x1x8x128, .f32⟩
  | .hbm, ⟨17, _⟩ => ⟨S128, .f32⟩
  | .hbm, ⟨18, _⟩ => ⟨S1x1x1x128, .f32⟩
  | .hbm, ⟨19, _⟩ => ⟨S128x1x8x128, .f32⟩
  | .hbm, ⟨20, _⟩ => ⟨S128x1x8x128, .f32⟩
  | .hbm, ⟨21, _⟩ => ⟨S128x1024, .f32⟩
  | _, _ => ⟨S128x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== GatesS.lean ====
abbrev S128x1x128 : Shape := ⟨3, ![128, 1, 128]⟩
abbrev S1x16 : Shape := ⟨2, ![1, 16]⟩
abbrev S1x8 : Shape := ⟨2, ![1, 8]⟩
abbrev S128x128 : Shape := ⟨2, ![128, 128]⟩
abbrev S16 : Shape := ⟨1, ![16]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩

abbrev nBuf : Space → Nat
  | .hbm => 33
  | .vmem => 5
  | .smem => 0
  | _ => 0

abbrev bufTy : (tb : Table) → Fin (tcTables nBuf tb) → BufTy
  | .hbm, ⟨0, _⟩ => ⟨S128x1x128, .f32⟩
  | .hbm, ⟨1, _⟩ => ⟨S1x16, .f32⟩
  | .hbm, ⟨2, _⟩ => ⟨S1x16, .f32⟩
  | .hbm, ⟨3, _⟩ => ⟨S1x8, .f32⟩
  | .hbm, ⟨4, _⟩ => ⟨S128x128, .f32⟩
  | .hbm, ⟨5, _⟩ => ⟨S16, .f32⟩
  | .hbm, ⟨6, _⟩ => ⟨S16, .f32⟩
  | .hbm, ⟨7, _⟩ => ⟨S8, .f32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S128x128, .f32⟩
  | .local _ .vmem, ⟨0, _⟩ => ⟨S128x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | _, _ => ⟨S128x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== GatesSRefIdeal.lean ====
abbrev S128x1x128 : Shape := ⟨3, ![128, 1, 128]⟩
abbrev S1x16 : Shape := ⟨2, ![1, 16]⟩
abbrev S1x8 : Shape := ⟨2, ![1, 8]⟩
abbrev S128x1x16 : Shape := ⟨3, ![128, 1, 16]⟩
abbrev S128x1x8 : Shape := ⟨3, ![128, 1, 8]⟩
abbrev S_ : Shape := ⟨0, ![]⟩
abbrev S16 : Shape := ⟨1, ![16]⟩
abbrev S1x1x16 : Shape := ⟨3, ![1, 1, 16]⟩
abbrev S8 : Shape := ⟨1, ![8]⟩
abbrev S1x1x8 : Shape := ⟨3, ![1, 1, 8]⟩
abbrev S128x1x88 : Shape := ⟨3, ![128, 1, 88]⟩
abbrev S128x128 : Shape := ⟨2, ![128, 128]⟩

abbrev nBuf : Space → Nat
  | .hbm => 63
  | .vmem => 0
  | .smem => 0
  | _ => 0

abbrev bufTy : (tb : Table) → Fin (tcTables nBuf tb) → BufTy
  | .hbm, ⟨0, _⟩ => ⟨S128x1x128, .f32⟩
  | .hbm, ⟨1, _⟩ => ⟨S1x16, .f32⟩
  | .hbm, ⟨2, _⟩ => ⟨S1x16, .f32⟩
  | .hbm, ⟨3, _⟩ => ⟨S1x8, .f32⟩
  | .hbm, ⟨4, _⟩ => ⟨S128x1x16, .f32⟩
  | .hbm, ⟨5, _⟩ => ⟨S128x1x16, .f32⟩
  | .hbm, ⟨6, _⟩ => ⟨S128x1x8, .f32⟩
  | .hbm, ⟨7, _⟩ => ⟨S128x1x16, .f32⟩
  | .hbm, ⟨8, _⟩ => ⟨S128x1x16, .f32⟩
  | .hbm, ⟨9, _⟩ => ⟨S_, .f32⟩
  | .hbm, ⟨10, _⟩ => ⟨S128x1x16, .f32⟩
  | .hbm, ⟨11, _⟩ => ⟨S128x1x16, .f32⟩
  | .hbm, ⟨12, _⟩ => ⟨S_, .f32⟩
  | .hbm, ⟨13, _⟩ => ⟨S128x1x16, .f32⟩
  | .hbm, ⟨14, _⟩ => ⟨S128x1x16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S1x1x16, .f32⟩
  | .hbm, ⟨20, _⟩ => ⟨S128x1x16, .f32⟩
  | .hbm, ⟨21, _⟩ => ⟨S128x1x16, .f32⟩
  | .hbm, ⟨22, _⟩ => ⟨S_, .f32⟩
  | .hbm, ⟨23, _⟩ => ⟨S128x1x16, .f32⟩
  | .hbm, ⟨24, _⟩ => ⟨S128x1x16, .f32⟩
  | .hbm, ⟨25, _⟩ => ⟨S128x1x16, .f32⟩
  | .hbm, ⟨26, _⟩ => ⟨S128x1x16, .f32⟩
  | .hbm, ⟨27, _⟩ => ⟨S128x1x16, .i1⟩
  | .hbm, ⟨28, _⟩ => ⟨S128x1x16, .f32⟩
  | .hbm, ⟨29, _⟩ => ⟨S128x1x16, .f32⟩
  | .hbm, ⟨30, _⟩ => ⟨S128x1x16, .f32⟩
  | .hbm, ⟨31, _⟩ => ⟨S128x1x16, .f32⟩
  | .hbm, ⟨32, _⟩ => ⟨S128x1x16, .f32⟩
  | .hbm, ⟨33, _⟩ => ⟨S128x1x16, .f32⟩
  | .hbm, ⟨34, _⟩ => ⟨S128x1x16, .f32⟩
  | .hbm, ⟨35, _⟩ => ⟨S128x1x16, .f32⟩
  | .hbm, ⟨36, _⟩ => ⟨S1x1x16, .f32⟩
  | .hbm, ⟨37, _⟩ => ⟨S128x1x16, .f32⟩
  | .hbm, ⟨38, _⟩ => ⟨S128x1x16, .f32⟩
  | .hbm, ⟨39, _⟩ => ⟨S8, .f32⟩
  | .hbm, ⟨40, _⟩ => ⟨S1x1x8, .f32⟩
  | .hbm, ⟨41, _⟩ => ⟨S128x1x8, .f32⟩
  | .hbm, ⟨42, _⟩ => ⟨S128x1x8, .f32⟩
  | .hbm, ⟨43, _⟩ => ⟨S128x1x8, .f32⟩
  | .hbm, ⟨44, _⟩ => ⟨S_, .f32⟩
  | .hbm, ⟨45, _⟩ => ⟨S128x1x8, .f32⟩
  | .hbm, ⟨46, _⟩ => ⟨S128x1x8, .f32⟩
  | .hbm, ⟨47, _⟩ => ⟨S128x1x8, .f32⟩
  | .hbm, ⟨48, _⟩ => ⟨S128x1x8, .f32⟩
  | .hbm, ⟨49, _⟩ => ⟨S128x1x8, .i1⟩
  | .hbm, ⟨50, _⟩ => ⟨S128x1x8, .f32⟩
  | .hbm, ⟨51, _⟩ => ⟨S128x1x8, .f32⟩
  | .hbm, ⟨52, _⟩ => ⟨S128x1x8, .f32⟩
  | .hbm, ⟨53, _⟩ => ⟨S128x1x8, .f32⟩
  | .hbm, ⟨54, _⟩ => ⟨S128x1x8, .f32⟩
  | .hbm, ⟨55, _⟩ => ⟨S128x1x8, .f32⟩
  | .hbm, ⟨56, _⟩ => ⟨S128x1x8, .f32⟩
  | .hbm, ⟨57, _⟩ => ⟨S128x1x8, .f32⟩
  | .hbm, ⟨58, _⟩ => ⟨S128x1x8, .f32⟩
  | .hbm, ⟨59, _⟩ => ⟨S_, .f32⟩
  | .hbm, ⟨60, _⟩ => ⟨S128x1x88, .f32⟩
  | .hbm, ⟨61, _⟩ => ⟨S128x1x128, .f32⟩
  | .hbm, ⟨62, _⟩ => ⟨S128x128, .f32⟩
  | _, _ => ⟨S128x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v24 : Ref sig .tc := ⟨.hbm, 58, rfl⟩
abbrev main_cst_1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩

abbrev nD : Nat := 1
abbrev τ : Topo := Topo.v7x

variable {F : FTy → Type} [FloatOps F]
-- ==== RowNorm.lean ====
abbrev S2x4096x4096 : Shape := ⟨3, ![2, 4096, 4096]⟩
abbrev S1x4096 : Shape := ⟨2, ![1, 4096]⟩
abbrev S8192x4096 : Shape := ⟨2, ![8192, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowNormRefIdeal.lean ====
abbrev S2x4096x4096 : Shape := ⟨3, ![2, 4096, 4096]⟩
abbrev S1x4096 : Shape := ⟨2, ![1, 4096]⟩
abbrev S_ : Shape := ⟨0, ![]⟩
abbrev S2x4096 : Shape := ⟨2, ![2, 4096]⟩
abbrev S2x4096x1 : Shape := ⟨3, ![2, 4096, 1]⟩
abbrev S4096 : Shape := ⟨1, ![4096]⟩
abbrev S1x1x4096 : Shape := ⟨3, ![1, 1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S8192x4096, .f32⟩
  | .hbm, ⟨20, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== MemAttn.lean ====
abbrev S2x4096x1024 : Shape := ⟨3, ![2, 4096, 1024]⟩
abbrev S2x256x4x256 : Shape := ⟨4, ![2, 256, 4, 256]⟩
abbrev S1x256 : Shape := ⟨2, ![1, 256]⟩
abbrev S8192x1024 : Shape := ⟨2, ![8192, 1024]⟩
abbrev S512x1024 : Shape := ⟨2, ![512, 1024]⟩
abbrev S256 : Shape := ⟨1, ![256]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S256x256 : Shape := ⟨2, ![256, 256]⟩

abbrev nBuf : Space → Nat
  | .hbm => 12
  | .vmem => 9
  | .smem => 0
  | _ => 0

abbrev bufTy : (tb : Table) → Fin (tcTables nBuf tb) → BufTy
  | .hbm, ⟨0, _⟩ => ⟨S2x4096x1024, .f32⟩
  | .hbm, ⟨1, _⟩ => ⟨S2x256x4x256, .f32⟩
  | .hbm, ⟨2, _⟩ => ⟨S2x256x4x256, .f32⟩
  | .hbm, ⟨3, _⟩ => ⟨S1x256, .f32⟩
  | .hbm, ⟨4, _⟩ => ⟨S8192x1024, .f32⟩
  | .hbm, ⟨5, _⟩ => ⟨S512x1024, .f32⟩
  | .hbm, ⟨6, _⟩ => ⟨S512x1024, .bf16⟩
  | .hbm, ⟨7, _⟩ => ⟨S512x1024, .f32⟩
  | .hbm, ⟨8, _⟩ => ⟨S512x1024, .bf16⟩
  | .hbm, ⟨9, _⟩ => ⟨S256, .f32⟩
  | .hbm, ⟨10, _⟩ => ⟨S1x256, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnRefIdeal.lean ====
abbrev S2x4096x1024 : Shape := ⟨3, ![2, 4096, 1024]⟩
abbrev S2x256x4x256 : Shape := ⟨4, ![2, 256, 4, 256]⟩
abbrev S1x256 : Shape := ⟨2, ![1, 256]⟩
abbrev S2x4096x4x256 : Shape := ⟨4, ![2, 4096, 4, 256]⟩
abbrev S_ : Shape := ⟨0, ![]⟩
abbrev S2x4096x4 : Shape := ⟨3, ![2, 4096, 4]⟩
abbrev S2x4096x4x1 : Shape := ⟨4, ![2, 4096, 4, 1]⟩
abbrev S256 : Shape := ⟨1, ![256]⟩
abbrev S1x1x1x256 : Shape := ⟨4, ![1, 1, 1, 256]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x256x4x256, .f32⟩
  | .hbm, ⟨2, _⟩ => ⟨S2x256x4x256, .f32⟩
  | .hbm, ⟨3, _⟩ => ⟨S1x256, .f32⟩
  | .hbm, ⟨4, _⟩ => ⟨S2x4096x4x256, .f32⟩
  | .hbm, ⟨5, _⟩ => ⟨S2x4096x4x256, .f32⟩
  | .hbm, ⟨6, _⟩ => ⟨S_, .f32⟩
  | .hbm, ⟨7, _⟩ => ⟨S2x4096x4, .f32⟩
  | .hbm, ⟨8, _⟩ => ⟨S2x4096x4x1, .f32⟩
  | .hbm, ⟨9, _⟩ => ⟨S_, .f32⟩
  | .hbm, ⟨10, _⟩ => ⟨S2x4096x4x1, .f32⟩
  | .hbm, ⟨11, _⟩ => ⟨S2x4096x4x1, .f32⟩
  | .hbm, ⟨12, _⟩ => ⟨S_, .f32⟩
  | .hbm, ⟨13, _⟩ => ⟨S2x4096x4x1, .f32⟩
  | .hbm, ⟨14, _⟩ => ⟨S2x4096x4x1, .f32⟩
  | .hbm, ⟨15, _⟩ => ⟨S2x4096x4x1, .f32⟩
  | .hbm, ⟨16, _⟩ => ⟨S2x4096x4x256, .f32⟩
  | .hbm, ⟨17, _⟩ => ⟨S2x4096x4x256, .f32⟩
  | .hbm, ⟨18, _⟩ => ⟨S256, .f32⟩
  | .hbm, ⟨19, _⟩ => ⟨S1x1x1x256, .f32⟩
  | .hbm, ⟨20, _⟩ => ⟨S2x4096x4x256, .f32⟩
  | .hbm, ⟨21, _⟩ => ⟨S2x4096x4x256, .f32⟩
  | .hbm, ⟨22, _⟩ => ⟨S2x4x4096x256, .f32⟩
  | .hbm, ⟨23, _⟩ => ⟨S_, .f32⟩
  | .hbm, ⟨24, _⟩ => ⟨S2x4x4096x256, .f32⟩
  | .hbm, ⟨25, _⟩ => ⟨S2x4x4096x256, .f32⟩
  | .hbm, ⟨26, _⟩ => ⟨S_, .f32⟩
  | .hbm, ⟨27, _⟩ => ⟨S2x4x4096, .f32⟩
  | .hbm, ⟨28, _⟩ => ⟨S_, .f32⟩
  | .hbm, ⟨29, _⟩ => ⟨S2x4x4096, .f32⟩
  | .hbm, ⟨30, _⟩ => ⟨S2x4x4096, .f32⟩
  | .hbm, ⟨31, _⟩ => ⟨S2x4x4096x1, .f32⟩
  | .hbm, ⟨32, _⟩ => ⟨S2x4x4096x256, .f32⟩
  | .hbm, ⟨33, _⟩ => ⟨S2x4x4096x256, .f32⟩
  | .hbm, ⟨34, _⟩ => ⟨S2x4x4096x256, .f32⟩
  | .hbm, ⟨35, _⟩ => ⟨S_, .f32⟩
  | .hbm, ⟨36, _⟩ => ⟨S2x4x4096, .f32⟩
  | .hbm, ⟨37, _⟩ => ⟨S2x4x4096x1, .f32⟩
  | .hbm, ⟨38, _⟩ => ⟨S2x4x4096x256, .f32⟩
  | .hbm, ⟨39, _⟩ => ⟨S2x4x4096x256, .f32⟩
  | .hbm, ⟨40, _⟩ => ⟨S2x4x256x4096, .f32⟩
  | .hbm, ⟨41, _⟩ => ⟨S2x4096x4x256, .f32⟩
  | .hbm, ⟨42, _⟩ => ⟨S8192x1024, .f32⟩
  | .hbm, ⟨43, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Fox.Loads.lean ====
/- What the attention kernel loads from its staged blocks, element by element: the offsets of its loads as numbers,
   the number of trips its loops make, and each load as a read of the staged block. -/
module

public import proofs.«01_k».proof.Proof.Gen.KernelIdeal.Value
public import Idealize.ShloMosaic.Lib.Pointwise
public import Idealize.ShloMosaic.Lib.Pipeline.ValueKit
public import Idealize.ShloMosaic.Lib.WholeRead

@[expose] public section

set_option maxRecDepth 16384

noncomputable section

namespace Cert.KernelIdeal.Fox

open Cert.KernelIdeal Cert.KernelIdeal.Gen Idealize.ShloMosaic Idealize.ShloMosaic.TcCoe Idealize.SL.Sem

/-- The query block of a grid point, as a number below eight. -/
def qb (i : grid0.Coords) : ℕ := (i 2).val

theorem qb_lt (i : grid0.Coords) : qb i < 8 := (i 2).isLt

/-- The loop over the blocks before the diagonal one makes as many trips as there are such blocks. -/
theorem trips1 (i : grid0.Coords) : (k0_t1_loop i).trips = qb i :=
  (by decide +kernel : ∀ n : Fin 8, Scf.trips (0#32) (Scalar.addi (0#32) (Scalar.muli (Scalar.divsi (Scalar.subi (BitVec.ofNat 32 n.val) (0#32)) (1#32)) (1#32))) (1#32) = n.val) (i 2)

/-- The remainder loop makes none. -/
theorem trips2 (i : grid0.Coords) : (k0_t2_loop i).trips = 0 :=
  (by decide +kernel : ∀ n : Fin 8, Scf.trips (Scalar.addi (0#32) (Scalar.muli (Scalar.divsi (Scalar.subi (BitVec.ofNat 32 n.val) (0#32)) (1#32)) (1#32)))
    (Scalar.addi (0#32) (Scalar.subi (BitVec.ofNat 32 n.val) (0#32))) (1#32) = 0) (i 2)

theorem trip_lt (i : grid0.Coords) (k : Fin (k0_t1_loop i).trips) : k.val < qb i := lt_of_lt_of_eq k.isLt (trips1 i)

theorem word_diag (n : Fin 8) : BitVec.toNat (Scalar.indexCast (Scalar.muli (BitVec.ofNat 32 n.val) (512#32))) = 512 * n.val := by
  revert n; decide +kernel

theorem word_trip (n : Fin 8) :
    BitVec.toNat (Scalar.indexCast (Scalar.muli (Scf.iv (0#32) (1#32) n.val) (512#32))) = 512 * n.val := by
  revert n; decide +kernel

theorem off1 (i : grid0.Coords) : k0_off1 i = ![0, 0, 512 * qb i] := congrArg (fun n => ![0, 0, n]) (word_diag (i 2))
theorem off2 (i : grid0.Coords) : k0_off2 i = ![1, 0, 512 * qb i] := congrArg (fun n => ![1, 0, n]) (word_diag (i 2))
theorem off11 (i : grid0.Coords) : k0_off11 i = ![512 * qb i, 0] := congrArg (fun n => ![n, 0]) (word_diag (i 2))
theorem off12 (i : grid0.Coords) : k0_off12 i = ![512 * qb i, 128] := congrArg (fun n => ![n, 128]) (word_diag (i 2))

theorem word_k (i : grid0.Coords) (k : Fin (k0_t1_loop i).trips) :
    BitVec.toNat (Scalar.indexCast (Scalar.muli (Scf.iv (0#32) (1#32) k.val) (512#32))) = 512 * k.val :=
  word_trip ⟨k.val, (trip_lt i k).trans (qb_lt i)⟩

theorem off3 (i : grid0.Coords) (k : Fin (k0_t1_loop i).trips) : k0_off3 i k = ![512 * k.val, 0] :=
  congrArg (fun n => ![n, 0]) (word_k i k)
theorem off4 (i : grid0.Coords) (k : Fin (k0_t1_loop i).trips) : k0_off4 i k = ![0, 0, 512 * k.val] :=
  congrArg (fun n => ![0, 0, n]) (word_k i k)
theorem off5 (i : grid0.Coords) (k : Fin (k0_t1_loop i).trips) : k0_off5 i k = ![512 * k.val, 128] :=
  congrArg (fun n => ![n, 128]) (word_k i k)
theorem off6 (i : grid0.Coords) (k : Fin (k0_t1_loop i).trips) : k0_off6 i k = ![1, 0, 512 * k.val] :=
  congrArg (fun n => ![1, 0, n]) (word_k i k)

/-- A load of 512 rows and one head's 128 columns of a staged key or value array. -/
theorem load_kv {M : Memref sig .tc .vmem S4096x256 .bf16} (hM : M.IsWhole) (X : Vec Ideal S4096x256 .bf16) {off : Fin 2 → ℕ}
    {a b : ℕ} (e : off = ![a, b]) (inb : ∀ z, off z + S512x128.size z ≤ S4096x256.size z) (x : Fin 512) (d : Fin 128) (hx : a + x.val < 4096)
    (hd : b + d.val < 256) :
    View.readAt (Elt Ideal) M.view (Rect.unit (s := S4096x256) off S512x128.size inb).toLoadRect (hM.unread X) (ix2 x d)
      = X (ix2 ⟨a + x.val, hx⟩ ⟨b + d.val, hd⟩) := by
  subst e
  rw [hM.readAt_unread]
  congr 1
  funext z
  fin_cases z <;> apply Fin.ext <;> simp [LoadRect.idx, Rect.unit, Rect.toLoadRect]

/-- A load of one head's 128 columns of the staged query block. -/
theorem load_q {M : Memref sig .tc .vmem S512x256 .bf16} (hM : M.IsWhole) (X : Vec Ideal S512x256 .bf16) {off : Fin 2 → ℕ}
    {b : ℕ} (e : off = ![0, b]) (inb : ∀ z, off z + S512x128.size z ≤ S512x256.size z) (x : Fin 512) (d : Fin 128)
    (hd : b + d.val < 256) :
    View.readAt (Elt Ideal) M.view (Rect.unit (s := S512x256) off S512x128.size inb).toLoadRect (hM.unread X) (ix2 x d)
      = X (ix2 x ⟨b + d.val, hd⟩) := by
  subst e
  rw [hM.readAt_unread]
  congr 1
  funext z
  fin_cases z <;> apply Fin.ext <;> simp [LoadRect.idx, Rect.unit, Rect.toLoadRect]

/-- A load of 512 of one head's summed log gates. -/
theorem load_c {M : Memref sig .tc .vmem S2x1x4096 .f32} (hM : M.IsWhole) (X : Vec Ideal S2x1x4096 .f32) {off : Fin 3 → ℕ}
    {h a : ℕ} (e : off = ![h, 0, a]) (inb : ∀ z, off z + S1x1x512.size z ≤ S2x1x4096.size z) (x : Fin 512) (hh : h < 2) (hx : a + x.val < 4096) :
    View.readAt (Elt Ideal) M.view (Rect.unit (s := S2x1x4096) off S1x1x512.size inb).toLoadRect (hM.unread X) (ix3 0 0 x)
      = X (ix3 ⟨h, hh⟩ 0 ⟨a + x.val, hx⟩) := by
  subst e
  rw [hM.readAt_unread]
  congr 1
  funext z
  fin_cases z <;> apply Fin.ext <;> simp [LoadRect.idx, Rect.unit, Rect.toLoadRect]

end Cert.KernelIdeal.Fox

end
-- ==== Proof.Fox.Online.lean ====
/- The mathematics of softmax attention taken block by block, over the extended reals, with no kernel in sight:
   the running maximum, the running sum of exponentials and the running weighted sum of the values, each corrected
   by `exp (old maximum - new maximum)` when a block of 512 scores is met, end at the plain softmax's sums. -/
module

public import Idealize.ShloMosaic.PureOps.Ideal
public import Mathlib.Data.EReal.Inv

@[expose] public section

noncomputable section

namespace Cert.Fox

open Idealize.ShloMosaic

/-- An extended real that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) (f : ι → EReal) (h : ∀ i, IsReal (f i)) : IsReal (∑ i ∈ s, f i) := by
  classical
  induction s using Finset.induction with
  | empty => exact ⟨0, by simp⟩
  | insert i s hi ih => rw [Finset.sum_insert hi]; exact (h i).add ih

theorem IsReal.ne_top {x : EReal} : IsReal x → x ≠ ⊤
  | ⟨_, h⟩ => h ▸ EReal.coe_ne_top _

theorem IsReal.ne_bot {x : EReal} : IsReal x → x ≠ ⊥
  | ⟨_, h⟩ => h ▸ EReal.coe_ne_bot _

theorem isReal_of {x : EReal} (ht : x ≠ ⊤) (hb : x ≠ ⊥) : IsReal x := ⟨x.toReal, (EReal.coe_toReal ht hb).symm⟩

/-- The pattern of minus infinity is the least extended real. -/
theorem minus_inf : Ideal.ofBits .f32 0xFF800000#32 = ⊥ := by simp [Ideal.ofBits, Ideal.ieee]

/-- The pattern of plus infinity is the greatest extended real. -/
theorem plus_inf : Ideal.ofBits .f32 0x7F800000#32 = ⊤ := by simp [Ideal.ofBits, Ideal.ieee]

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

/-- A finite sum times a nonnegative real number, term by term. -/
theorem sum_mul_of_nonneg {ι : Type} (s : Finset ι) (f : ι → EReal) {x : EReal} (h0 : 0 ≤ x) (ht : x ≠ ⊤) :
    (∑ i ∈ s, f i) * x = ∑ i ∈ s, f i * x := by
  classical
  induction s using Finset.induction with
  | empty => simp
  | insert i s hi ih =>
    rw [Finset.sum_insert hi, Finset.sum_insert hi, EReal.right_distrib_of_nonneg_of_ne_top h0 ht, ih]

/-- The correction of one exponential: from the maximum `m` to the maximum `m'`. -/
theorem exp_shift {x m m' : EReal} (hx : x ≠ ⊤) (hm : IsReal m) (hm' : IsReal m') :
    Ideal.exp (x - m) * Ideal.exp (m - m') = Ideal.exp (x - m') := by
  obtain ⟨a, rfl⟩ := hm
  obtain ⟨b, rfl⟩ := hm'
  induction x with
  | bot => rw [EReal.bot_sub, EReal.bot_sub, Ideal.exp_bot, zero_mul]
  | top => exact absurd rfl hx
  | coe r =>
    rw [← EReal.coe_sub, ← EReal.coe_sub, ← EReal.coe_sub, Ideal.exp_coe, Ideal.exp_coe, Ideal.exp_coe,
      ← EReal.coe_mul, ← Real.exp_add]
    congr 2; ring

/-! ## The running values -/

/-- The maximum after a block of 512 scores. -/
def runM (m : EReal) (s : Fin 512 → EReal) : EReal :=
  max m (Finset.univ.fold max (Ideal.ofBits .f32 0xFF800000#32) s)

/-- The sum of exponentials after a block. -/
def runL (m l : EReal) (s : Fin 512 → EReal) : EReal :=
  l * Ideal.exp (m - runM m s) + ∑ x, Ideal.exp (s x - runM m s)

/-- The weighted sum of values after a block. -/
def runA (m a : EReal) (s v : Fin 512 → EReal) : EReal :=
  a * Ideal.exp (m - runM m s) + ∑ x, Ideal.exp (s x - runM m s) * v x

/-- The greatest of the first `n` scores. -/
def top (T : ℕ → EReal) (n : ℕ) : EReal := (Finset.range n).sup T

/-- A fold of maxima over `Fin n` is the greatest of the first `n`. -/
theorem fold_eq_top (T : ℕ → EReal) (n : ℕ) :
    (Finset.univ : Finset (Fin n)).fold max ⊥ (fun x : Fin n => T x) = top T n := by
  have e : (Finset.univ : Finset (Fin n)).fold max ⊥ (fun x : Fin n => T x) = Finset.univ.sup fun x : Fin n => T x := rfl
  rw [e]
  refine le_antisymm (Finset.sup_le fun x _ => Finset.le_sup (f := T) (Finset.mem_range.2 x.isLt))
    (Finset.sup_le fun j hj => ?_)
  exact Finset.le_sup (f := fun x : Fin n => T x) (Finset.mem_univ ⟨j, Finset.mem_range.1 hj⟩)

theorem top_ne_top {T : ℕ → EReal} (hT : ∀ j, T j ≠ ⊤) (n : ℕ) : top T n ≠ ⊤ :=
  ((Finset.sup_lt_iff bot_lt_top).2 fun j _ => lt_top_iff_ne_top.2 (hT j)).ne

theorem top_isReal {T : ℕ → EReal} (hT : ∀ j, T j ≠ ⊤) (h0 : T 0 ≠ ⊥) {n : ℕ} (hn : 0 < n) : IsReal (top T n) :=
  isReal_of (top_ne_top hT n)
    ((bot_lt_iff_ne_bot.2 h0).trans_le (Finset.le_sup (f := T) (Finset.mem_range.2 hn))).ne'

theorem top_add (T : ℕ → EReal) (n k : ℕ) : top T (n + k) = max (top T n) (top (fun x => T (n + x)) k) := by
  refine le_antisymm (Finset.sup_le fun j hj => ?_) (max_le (Finset.sup_le fun j hj => ?_) (Finset.sup_le fun j hj => ?_))
  · rw [Finset.mem_range] at hj
    by_cases h : j < n
    · exact le_max_of_le_left (Finset.le_sup (f := T) (Finset.mem_range.2 h))
    · refine le_max_of_le_right ?_
      have := Finset.le_sup (f := fun x => T (n + x)) (Finset.mem_range.2 (show j - n < k by omega))
      simp only [Nat.add_sub_cancel' (not_lt.1 h)] at this
      exact this
  · exact Finset.le_sup (f := T) (Finset.mem_range.2 (by have := Finset.mem_range.1 hj; omega))
  · exact Finset.le_sup (f := T) (Finset.mem_range.2 (by have := Finset.mem_range.1 hj; omega))

/-- What the running values are once the first `n` scores `T` (with values `U`) have been met. -/
structure Inv (T U : ℕ → EReal) (n : ℕ) (m l a : EReal) : Prop where
  best : m = top T n
  sum : l = ∑ j ∈ Finset.range n, Ideal.exp (T j - m)
  val : a = ∑ j ∈ Finset.range n, Ideal.exp (T j - m) * U j

/-- Before any score: minus infinity, zero, zero. -/
theorem Inv.zero (T U : ℕ → EReal) : Inv T U 0 (Ideal.ofBits .f32 0xFF800000#32) 0 0 :=
  ⟨by rw [minus_inf]; simp [top], by simp, by simp⟩

/-- ONE BLOCK: the running values after 512 more scores. -/
theorem Inv.step {T U : ℕ → EReal} (hT : ∀ j, T j ≠ ⊤) (h0 : T 0 ≠ ⊥) {n : ℕ} {m l a : EReal} (h : Inv T U n m l a)
    {s v : Fin 512 → EReal} (hs : ∀ x, s x = T (n + x)) (hv : ∀ x, v x = U (n + x)) :
    Inv T U (n + 512) (runM m s) (runL m l s) (runA m a s v) := by
  have es : s = fun x : Fin 512 => T (n + x) := funext hs
  have ev : v = fun x : Fin 512 => U (n + x) := funext hv
  have hM : runM m s = top T (n + 512) := by
    rw [top_add, runM, minus_inf, es, fold_eq_top (fun x => T (n + x)), h.best]
  have hR : IsReal (runM m s) := hM ▸ top_isReal hT h0 (by omega)
  have hα : Ideal.exp (m - runM m s) ≠ ⊤ := by
    refine exp_ne_top ?_
    obtain ⟨r, hr⟩ := hR
    rw [hr]
    have hm : m ≠ ⊤ := h.best ▸ top_ne_top hT n
    induction m with
    | bot => simp
    | top => exact absurd rfl hm
    | coe q => rw [← EReal.coe_sub]; exact EReal.coe_ne_top _
  have hsh : ∀ j ∈ Finset.range n, Ideal.exp (T j - m) * Ideal.exp (m - runM m s) = Ideal.exp (T j - runM m s) := by
    intro j hj
    have hn : 0 < n := by have := Finset.mem_range.1 hj; omega
    exact exp_shift (hT j) (h.best ▸ top_isReal hT h0 hn) hR
  refine ⟨hM, ?_, ?_⟩
  · rw [runL, Finset.sum_range_add]
    congr 1
    · conv_lhs => rw [h.sum]
      rw [sum_mul_of_nonneg _ _ (exp_nonneg _) hα]
      exact Finset.sum_congr rfl hsh
    · rw [Finset.sum_range]
      exact Finset.sum_congr rfl fun x _ => by rw [hs]
  · rw [runA, Finset.sum_range_add]
    congr 1
    · conv_lhs => rw [h.val]
      rw [sum_mul_of_nonneg _ _ (exp_nonneg _) hα]
      refine Finset.sum_congr rfl fun j hj => ?_
      rw [mul_right_comm, hsh j hj]
    · rw [Finset.sum_range]
      exact Finset.sum_congr rfl fun x _ => by rw [hs, hv]

/-- The softmax of `N` scores against the values, as a plain program writes it. -/
def soft (T U : ℕ → EReal) (N : ℕ) : EReal :=
  ∑ x : Fin N, U x * Ideal.div (Ideal.exp (T x - max ⊥ ((Finset.univ : Finset (Fin N)).fold max ⊥ fun y : Fin N => T y)))
    (0 + ∑ y : Fin N, Ideal.exp (T y - max ⊥ ((Finset.univ : Finset (Fin N)).fold max ⊥ fun y : Fin N => T y)))

/-- THE END: once every score that is not minus infinity has been met, the quotient of the running values is the
    softmax of all `N` scores against the values. -/
theorem Inv.quotient {T U : ℕ → EReal} (hT : ∀ j, T j ≠ ⊤) (h0 : T 0 ≠ ⊥) {n N : ℕ} {m l a : EReal}
    (h : Inv T U n m l a) (hn : 0 < n) (hN : n ≤ N) (hbot : ∀ j, n ≤ j → j < N → T j = ⊥) :
    Ideal.div a l = soft T U N := by
  have hmx : max ⊥ ((Finset.univ : Finset (Fin N)).fold max ⊥ fun y : Fin N => T y) = m := by
    rw [max_eq_right bot_le, fold_eq_top, h.best]
    obtain ⟨k, rfl⟩ := Nat.exists_eq_add_of_le hN
    rw [top_add]
    refine max_eq_left (Finset.sup_le fun j hj => ?_)
    have := Finset.mem_range.1 hj
    simp only [hbot (n + j) (by omega) (by omega), bot_le]
  have hm : IsReal m := h.best ▸ top_isReal hT h0 hn
  have hz : ∀ j, n ≤ j → j < N → Ideal.exp (T j - m) = 0 := by
    intro j h1 h2
    rw [hbot j h1 h2, EReal.bot_sub, Ideal.exp_bot]
  have hsub : Finset.range n ⊆ Finset.range N := Finset.range_subset_range.2 hN
  have hl : ∑ y : Fin N, Ideal.exp (T y - m) = l := by
    rw [← Finset.sum_range (fun j => Ideal.exp (T j - m)), h.sum]
    refine (Finset.sum_subset hsub fun j hj hj' => hz j ?_ (Finset.mem_range.1 hj)).symm
    simpa using hj'
  -- the sum of exponentials is a positive real number
  have hpos : 0 < l := by
    rw [h.sum]
    refine lt_of_lt_of_le ?_ (Finset.single_le_sum (f := fun j => Ideal.exp (T j - m)) (fun j _ => exp_nonneg _) (Finset.mem_range.2 hn))
    obtain ⟨r, hr⟩ := hm
    obtain ⟨t, ht⟩ := isReal_of (hT 0) h0
    simp only [hr, ht, ← EReal.coe_sub, Ideal.exp_coe]
    exact_mod_cast Real.exp_pos _
  have hreal : IsReal l := by
    rw [h.sum]
    refine IsReal.sum _ _ fun j => ?_
    refine isReal_of (exp_ne_top ?_) (lt_of_lt_of_le EReal.bot_lt_zero (exp_nonneg _)).ne'
    obtain ⟨r, hr⟩ := hm
    rw [hr]
    have := hT j
    generalize T j = x at this
    induction x with
    | bot => simp
    | top => exact absurd rfl this
    | coe q => rw [← EReal.coe_sub]; exact EReal.coe_ne_top _
  obtain ⟨L, hL⟩ := hreal
  have hLpos : 0 < L := by rw [hL] at hpos; exact_mod_cast hpos
  have hdiv : ∀ x : EReal, Ideal.div x l = x * ((1 / L : ℝ) : EReal) := fun x => by rw [hL, Ideal.div_coe hLpos.ne']
  rw [soft]
  simp only [hmx]
  rw [zero_add, hl]
  simp only [hdiv]
  rw [h.val, sum_mul_of_nonneg _ _ (by exact_mod_cast (one_div_pos.2 hLpos).le) (EReal.coe_ne_top _),
    ← Finset.sum_range (fun j => U j * (Ideal.exp (T j - m) * ((1 / L : ℝ) : EReal)))]
  refine (Finset.sum_congr rfl fun j _ => ?_).trans (Finset.sum_subset hsub fun j hj hj' => ?_)
  · rw [mul_comm (Ideal.exp _) (U j), mul_assoc]
  · rw [hz j (by simpa using hj') (Finset.mem_range.1 hj), zero_mul, mul_zero]

end Cert.Fox

end
-- ==== Proof.Fox.Trip.lean ====
/- One trip of the attention kernel's loop, element by element: the running maximum, sum and weighted values of each of
   the grid point's two heads after a block of 512 keys. -/
module

public import proofs.«01_k».proof.Proof.Fox.Loads
public import proofs.«01_k».proof.Proof.Fox.Online

@[expose] public section

set_option maxRecDepth 16384

noncomputable section

namespace Cert.KernelIdeal.Fox

open Cert.KernelIdeal Cert.KernelIdeal.Gen Idealize.ShloMosaic Idealize.ShloMosaic.TcCoe Idealize.SL.Sem Cert.Fox

/-- One unmasked score: a query row against a key row, scaled, plus the difference of the summed log gates. -/
def score (q k : Fin 128 → EReal) (cq ck : EReal) : EReal :=
  (∑ d, q d * k d) * Ideal.ofBits .f32 0x3DB504F3#32 + (cq - ck)

section Payloads

variable (q : FVec Ideal S512x128 .bf16) (cq m l : FVec Ideal S512x1 .f32) (a : FVec Ideal S512x128 .f32)
  (k v : Vec Ideal S512x128 .bf16) (ck : Vec Ideal S1x1x512 .f32) (s : FVec Ideal S512x512 .f32) (r : Fin 512) (d : Fin 128)

theorem pay2_at (x : Fin 512) : k0_pay2 q cq k ck (ix2 r x)
    = score (fun d => q (ix2 r d)) (fun d => k (ix2 x d)) (cq (ix2 r 0)) (ck (ix3 0 0 x)) := by
  pointwise [k0_pay2, score]

theorem pay3_at (x : Fin 512) : k0_pay3 q cq k ck (ix2 r x)
    = score (fun d => q (ix2 r d)) (fun d => k (ix2 x d)) (cq (ix2 r 0)) (ck (ix3 0 0 x)) := by
  pointwise [k0_pay3, score]

/-- Head 0's maximum. -/
theorem max0 : k0_pay4 q cq m k ck (ix2 r 0) = runM (m (ix2 r 0)) fun x => k0_pay2 q cq k ck (ix2 r x) := by
  pointwise [k0_pay4, runM]

/-- Head 0's sum of exponentials. -/
theorem sum0 : k0_pay7 q cq m l k ck (ix2 r 0)
    = runL (m (ix2 r 0)) (l (ix2 r 0)) fun x => k0_pay2 q cq k ck (ix2 r x) := by
  pointwise [k0_pay7, k0_pay5, k0_pay6, runL, max0]

/-- Head 0's weighted values. -/
theorem val0 : k0_pay28 (k0_pay6 q cq m k ck) (k0_pay8 v) (k0_pay9 q cq m a k ck) (ix2 r d)
    = runA (m (ix2 r 0)) (a (ix2 r d)) (fun x => k0_pay2 q cq k ck (ix2 r x)) fun x => v (ix2 x d) := by
  pointwise [k0_pay28, k0_pay8, k0_pay9, k0_pay5, k0_pay6, runA, max0]

/-- Head 1's maximum. -/
theorem max1 : k0_pay29 m s (ix2 r 0) = runM (m (ix2 r 0)) fun x => s (ix2 r x) := by
  pointwise [k0_pay29, runM]

/-- Head 1's sum of exponentials. -/
theorem sum1 : k0_pay32 m l s (ix2 r 0) = runL (m (ix2 r 0)) (l (ix2 r 0)) fun x => s (ix2 r x) := by
  pointwise [k0_pay32, k0_pay30, k0_pay31, runL, max1]

/-- Head 1's weighted values. -/
theorem val1 : k0_pay33 m a s v (ix2 r d)
    = runA (m (ix2 r 0)) (a (ix2 r d)) (fun x => s (ix2 r x)) fun x => v (ix2 x d) := by
  pointwise [k0_pay33, k0_pay30, k0_pay31, runA, max1]

/-- The scores of a diagonal block's row: minus infinity past the row itself. -/
def diag (q : FVec Ideal S512x128 .bf16) (cq : FVec Ideal S512x1 .f32) (k : Vec Ideal S512x128 .bf16) (ck : Vec Ideal S1x1x512 .f32)
    (r : Fin 512) : Fin 512 → EReal := fun x =>
  if x.val ≤ r.val then score (fun d => q (ix2 r d)) (fun d => k (ix2 x d)) (cq (ix2 r 0)) (ck (ix3 0 0 x)) else ⊥

/-- The signed comparison of two lane numbers. -/
theorem lanes_le (x r : Fin 512) (p n : EReal) :
    Scalar.select (IntOp.cmpi CmpIPredicate.sle (BitVec.ofNat 32 x.val) (BitVec.ofNat 32 r.val)) p n = if x.val ≤ r.val then p else n := by
  have h : IntOp.cmpi CmpIPredicate.sle (BitVec.ofNat 32 x.val) (BitVec.ofNat 32 r.val) = if x.val ≤ r.val then 1#1 else 0#1 := by
    word_cmp
    by_cases hx : x.val ≤ r.val <;> simp [hx]
  rw [h]
  by_cases hx : x.val ≤ r.val <;> simp [hx, Scalar.select]

/-- The equality of two lane numbers. -/
theorem lanes_eq (x r : Fin 512) (p n : EReal) :
    Scalar.select (IntOp.cmpi CmpIPredicate.eq (BitVec.ofNat 32 r.val) (BitVec.ofNat 32 x.val)) p n = if r = x then p else n := by
  have h : IntOp.cmpi CmpIPredicate.eq (BitVec.ofNat 32 r.val) (BitVec.ofNat 32 x.val) = if r.val = x.val then 1#1 else 0#1 := by
    word_cmp
    by_cases hx : r.val = x.val <;> simp [hx]
  rw [h]
  by_cases hx : r = x
  · subst hx; simp [Scalar.select]
  · have hv : r.val ≠ x.val := fun h => hx (Fin.ext h)
    simp [hx, hv, Scalar.select]

/-- Head 0 of the last block: the diagonal block's scores, the update, the quotient. -/
theorem last0 : k0_pay41 q cq m l a k ck v (ix2 r d)
    = Ideal.div (runA (m (ix2 r 0)) (a (ix2 r d)) (diag q cq k ck r) fun x => v (ix2 x d)) (runL (m (ix2 r 0)) (l (ix2 r 0)) (diag q cq k ck r)) := by
  pointwise [k0_pay41, k0_pay40, runA, runL, runM, lanes_le, minus_inf, diag, score]

/-- Head 1 of the last block. -/
theorem last1 : k0_pay1 q cq m l a k0_pay40 k ck v (ix2 r d)
    = Ideal.div (runA (m (ix2 r 0)) (a (ix2 r d)) (diag q cq k ck r) fun x => v (ix2 x d)) (runL (m (ix2 r 0)) (l (ix2 r 0)) (diag q cq k ck r)) := by
  pointwise [k0_pay1, k0_pay40, runA, runL, runM, lanes_le, minus_inf, diag, score]

/-- A row of summed log gates turned into a column: the sum over a row of which all but one element are zero. -/
theorem column0 : k0_pay20 ck (ix2 r 0) = ck (ix3 0 0 r) := by
  pointwise [k0_pay20, lanes_eq]
  simp

theorem column1 : k0_pay21 ck (ix2 r 0) = ck (ix3 0 0 r) := by
  pointwise [k0_pay21, lanes_eq]
  simp

end Payloads

end Cert.KernelIdeal.Fox

end
-- ==== Proof.Fox.Block.lean ====
/- The attention kernel's body at one grid point: the loop over the key blocks before the diagonal keeps the invariant of
   `Fox/Online.lean` for every row of both heads, the diagonal block completes it, and what is stored is the softmax of the
   row's scores against the values. -/
module

public import proofs.«01_k».proof.Proof.Fox.Trip

@[expose] public section

set_option maxRecDepth 16384

noncomputable section

namespace Cert.KernelIdeal.Fox

open Cert.KernelIdeal Cert.KernelIdeal.Gen Idealize.ShloMosaic Idealize.ShloMosaic.TcCoe Idealize.SL.Sem Cert.Fox

/-- Row `r` of query block `n`, head `h` of the pair: its score against key `j`, minus infinity for a key after it. -/
def rowT (q : FVec Ideal S512x128 .bf16) (cq : FVec Ideal S512x1 .f32) (x1 : Vec Ideal S4096x256 .bf16) (x3 : Vec Ideal S2x1x4096 .f32)
    (h : Fin 2) (n : ℕ) (r : Fin 512) (j : ℕ) : EReal :=
  if hj : j < 4096 then
    if j ≤ 512 * n + r.val then
      score (fun d => q (ix2 r d)) (fun d => x1 (ix2 ⟨j, hj⟩ ⟨128 * h.val + d.val, by omega⟩)) (cq (ix2 r 0)) (x3 (ix3 h 0 ⟨j, hj⟩))
    else ⊥
  else ⊥

/-- Column `d` of head `h` of the values, by key. -/
def rowU (x2 : Vec Ideal S4096x256 .bf16) (h : Fin 2) (d : Fin 128) (j : ℕ) : EReal :=
  if hj : j < 4096 then x2 (ix2 ⟨j, hj⟩ ⟨128 * h.val + d.val, by omega⟩) else 0

variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x256 .bf16)
  (harg5 : arg5.IsWhole) (arg6 : Memref sig .tc .vmem S2x1x4096 .f32) (harg6 : arg6.IsWhole) (arg7 : Memref sig .tc .vmem S512x256 .bf16) (harg7 : arg7.IsWhole)
  (x0 : Vec Ideal S512x256 .bf16) (x1 x2 : Vec Ideal S4096x256 .bf16) (x3 : Vec Ideal S2x1x4096 .f32)

/-- The loop's carried value before its first trip. -/
abbrev init6 : FVec Ideal S512x1 .f32 × FVec Ideal S512x1 .f32 × FVec Ideal S512x128 .f32 × FVec Ideal S512x1 .f32 × FVec Ideal S512x1 .f32 × FVec Ideal S512x128 .f32 :=
  (k0_pay22, k0_pay23, k0_pay24, k0_pay25, k0_pay26, k0_pay27)

section Loop

variable (v1 c0 v36 : BitVec 32) (q0 q1 : FVec Ideal S512x128 .bf16) (cq0 cq1 : FVec Ideal S512x1 .f32)

/-- The loop's carried value before trip `k`. -/
abbrev carried (k : ℕ) :=
  st_k0_t1 (F := Ideal) Variants.none c none i arg3 harg3 arg4 harg4 arg5 harg5 arg6 harg6 arg7 harg7 v1 q0 q1 cq0 cq1
    k0_pay22 k0_pay23 k0_pay24 k0_pay25 k0_pay26 k0_pay27 c0 v36 (harg4.unread x1) (harg5.unread x2) (harg6.unread x3) init6 k

/-- A block of unmasked scores, before the diagonal, is a stretch of the row's scores. -/
theorem block_scores (q : FVec Ideal S512x128 .bf16) (cq : FVec Ideal S512x1 .f32) (h : Fin 2) (n k : ℕ) (hk : k < n) (hn : n < 8)
    (r x : Fin 512) (K : Vec Ideal S512x128 .bf16) (ck : Vec Ideal S1x1x512 .f32)
    (hK : ∀ d, K (ix2 x d) = x1 (ix2 ⟨512 * k + x.val, by omega⟩ ⟨128 * h.val + d.val, by omega⟩))
    (hc : ck (ix3 0 0 x) = x3 (ix3 h 0 ⟨512 * k + x.val, by omega⟩)) :
    score (fun d => q (ix2 r d)) (fun d => K (ix2 x d)) (cq (ix2 r 0)) (ck (ix3 0 0 x)) = rowT q cq x1 x3 h n r (512 * k + x.val) := by
  rw [rowT, dif_pos (by omega), if_pos (by omega), hc]
  congr 1
  funext d
  exact hK d

/-- The diagonal block's scores are the row's last stretch. -/
theorem diag_scores (q : FVec Ideal S512x128 .bf16) (cq : FVec Ideal S512x1 .f32) (h : Fin 2) (n : ℕ) (hn : n < 8)
    (r x : Fin 512) (K : Vec Ideal S512x128 .bf16) (ck : Vec Ideal S1x1x512 .f32)
    (hK : ∀ d, K (ix2 x d) = x1 (ix2 ⟨512 * n + x.val, by omega⟩ ⟨128 * h.val + d.val, by omega⟩))
    (hc : ck (ix3 0 0 x) = x3 (ix3 h 0 ⟨512 * n + x.val, by omega⟩)) :
    diag q cq K ck r x = rowT q cq x1 x3 h n r (512 * n + x.val) := by
  rw [rowT, dif_pos (by omega), diag]
  by_cases hx : x.val ≤ r.val
  · rw [if_pos hx, if_pos (by omega), hc]
    congr 1
    funext d
    exact hK d
  · rw [if_neg hx, if_neg (by omega)]

/-- THE LOOP: before trip `k` the carried value is that of the first `512 k` keys, in every row of both heads. -/
theorem loop_inv (hT0 : ∀ r j, rowT q0 cq0 x1 x3 0 (qb i) r j ≠ ⊤) (hB0 : ∀ r, rowT q0 cq0 x1 x3 0 (qb i) r 0 ≠ ⊥)
    (hT1 : ∀ r j, rowT q1 cq1 x1 x3 1 (qb i) r j ≠ ⊤) (hB1 : ∀ r, rowT q1 cq1 x1 x3 1 (qb i) r 0 ≠ ⊥)
    (k : ℕ) (hk : k ≤ qb i) (r : Fin 512) (d : Fin 128) :
    let S := carried c i arg3 harg3 arg4 harg4 arg5 harg5 arg6 harg6 arg7 harg7 x1 x2 x3 v1 c0 v36 q0 q1 cq0 cq1 k
    Inv (rowT q0 cq0 x1 x3 0 (qb i) r) (rowU x2 0 d) (512 * k) (S.1 (ix2 r 0)) (S.2.1 (ix2 r 0)) (S.2.2.1 (ix2 r d))
      ∧ Inv (rowT q1 cq1 x1 x3 1 (qb i) r) (rowU x2 1 d) (512 * k) (S.2.2.2.1 (ix2 r 0)) (S.2.2.2.2.1 (ix2 r 0)) (S.2.2.2.2.2 (ix2 r d)) := by
  induction k with
  | zero =>
    intro S
    have z := Inv.zero (rowT q0 cq0 x1 x3 0 (qb i) r) (rowU x2 0 d)
    have z' := Inv.zero (rowT q1 cq1 x1 x3 1 (qb i) r) (rowU x2 1 d)
    have e22 : (k0_pay22 : FVec Ideal S512x1 .f32) (ix2 r 0) = Ideal.ofBits .f32 0xFF800000#32 := by pointwise [k0_pay22]
    have e23 : (k0_pay23 : FVec Ideal S512x1 .f32) (ix2 r 0) = 0 := by pointwise [k0_pay23]
    have e24 : (k0_pay24 : FVec Ideal S512x128 .f32) (ix2 r d) = 0 := by pointwise [k0_pay24]
    have e25 : (k0_pay25 : FVec Ideal S512x1 .f32) (ix2 r 0) = Ideal.ofBits .f32 0xFF800000#32 := by pointwise [k0_pay25]
    have e26 : (k0_pay26 : FVec Ideal S512x1 .f32) (ix2 r 0) = 0 := by pointwise [k0_pay26]
    have e27 : (k0_pay27 : FVec Ideal S512x128 .f32) (ix2 r d) = 0 := by pointwise [k0_pay27]
    rw [← e22] at z
    rw [← e25] at z'
    refine ⟨?_, ?_⟩
    · show Inv _ _ 0 ((k0_pay22 : FVec Ideal S512x1 .f32) (ix2 r 0)) ((k0_pay23 : FVec Ideal S512x1 .f32) (ix2 r 0)) ((k0_pay24 : FVec Ideal S512x128 .f32) (ix2 r d))
      rw [e23, e24]; exact z
    · show Inv _ _ 0 ((k0_pay25 : FVec Ideal S512x1 .f32) (ix2 r 0)) ((k0_pay26 : FVec Ideal S512x1 .f32) (ix2 r 0)) ((k0_pay27 : FVec Ideal S512x128 .f32) (ix2 r d))
      rw [e26, e27]; exact z'
  | succ k ih =>
    intro S
    obtain ⟨i0, i1⟩ := ih (by omega)
    have hS : S = _ := st_k0_t1_succ (F := Ideal) Variants.none c none i arg3 harg3 arg4 harg4 arg5 harg5 arg6 harg6 arg7 harg7 v1 q0 q1 cq0 cq1
      k0_pay22 k0_pay23 k0_pay24 k0_pay25 k0_pay26 k0_pay27 c0 v36 (harg4.unread x1) (harg5.unread x2) (harg6.unread x3) init6 ⟨k, by rw [trips1]; omega⟩
    have hq := qb_lt i
    rw [hS]
    generalize hP : st_k0_t1 (F := Ideal) Variants.none c none i arg3 harg3 arg4 harg4 arg5 harg5 arg6 harg6 arg7 harg7 v1 q0 q1 cq0 cq1
      k0_pay22 k0_pay23 k0_pay24 k0_pay25 k0_pay26 k0_pay27 c0 v36 (harg4.unread x1) (harg5.unread x2) (harg6.unread x3) init6
      (⟨k, by rw [trips1]; omega⟩ : Fin (k0_t1_loop i).trips).val = P
    have hP' : carried c i arg3 harg3 arg4 harg4 arg5 harg5 arg6 harg6 arg7 harg7 x1 x2 x3 v1 c0 v36 q0 q1 cq0 cq1 k = P := hP
    rw [hP'] at i0 i1
    unfold tripR_k0_t1 trip_k0_t1
    dsimp only
    unfold trip_k0_t1.sl.r trip_k0_t1.sl.r_1 trip_k0_t1.sl.r_2 trip_k0_t1.sl.r_3 trip_k0_t1.sl.r_4 trip_k0_t1.sl.r_5
    rw [max0, sum0, val0, max1, sum1, val1]
    refine ⟨i0.step (hT0 r) (hB0 r) (fun x => ?_) (fun x => ?_), i1.step (hT1 r) (hB1 r) (fun x => ?_) (fun x => ?_)⟩
    · rw [pay2_at]
      exact block_scores x1 x3 q0 cq0 0 (qb i) k (by omega) hq r x _ _
        (fun d => load_kv harg4 x1 (off3 i _) _ x d (by show 512 * k + x.val < 4096; omega) (by omega)) (load_c harg6 x3 (off4 i _) _ x (by omega) (by show 512 * k + x.val < 4096; omega))
    · rw [rowU, dif_pos (by omega)]
      exact load_kv harg5 x2 (off3 i _) _ x d (by show 512 * k + x.val < 4096; omega) (by omega)
    · rw [pay3_at]
      exact block_scores x1 x3 q1 cq1 1 (qb i) k (by omega) hq r x _ _
        (fun d => load_kv harg4 x1 (off5 i _) _ x d (by show 512 * k + x.val < 4096; omega) (by omega)) (load_c harg6 x3 (off6 i _) _ x (by omega) (by show 512 * k + x.val < 4096; omega))
    · rw [rowU, dif_pos (by omega)]
      exact load_kv harg5 x2 (off5 i _) _ x d (by show 512 * k + x.val < 4096; omega) (by omega)

end Loop

/-- Row `r` of query block `n`, head `h` of the pair, from the staged blocks: its score against key `j`. -/
def blkT (x0 : Vec Ideal S512x256 .bf16) (x1 : Vec Ideal S4096x256 .bf16) (x3 : Vec Ideal S2x1x4096 .f32)
    (h : Fin 2) (n : ℕ) (hn : n < 8) (r : Fin 512) (j : ℕ) : EReal :=
  if hj : j < 4096 then
    if j ≤ 512 * n + r.val then
      score (fun d => x0 (ix2 r ⟨128 * h.val + d.val, by omega⟩)) (fun d => x1 (ix2 ⟨j, hj⟩ ⟨128 * h.val + d.val, by omega⟩))
        (x3 (ix3 h 0 ⟨512 * n + r.val, by omega⟩)) (x3 (ix3 h 0 ⟨j, hj⟩))
    else ⊥
  else ⊥

theorem rowT_eq (q : FVec Ideal S512x128 .bf16) (cq : FVec Ideal S512x1 .f32) (h : Fin 2) (n : ℕ) (hn : n < 8) (r : Fin 512)
    (hq : ∀ d, q (ix2 r d) = x0 (ix2 r ⟨128 * h.val + d.val, by omega⟩)) (hc : cq (ix2 r 0) = x3 (ix3 h 0 ⟨512 * n + r.val, by omega⟩)) :
    rowT q cq x1 x3 h n r = blkT x0 x1 x3 h n hn r := by
  funext j
  simp only [rowT, blkT, hq, hc]

/-- The two stores of the body, read at one head's column. -/
theorem canon_head0 (w1 w0 : FVec Ideal S512x128 .bf16) (inb1 : ∀ a, (![0, 128] : Fin 2 → ℕ) a + S512x128.size a ≤ S512x256.size a)
    (inb0 : ∀ a, (![0, 0] : Fin 2 → ℕ) a + S512x128.size a ≤ S512x256.size a) (r : Fin 512) (d : Fin 128) (hd : d.val < 256) :
    View.canon (Val := Elt Ideal) [(⟨Rect.unit (s := S512x256) ![0, 128] S512x128.size inb1, w1⟩ : View.Piece (Elt Ideal) S512x256 .bf16), ⟨Rect.unit (s := S512x256) ![0, 0] S512x128.size inb0, w0⟩]
      (ix2 r ⟨d.val, hd⟩) = w0 (ix2 r d) := by
  have e : (ix2 r ⟨d.val, hd⟩ : S512x256.Idx) = (Rect.unit (s := S512x256) ![0, 0] S512x128.size inb0).emb (ix2 r d) := by
    funext z
    apply Fin.ext
    fin_cases z
    · show r.val = 0 + 1 * r.val; omega
    · show d.val = 0 + 1 * d.val; omega
  rw [View.canon_cons_of_not_mem, e, View.canon_cons_emb]
  intro hm
  obtain ⟨i, _, he⟩ := (LoadRect.mem_set _).mp hm (1 : Fin 2)
  have he' : d.val = 128 + 1 * i := he
  omega

theorem canon_head1 (w1 : FVec Ideal S512x128 .bf16) (inb1 : ∀ a, (![0, 128] : Fin 2 → ℕ) a + S512x128.size a ≤ S512x256.size a)
    (L : List (View.Piece (Elt Ideal) S512x256 .bf16)) (r : Fin 512) (d : Fin 128) (hd : 128 + d.val < 256) :
    View.canon (Val := Elt Ideal) ((⟨Rect.unit (s := S512x256) ![0, 128] S512x128.size inb1, w1⟩ : View.Piece (Elt Ideal) S512x256 .bf16) :: L)
      (ix2 r ⟨128 + d.val, hd⟩) = w1 (ix2 r d) := by
  have e : (ix2 r ⟨128 + d.val, hd⟩ : S512x256.Idx) = (Rect.unit (s := S512x256) ![0, 128] S512x128.size inb1).emb (ix2 r d) := by
    funext z
    apply Fin.ext
    fin_cases z
    · show r.val = 0 + 1 * r.val; omega
    · show 128 + d.val = 128 + 1 * d.val; omega
  rw [e, View.canon_cons_emb]

/-- The diagonal block completes the row: the quotient of the two running sums is the softmax of the row against the values. -/
theorem finish {q : FVec Ideal S512x128 .bf16} {cq : FVec Ideal S512x1 .f32} {h : Fin 2} {n : ℕ} (hn : n < 8) {r : Fin 512} {d : Fin 128}
    {m l a : EReal} {K Va : Vec Ideal S512x128 .bf16} {ck : Vec Ideal S1x1x512 .f32}
    (hT : ∀ j, rowT q cq x1 x3 h n r j ≠ ⊤) (hB : rowT q cq x1 x3 h n r 0 ≠ ⊥)
    (inv : Inv (rowT q cq x1 x3 h n r) (rowU x2 h d) (512 * n) m l a)
    (hK : ∀ x d, K (ix2 x d) = x1 (ix2 ⟨512 * n + x.val, by omega⟩ ⟨128 * h.val + d.val, by omega⟩))
    (hc : ∀ x, ck (ix3 0 0 x) = x3 (ix3 h 0 ⟨512 * n + x.val, by omega⟩))
    (hV : ∀ x, Va (ix2 x d) = x2 (ix2 ⟨512 * n + x.val, by omega⟩ ⟨128 * h.val + d.val, by omega⟩)) :
    Ideal.div (runA m a (diag q cq K ck r) fun x => Va (ix2 x d)) (runL m l (diag q cq K ck r)) = soft (rowT q cq x1 x3 h n r) (rowU x2 h d) 4096 := by
  have st := inv.step (s := diag q cq K ck r) (v := fun x => Va (ix2 x d)) hT hB
    (fun x => diag_scores x1 x3 q cq h n hn r x K ck (hK x) (hc x)) (fun x => by rw [rowU, dif_pos (by omega)]; exact hV x)
  refine st.quotient hT hB (by omega) (by omega) (fun j h1 h2 => ?_)
  rw [rowT, dif_pos h2, if_neg (by omega)]

set_option pp.proofs false in
/-- WHAT THE BODY STORES, element by element. -/
theorem out_at (hT : ∀ h r j, blkT x0 x1 x3 h (qb i) (qb_lt i) r j ≠ ⊤) (hB : ∀ h r, blkT x0 x1 x3 h (qb i) (qb_lt i) r 0 ≠ ⊥)
    (h : Fin 2) (r : Fin 512) (d : Fin 128) :
    out0_A_4 c i arg3 harg3 arg4 harg4 arg5 harg5 arg6 harg6 arg7 harg7 x0 x1 x2 x3 (ix2 r ⟨128 * h.val + d.val, by omega⟩)
      = soft (blkT x0 x1 x3 h (qb i) (qb_lt i) r) (rowU x2 h d) 4096 := by
  unfold out0_A_4
  rw [View.read_writes_junk_eq_canon]
  unfold kernelRun0_A
  dsimp only
  unfold kernelRun0_A.sl.r_4 kernelRun0_A.sl.r_5 kernelRun0_A.sl.r_6 kernelRun0_A.sl.r_7
  rw [show Scf.trips (k0_t2_loop i).lb (k0_t2_loop i).ub (k0_t2_loop i).st = 0 from trips2 i,
    show Scf.trips (k0_t1_loop i).lb (k0_t1_loop i).ub (k0_t1_loop i).st = qb i from trips1 i]
  simp only [st_k0_t2_zero]
  have hq := qb_lt i
  have hq0 : ∀ (r : Fin 512) (d : Fin 128), kernelRun0_A.sl.r (F := Ideal) c arg3 harg3 x0 (ix2 r d) = x0 (ix2 r ⟨128 * (0 : Fin 2).val + d.val, by omega⟩) := fun r d => by
    unfold kernelRun0_A.sl.r
    pointwise [k0_pay18]
    rw [load_q harg3 x0 (b := 0) rfl inb_S512x256_S512x128_0_0 r d (by omega)]
    simp
  have hq1 : ∀ (r : Fin 512) (d : Fin 128), kernelRun0_A.sl.r_1 (F := Ideal) c arg3 harg3 x0 (ix2 r d) = x0 (ix2 r ⟨128 * (1 : Fin 2).val + d.val, by omega⟩) := fun r d => by
    unfold kernelRun0_A.sl.r_1
    pointwise [k0_pay19]
    exact load_q harg3 x0 (b := 128) rfl _ r d (by omega)
  have hc0 : ∀ r : Fin 512, kernelRun0_A.sl.r_2 (F := Ideal) c i arg6 harg6 x3 (ix2 r 0) = x3 (ix3 (0 : Fin 2) 0 ⟨512 * qb i + r.val, by omega⟩) := fun r => by
    unfold kernelRun0_A.sl.r_2
    rw [column0]
    exact load_c harg6 x3 (off1 i) _ r (by omega) (by omega)
  have hc1 : ∀ r : Fin 512, kernelRun0_A.sl.r_3 (F := Ideal) c i arg6 harg6 x3 (ix2 r 0) = x3 (ix3 (1 : Fin 2) 0 ⟨512 * qb i + r.val, by omega⟩) := fun r => by
    unfold kernelRun0_A.sl.r_3
    rw [column1]
    exact load_c harg6 x3 (off2 i) _ r (by omega) (by omega)
  have e0 := fun r => rowT_eq x0 x1 x3 _ _ 0 (qb i) hq r (hq0 r) (hc0 r)
  have e1 := fun r => rowT_eq x0 x1 x3 _ _ 1 (qb i) hq r (hq1 r) (hc1 r)
  clear hq0 hq1 hc0 hc1
  generalize kernelRun0_A.sl.r (F := Ideal) c arg3 harg3 x0 = q0 at *
  generalize kernelRun0_A.sl.r_1 (F := Ideal) c arg3 harg3 x0 = q1 at *
  generalize kernelRun0_A.sl.r_2 (F := Ideal) c i arg6 harg6 x3 = cq0 at *
  generalize kernelRun0_A.sl.r_3 (F := Ideal) c i arg6 harg6 x3 = cq1 at *
  have hT0 : ∀ r j, rowT q0 cq0 x1 x3 0 (qb i) r j ≠ ⊤ := fun r j => by rw [e0]; exact hT 0 r j
  have hB0 : ∀ r, rowT q0 cq0 x1 x3 0 (qb i) r 0 ≠ ⊥ := fun r => by rw [e0]; exact hB 0 r
  have hT1 : ∀ r j, rowT q1 cq1 x1 x3 1 (qb i) r j ≠ ⊤ := fun r j => by rw [e1]; exact hT 1 r j
  have hB1 : ∀ r, rowT q1 cq1 x1 x3 1 (qb i) r 0 ≠ ⊥ := fun r => by rw [e1]; exact hB 1 r
  have inv := loop_inv c i arg3 harg3 arg4 harg4 arg5 harg5 arg6 harg6 arg7 harg7 x1 x2 x3 (kernelRun0_A.sl.v0 i) (0#32) (kernelRun0_A.sl.v36 i)
    q0 q1 cq0 cq1 hT0 hB0 hT1 hB1 (qb i) le_rfl r d
  unfold carried at inv
  dsimp only at inv
  generalize st_k0_t1 (F := Ideal) _ _ _ _ _ _ _ _ _ _ _ _ _ _ _ _ _ _ _ _ _ _ _ _ _ _ _ _ _ _ _ _ = S at inv ⊢
  fin_cases h
  · refine Eq.trans ?_ (congrArg (fun T => soft T (rowU x2 0 d) 4096) (e0 r))
    simp only [Fin.zero_eta, Fin.isValue, Fin.val_zero, Nat.mul_zero, Nat.zero_add]
    rw [canon_head0, last0]
    exact finish x1 x2 x3 hq (hT0 r) (hB0 r) inv.1
      (fun x d => (load_kv harg4 x1 (off11 i) _ x d (by omega) (by omega)).trans (congrArg x1 (by simp)))
      (fun x => load_c harg6 x3 (off1 i) _ x (by omega) (by omega))
      (fun x => (load_kv harg5 x2 (off11 i) _ x d (by omega) (by omega)).trans (congrArg x2 (by simp)))
  · refine Eq.trans ?_ (congrArg (fun T => soft T (rowU x2 1 d) 4096) (e1 r))
    simp only [Fin.mk_one, Fin.isValue, Fin.val_one, Nat.mul_one]
    rw [canon_head1, last1]
    exact finish x1 x2 x3 hq (hT1 r) (hB1 r) inv.2
      (fun x d => load_kv harg4 x1 (off12 i) _ x d (by omega) (by omega))
      (fun x => load_c harg6 x3 (off2 i) _ x (by omega) (by omega))
      (fun x => load_kv harg5 x2 (off12 i) _ x d (by omega) (by omega))

end Cert.KernelIdeal.Fox

end
-- ==== Proof.Fox.Array.lean ====
/- From the attention kernel's blocks to its result array: where each staged block lies in the arguments, and the array that
   the grid's points write together. -/
module

public import proofs.«01_k».proof.Proof.Fox.Block
public import proofs.«01_k».proof.Proof.Gen.KernelIdeal.Value
public import Idealize.ShloMosaic.Lib.Pipeline.ValueKit

@[expose] public section

set_option maxRecDepth 16384

noncomputable section

namespace Cert.KernelIdeal.Fox

open Cert.KernelIdeal Cert.KernelIdeal.Gen Idealize.ShloMosaic Idealize.ShloMosaic.TcCoe Idealize.SL.Sem Cert.Fox
open Idealize.ShloMosaic.Pipeline (Dat)

/-- Position `i` of sequence `b`, head `h`: its score against position `j`, minus infinity for a later one. -/
def rowS (q k : S2x4096x8x128.Idx → EReal) (g : S2x4096x8.Idx → EReal) (b : Fin 2) (i : Fin 4096) (h : Fin 8) (j : ℕ) : EReal :=
  if hj : j < 4096 then
    if j ≤ i.val then score (fun d => q (ix4 b i h d)) (fun d => k (ix4 b ⟨j, hj⟩ h d)) (g (ix3 b i h)) (g (ix3 b ⟨j, hj⟩ h)) else ⊥
  else ⊥

/-- Coordinate `d` of head `h`'s values, by position. -/
def colV (v : S2x4096x8x128.Idx → EReal) (b : Fin 2) (h : Fin 8) (d : Fin 128) (j : ℕ) : EReal :=
  if hj : j < 4096 then v (ix4 b ⟨j, hj⟩ h d) else 0

/-- The attention with a forget bias, as one function of its four arguments: one row per position of each sequence, one
    column per head and coordinate. -/
def attend (q k v : S2x4096x8x128.Idx → EReal) (g : S2x4096x8.Idx → EReal) : S8192x1024.Idx → EReal := fun y =>
  have h0 : (y 0).val < 8192 := (y 0).isLt
  have h1 : (y 1).val < 1024 := (y 1).isLt
  soft (rowS q k g ⟨(y 0).val / 4096, by omega⟩ ⟨(y 0).val % 4096, by omega⟩ ⟨(y 1).val / 128, by omega⟩)
    (colV v ⟨(y 0).val / 4096, by omega⟩ ⟨(y 1).val / 128, by omega⟩ ⟨(y 1).val % 128, by omega⟩) 4096

variable (m : (ℓ : Loc nD τ sig) → Buf (Elt Ideal) ℓ) (c : Dev nD)

/-- Every window's block at every point. -/
theorem idx : ∀ t : Fin cfg0.N, win0_0.index t = ![8 * (grid0.coords t 0).val + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![4 * (grid0.coords t 0).val + (grid0.coords t 1).val, 0, 0]
    ∧ win0_4.index t = ![8 * (grid0.coords t 0).val + (grid0.coords t 2).val, (grid0.coords t 1).val]
    ∧ (grid0.coords t 0).val < 2 ∧ (grid0.coords t 1).val < 4 ∧ (grid0.coords t 2).val < 8 :=
  (by decide +kernel : ∀ t : Fin grid0.N, _)

theorem b_lt (t : Fin cfg0.N) : (grid0.coords t 0).val < 2 := (idx t).2.2.2.2.2.1
theorem p_lt (t : Fin cfg0.N) : (grid0.coords t 1).val < 4 := (idx t).2.2.2.2.2.2.1
theorem n_lt (t : Fin cfg0.N) : (grid0.coords t 2).val < 8 := (idx t).2.2.2.2.2.2.2

/-- The reshape that lays positions of both sequences down the rows and heads along the columns, read at an index. -/
theorem cast_at (X : FVec Ideal S2x4096x8x128 .f32) (y : S8192x1024.Idx) (b : Fin 2) (i : Fin 4096) (h : Fin 8) (d : Fin 128)
    (e0 : (y 0).val = 4096 * b.val + i.val) (e1 : (y 1).val = 128 * h.val + d.val) :
    shapeCast S8192x1024 X shapeCasts_S2x4096x8x128_S8192x1024 y = X (ix4 b i h d) := by
  idx_vars y
  pointwise []
  congr 2 <;> apply Fin.ext <;> dsimp only <;> omega

/-- The summed log gates, laid out head by head, read at an index. -/
theorem gate_at (X : FVec Ideal S2x4096x8 .f32) (y : S16x1x4096.Idx) (b : Fin 2) (i : Fin 4096) (h : Fin 8)
    (e0 : (y 0).val = 8 * b.val + h.val) (e1 : (y 2).val = i.val) :
    shapeCast S16x1x4096 (transpose S2x8x4096 [0, 2, 1] X transposes_S2x4096x8_S2x8x4096_0_2_1) shapeCasts_S2x8x4096_S16x1x4096 y = X (ix3 b i h) := by
  idx_vars y
  pointwise []
  obtain rfl : y2 = i := Fin.ext e1
  congr 2 <;> apply Fin.ext
  · show y0.val / 8 = b.val; omega
  · show y0.val % 8 = h.val; omega

/-- The staged query block: 512 positions, the two heads of the pair. -/
theorem q_blk (t : Fin cfg0.N) (h : Fin 2) (r : Fin 512) (d : Fin 128) :
    iblk m c 0 t (ix2 r (⟨128 * h.val + d.val, by omega⟩ : Fin 256))
      = m ((c : Thread nD τ).loc main_arg0) (ix4 (⟨(grid0.coords t 0).val, b_lt t⟩ : Fin 2) (⟨512 * (grid0.coords t 2).val + r.val, by have := n_lt t; omega⟩ : Fin 4096)
          (⟨2 * (grid0.coords t 1).val + h.val, by have := p_lt t; omega⟩ : Fin 8) d) := by
  have := b_lt t; have := p_lt t; have := n_lt t
  blk_simp [iblk, idx t]
  entry_read
  refine cast_at _ _ _ _ _ _ ?_ ?_ <;> blk_simp [idx t] <;> dsimp only <;> omega

/-- The staged keys: one sequence, the two heads of the pair. -/
theorem k_blk (t : Fin cfg0.N) (h : Fin 2) (j : Fin 4096) (d : Fin 128) :
    iblk m c 1 t (ix2 j (⟨128 * h.val + d.val, by omega⟩ : Fin 256))
      = m ((c : Thread nD τ).loc main_arg1) (ix4 (⟨(grid0.coords t 0).val, b_lt t⟩ : Fin 2) j
          (⟨2 * (grid0.coords t 1).val + h.val, by have := p_lt t; omega⟩ : Fin 8) d) := by
  have := b_lt t; have := p_lt t; have := n_lt t
  blk_simp [iblk, idx t]
  entry_read
  refine cast_at _ _ _ _ _ _ ?_ ?_ <;> blk_simp [idx t] <;> dsimp only <;> omega

/-- The staged values, likewise. -/
theorem v_blk (t : Fin cfg0.N) (h : Fin 2) (j : Fin 4096) (d : Fin 128) :
    iblk m c 2 t (ix2 j (⟨128 * h.val + d.val, by omega⟩ : Fin 256))
      = m ((c : Thread nD τ).loc main_arg2) (ix4 (⟨(grid0.coords t 0).val, b_lt t⟩ : Fin 2) j
          (⟨2 * (grid0.coords t 1).val + h.val, by have := p_lt t; omega⟩ : Fin 8) d) := by
  have := b_lt t; have := p_lt t; have := n_lt t
  blk_simp [iblk, idx t]
  entry_read
  refine cast_at _ _ _ _ _ _ ?_ ?_ <;> blk_simp [idx t] <;> dsimp only <;> omega

/-- The staged log gates: one sequence, the two heads of the pair. -/
theorem g_blk (t : Fin cfg0.N) (h : Fin 2) (j : Fin 4096) :
    iblk m c 3 t (ix3 h (0 : Fin 1) j)
      = m ((c : Thread nD τ).loc main_arg3) (ix3 (⟨(grid0.coords t 0).val, b_lt t⟩ : Fin 2) j
          (⟨2 * (grid0.coords t 1).val + h.val, by have := p_lt t; omega⟩ : Fin 8)) := by
  have := b_lt t; have := p_lt t; have := n_lt t
  blk_simp [iblk, idx t]
  entry_read
  refine gate_at _ _ _ _ _ ?_ ?_
  · blk_simp [idx t]; dsimp only; omega
  · blk_simp [idx t]

/-- The four arguments, by their plain shapes. -/
abbrev Q : S2x4096x8x128.Idx → EReal := m ((c : Thread nD τ).loc main_arg0)
abbrev K : S2x4096x8x128.Idx → EReal := m ((c : Thread nD τ).loc main_arg1)
abbrev W : S2x4096x8x128.Idx → EReal := m ((c : Thread nD τ).loc main_arg2)
abbrev G : S2x4096x8.Idx → EReal := m ((c : Thread nD τ).loc main_arg3)

/-- A staged row of scores is the arguments' row. -/
theorem row_blk (t : Fin cfg0.N) (h : Fin 2) (n : ℕ) (hn : n < 8) (e : n = (grid0.coords t 2).val) (r : Fin 512) :
    blkT (iblk m c 0 t) (iblk m c 1 t) (iblk m c 3 t) h n hn r
      = rowS (Q m c) (K m c) (G m c) ⟨(grid0.coords t 0).val, b_lt t⟩ ⟨512 * n + r.val, by omega⟩
          ⟨2 * (grid0.coords t 1).val + h.val, by have := p_lt t; omega⟩ := by
  subst e
  funext j
  unfold blkT rowS
  by_cases hj : j < 4096
  · rw [dif_pos hj, dif_pos hj]
    refine if_congr Iff.rfl ?_ rfl
    rw [g_blk, g_blk]
    congr 1
    · funext d; exact q_blk m c t h r d
    · funext d; exact k_blk m c t h _ d
  · rw [dif_neg hj, dif_neg hj]

theorem col_blk (t : Fin cfg0.N) (h : Fin 2) (d : Fin 128) :
    rowU (iblk m c 2 t) h d = colV (W m c) ⟨(grid0.coords t 0).val, b_lt t⟩ ⟨2 * (grid0.coords t 1).val + h.val, by have := p_lt t; omega⟩ d := by
  funext j
  unfold rowU colV
  by_cases hj : j < 4096
  · rw [dif_pos hj, dif_pos hj]; exact v_blk m c t h _ d
  · rw [dif_neg hj, dif_neg hj]

/-- The attention at a place given by sequence, position, head and coordinate. -/
theorem attend_at (q k v : S2x4096x8x128.Idx → EReal) (g : S2x4096x8.Idx → EReal) (y : S8192x1024.Idx) (b : Fin 2) (i : Fin 4096)
    (h : Fin 8) (d : Fin 128) (e0 : (y 0).val = 4096 * b.val + i.val) (e1 : (y 1).val = 128 * h.val + d.val) :
    attend q k v g y = soft (rowS q k g b i h) (colV v b h d) 4096 := by
  have h0 : (y 0).val < 8192 := (y 0).isLt
  have h1 : (y 1).val < 1024 := (y 1).isLt
  have E : ∀ b' i' h' d', b' = b → i' = i → h' = h → d' = d →
      soft (rowS q k g b' i' h') (colV v b' h' d') 4096 = soft (rowS q k g b i h) (colV v b h d) 4096 := by
    rintro b' i' h' d' rfl rfl rfl rfl; rfl
  exact E ⟨(y 0).val / 4096, by omega⟩ ⟨(y 0).val % 4096, by omega⟩ ⟨(y 1).val / 128, by omega⟩ ⟨(y 1).val % 128, by omega⟩
    (Fin.ext (by dsimp only; omega)) (Fin.ext (by dsimp only; omega)) (Fin.ext (by dsimp only; omega)) (Fin.ext (by dsimp only; omega))

/-- THE RESULT ARRAY: where no score is plus infinity and every row's first is not minus infinity, it is the attention of
    the four arguments. -/
theorem final (hT : ∀ b i h j, rowS (Q m c) (K m c) (G m c) b i h j ≠ ⊤) (hB : ∀ b i h, rowS (Q m c) (K m c) (G m c) b i h 0 ≠ ⊥) :
    (dats m 0 c).arrAt 4 cfg0.N = attend (Q m c) (K m c) (W m c) (G m c) := by
  refine (dats m 0 c).arrAt_eq_of_covers 4 _ (by decide +kernel) fun t _ y => ?_
  blk_simp
  rw [after0_4]
  have hb := b_lt t; have hp := p_lt t; have hn := n_lt t
  have e0 : ((win0_4.blk t).view.emb y 0).val = (8 * (grid0.coords t 0).val + (grid0.coords t 2).val) * 512 + (y 0).val := by
    blk_simp [idx t]
  have e1 : ((win0_4.blk t).view.emb y 1).val = (grid0.coords t 1).val * 256 + (y 1).val := by
    blk_simp [idx t]
  have h0 : (y 0).val < 512 := (y 0).isLt
  have h1 : (y 1).val < 256 := (y 1).isLt
  generalize (win0_4.blk t).view.emb y = z at e0 e1 ⊢
  let r : Fin 512 := ⟨(y 0).val, h0⟩
  let h : Fin 2 := ⟨(y 1).val / 128, by omega⟩
  let d : Fin 128 := ⟨(y 1).val % 128, by omega⟩
  have ey : y = (ix2 r (⟨128 * h.val + d.val, by omega⟩ : Fin 256) : S512x256.Idx) := by
    funext a
    apply Fin.ext
    match a with
    | ⟨0, _⟩ => rfl
    | ⟨1, _⟩ => show (y 1).val = 128 * ((y 1).val / 128) + (y 1).val % 128; omega
  rw [ey]
  refine Eq.trans (out_at c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (fun h r j => ?_) (fun h r => ?_) h r d) ?_
  · rw [row_blk m c t h (qb (grid0.coords t)) (qb_lt _) rfl]; exact hT _ _ _ _
  · rw [row_blk m c t h (qb (grid0.coords t)) (qb_lt _) rfl]; exact hB _ _ _
  · rw [row_blk m c t h (qb (grid0.coords t)) (qb_lt _) rfl, col_blk m c t h d]
    refine (attend_at _ _ _ _ z _ _ _ _ ?_ ?_).symm
    · rw [e0]; show _ = 4096 * (grid0.coords t 0).val + (512 * (grid0.coords t 2).val + (y 0).val); omega
    · rw [e1]; show _ = 128 * (2 * (grid0.coords t 1).val + (y 1).val / 128) + (y 1).val % 128; omega

end Cert.KernelIdeal.Fox

end
-- ==== Proof.Fox.Plain.lean ====
/- The plain attention's result, read at a place: the same row of scores and the same softmax as the kernel's. -/
module

public import proofs.«01_k».proof.Proof.Fox.Array
public import proofs.«01_k».proof.Proof.Gen.ReferenceIdeal.Run

@[expose] public section

set_option maxRecDepth 16384

noncomputable section

namespace Cert.ReferenceIdeal.Fox

open Cert.ReferenceIdeal Cert.ReferenceIdeal.Gen Idealize.ShloMosaic Idealize.ShloMosaic.TcCoe Idealize.SL.Sem Cert.Fox Cert.KernelIdeal.Fox

/-- The masked scores. -/
def logits (q k : FVec Ideal S2x4096x8x128 .f32) (g : FVec Ideal S2x4096x8 .f32) : FVec Ideal S2x8x4096x4096 .f32 :=
  select (broadcastInDim S2x8x4096x4096 ![2, 3] bcast_S4096x4096_S2x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S2x4096x8x128_S2x4096x8x128_S2x8x4096x4096_3_3_1_1_02_02 none q k) (broadcastInDim S2x8x4096x4096 ![] bcast_S_S2x8x4096x4096 (constant S_ .f32 0x3DB504F3#32))) (subf (broadcastInDim S2x8x4096x4096 ![0, 1, 2, 3] bcast_S2x8x4096x1_S2x8x4096x4096_0_1_2_3 (broadcastInDim S2x8x4096x1 ![0, 1, 2] bcast_S2x8x4096_S2x8x4096x1_0_1_2 (transpose S2x8x4096 [0, 2, 1] g transposes_S2x4096x8_S2x8x4096_0_2_1))) (broadcastInDim S2x8x4096x4096 ![0, 1, 2, 3] bcast_S2x8x1x4096_S2x8x4096x4096_0_1_2_3 (broadcastInDim S2x8x1x4096 ![0, 1, 3] bcast_S2x8x4096_S2x8x1x4096_0_1_3 (transpose S2x8x4096 [0, 2, 1] g transposes_S2x4096x8_S2x8x4096_0_2_1))))) (broadcastInDim S2x8x4096x4096 ![] bcast_S_S2x8x4096x4096 (id (constant S_ .f32 0xFF800000#32)))

/-- The scores less their row's maximum. -/
def shifted (s : FVec Ideal S2x8x4096x4096 .f32) : FVec Ideal S2x8x4096x4096 .f32 :=
  subf s (broadcastInDim S2x8x4096x4096 ![0, 1, 2, 3] bcast_S2x8x4096x1_S2x8x4096x4096_0_1_2_3 (broadcastInDim S2x8x4096x1 ![0, 1, 2] bcast_S2x8x4096_S2x8x4096x1_0_1_2 (maximumf (broadcastInDim S2x8x4096 ![] bcast_S_S2x8x4096 (constant S_ .f32 0xFF800000#32)) (Host.reduce FloatOps.maximumf s (constant S_ .f32 0xFF800000#32) reducesTo_S2x8x4096x4096_S2x8x4096_d3 h_S_))))

/-- The weights: exponentials over their row's sum. -/
def weights (z : FVec Ideal S2x8x4096x4096 .f32) : FVec Ideal S2x8x4096x4096 .f32 :=
  Host.divf (Host.exp z) (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd (Host.exp z) (constant S_ .f32 0x00000000#32) reducesTo_S2x8x4096x4096_S2x8x4096_d3 h_S_)))

/-- The weights against the values, positions down the rows. -/
def mixed (v : FVec Ideal S2x4096x8x128 .f32) (p : FVec Ideal S2x8x4096x4096 .f32) : FVec Ideal S8192x1024 .bf16 :=
  truncf .bf16 (shapeCast S8192x1024 (transpose S2x4096x8x128 [0, 3, 1, 2] (Host.dotGeneral dot_S2x4096x8x128_S2x8x4096x4096_S2x8x128x4096_1_3_3_2_02_01 none v p) transposes_S2x8x128x4096_S2x4096x8x128_0_3_1_2) shapeCasts_S2x4096x8x128_S8192x1024) bitsLt_bf16_f32

/-- Whether a position is not after another, as the host's integers say it. -/
theorem not_after (i j : ℕ) (hi : i < 4096) (hj : j < 4096) :
    IntOp.cmpi CmpIPredicate.sle (BitVec.ofNat 32 j) (BitVec.ofNat 32 i) = if j ≤ i then 1#1 else 0#1 := by
  word_cmp
  by_cases h : j ≤ i <;> simp [h]

theorem logits_at (q k : FVec Ideal S2x4096x8x128 .f32) (g : FVec Ideal S2x4096x8 .f32) (b : Fin 2) (h : Fin 8) (i j : Fin 4096) :
    logits q k g (ix4 b h i j) = rowS q k g b i h j.val := by
  unfold logits rowS
  rw [dif_pos j.isLt]
  pointwise [score, not_after _ _ i.isLt j.isLt, minus_inf]
  have e : id (constant (F := Ideal) S_ .f32 0xFF800000#32) ix0 = ⊥ := minus_inf
  rw [e]
  by_cases hj : j.val ≤ i.val
  · rw [if_pos hj, if_pos hj]; rfl
  · rw [if_neg hj, if_neg hj]; rfl

/-- A maximum over the last of four axes. -/
theorem row_max {n0 n1 n2 n3 : ℕ} (h' : (⟨4, ![n0, n1, n2, n3]⟩ : Shape).ReducesTo [3] (⟨3, ![n0, n1, n2]⟩ : Shape)) {u : Shape} (hu : 0 < u.numel)
    (s : (⟨4, ![n0, n1, n2, n3]⟩ : Shape).Idx → EReal) (i0 : u.Idx → EReal) (b : Fin n0) (h : Fin n1) (i : Fin n2) :
    Host.reduce (α := EReal) max s i0 h' hu (ix3 b h i) = (Finset.univ : Finset (Fin n3)).fold max (i0 (Shape.Idx.first hu)) fun x : Fin n3 => s (ix4 b h i x) := by
  have hr : (⟨4, ![n0, n1, n2, n3]⟩ : Shape).Reduces [3] (⟨3, ![n0, n1, n2]⟩ : Shape) := ⟨rfl, Nat.succ_pos 2, h'.2⟩
  rw [Host.reduce_eq_fold_single (α := EReal) max s i0 h' hr hu (ix3 b h i)]
  have e : (s ∘ hr.lift (ix3 b h i)) = fun x : Fin n3 => s (ix4 b h i x) := by
    funext x
    refine congrArg s ?_
    funext a
    apply Fin.ext
    match a with
    | ⟨0, _⟩ => rfl
    | ⟨1, _⟩ => rfl
    | ⟨2, _⟩ => rfl
    | ⟨3, _⟩ => rfl
  rw [e]
  rfl

/-- The subtraction of a row's maximum, read at a place. -/
theorem shifted_read (s : FVec Ideal S2x8x4096x4096 .f32) (M : FVec Ideal S2x8x4096 .f32) (b : Fin 2) (h : Fin 8) (i j : Fin 4096) :
    subf s (broadcastInDim S2x8x4096x4096 ![0, 1, 2, 3] bcast_S2x8x4096x1_S2x8x4096x4096_0_1_2_3 (broadcastInDim S2x8x4096x1 ![0, 1, 2] bcast_S2x8x4096_S2x8x4096x1_0_1_2 (maximumf (broadcastInDim S2x8x4096 ![] bcast_S_S2x8x4096 (constant S_ .f32 0xFF800000#32)) M))) (ix4 b h i j)
      = s (ix4 b h i j) - max ⊥ (M (ix3 b h i)) := by
  pointwise [minus_inf]

theorem shifted_at (s : FVec Ideal S2x8x4096x4096 .f32) (T : ℕ → EReal) (b : Fin 2) (h : Fin 8) (i j : Fin 4096)
    (hs : ∀ x : Fin 4096, s (ix4 b h i x) = T x.val) :
    shifted s (ix4 b h i j) = T j.val - max ⊥ ((Finset.univ : Finset (Fin 4096)).fold max ⊥ fun x : Fin 4096 => T x.val) := by
  refine (shifted_read s (Host.reduce FloatOps.maximumf s (constant S_ .f32 0xFF800000#32) reducesTo_S2x8x4096x4096_S2x8x4096_d3 h_S_) b h i j).trans ?_
  have e := row_max reducesTo_S2x8x4096x4096_S2x8x4096_d3 h_S_ s (constant (F := Ideal) S_ .f32 0xFF800000#32) b h i
  have z : constant (F := Ideal) S_ .f32 0xFF800000#32 (Shape.Idx.first h_S_) = (⊥ : EReal) := minus_inf
  have f : (fun x : Fin 4096 => s (ix4 b h i x)) = fun x : Fin 4096 => T x.val := funext hs
  rw [z, f] at e
  rw [hs j]
  exact congrArg (fun M => T j.val - max ⊥ M) e

theorem weights_at (z : FVec Ideal S2x8x4096x4096 .f32) (b : Fin 2) (h : Fin 8) (i j : Fin 4096) :
    weights z (ix4 b h i j) = Ideal.div (Ideal.exp (z (ix4 b h i j))) (0 + ∑ x : Fin 4096, Ideal.exp (z (ix4 b h i x))) := by
  pointwise [weights]

theorem mixed_at (v : FVec Ideal S2x4096x8x128 .f32) (p : FVec Ideal S2x8x4096x4096 .f32) (y : S8192x1024.Idx) (b : Fin 2) (i : Fin 4096)
    (h : Fin 8) (d : Fin 128) (e0 : (y 0).val = 4096 * b.val + i.val) (e1 : (y 1).val = 128 * h.val + d.val) :
    mixed v p y = ∑ x : Fin 4096, v (ix4 b x h d) * p (ix4 b h i x) := by
  idx_vars y
  pointwise [mixed]
  have E : ∀ b' i' h' d', b' = b → i' = i → h' = h → d' = d →
      ∑ x : Fin 4096, v (ix4 b' x h' d') * p (ix4 b' h' i' x) = ∑ x : Fin 4096, v (ix4 b x h d) * p (ix4 b h i x) := by
    rintro b' i' h' d' rfl rfl rfl rfl; rfl
  exact E _ _ _ _ (Fin.ext (by show y0.val / 4096 = b.val; omega)) (Fin.ext (by show y0.val % 4096 = i.val; omega))
    (Fin.ext (by show y1.val / 128 = h.val; omega)) (Fin.ext (by show y1.val % 128 = d.val; omega))

/-- One entry of the plain attention. -/
theorem entry (q k v : FVec Ideal S2x4096x8x128 .f32) (g : FVec Ideal S2x4096x8 .f32) (b : Fin 2) (i : Fin 4096) (h : Fin 8) (d : Fin 128) :
    ∑ x : Fin 4096, v (ix4 b x h d) * weights (shifted (logits q k g)) (ix4 b h i x) = soft (rowS q k g b i h) (colV v b h d) 4096 := by
  have e := fun x => shifted_at (logits q k g) (rowS q k g b i h) b h i x (logits_at q k g b h i)
  generalize shifted (logits q k g) = z at e ⊢
  generalize rowS q k g b i h = T at e ⊢
  unfold soft
  generalize max ⊥ ((Finset.univ : Finset (Fin 4096)).fold max ⊥ fun x : Fin 4096 => T x.val) = M at e ⊢
  refine Finset.sum_congr rfl fun x _ => ?_
  rw [weights_at, e x, colV, dif_pos x.isLt]
  simp only [e]

/-- The plain attention is `attend`. -/
theorem plain (q k v : FVec Ideal S2x4096x8x128 .f32) (g : FVec Ideal S2x4096x8 .f32) :
    mixed v (weights (shifted (logits q k g))) = attend q k v g := by
  funext y
  have h0 : (y 0).val < 8192 := (y 0).isLt
  have h1 : (y 1).val < 1024 := (y 1).isLt
  have e0 : (y 0).val = 4096 * (⟨(y 0).val / 4096, by omega⟩ : Fin 2).val + (⟨(y 0).val % 4096, by omega⟩ : Fin 4096).val := by
    dsimp only; omega
  have e1 : (y 1).val = 128 * (⟨(y 1).val / 128, by omega⟩ : Fin 8).val + (⟨(y 1).val % 128, by omega⟩ : Fin 128).val := by
    dsimp only; omega
  exact (mixed_at v _ y _ _ _ _ e0 e1).trans ((entry q k v g _ _ _ _).trans (attend_at q k v g y _ _ _ _ e0 e1).symm)

variable (m : (ℓ : Loc nD τ sig) → Buf (Elt Ideal) ℓ) (c : Dev nD)

/-- The reference's result is `attend` of its arguments. -/
theorem result : Value.res_main_v32 m c = attend (m ((c : Thread nD τ).loc main_arg0)) (m ((c : Thread nD τ).loc main_arg1))
    (m ((c : Thread nD τ).loc main_arg2)) (m ((c : Thread nD τ).loc main_arg3)) :=
  (show Value.res_main_v32 m c = mixed (m ((c : Thread nD τ).loc main_arg2)) (weights (shifted (logits (m ((c : Thread nD τ).loc main_arg0))
    (m ((c : Thread nD τ).loc main_arg1)) (m ((c : Thread nD τ).loc main_arg3))))) from rfl).trans (plain _ _ _ _)

end Cert.ReferenceIdeal.Fox

end
-- ==== Proof.Fox.Finite.lean ====
/- What the precondition gives: with finite queries, keys and summed log gates every unmasked score is a real number. -/
module

public import proofs.«01_k».proof.Proof.Fox.Array
public import proofs.«01_k».proof.Proof.Gen.Pre_finite_scores
public import Idealize.ShloMosaic.Lib.ReduceAll

@[expose] public section

set_option maxRecDepth 16384

noncomputable section

namespace Cert.Pre_finite_scores.Fox

open Cert.Pre_finite_scores Cert.Pre_finite_scores.Gen Idealize.ShloMosaic Idealize.SL.Sem Cert.Fox

/-- An element whose absolute value compares below plus infinity is a real number. -/
theorem isReal_of_lt {x : EReal} (h : BitVec.ofBool (decide (max x (-x) < Ideal.ofBits .f32 0x7F800000#32)) = 1#1) : IsReal x := by
  rw [plus_inf] at h
  have h' : max x (-x) < ⊤ := by
    by_contra hn
    simp [hn] at h
  refine isReal_of (fun e => ?_) (fun e => ?_)
  · rw [e] at h'; simp at h'
  · rw [e] at h'; simp at h'

/-- The precondition's three conjuncts, element by element. -/
theorem real_of_pre (q k v : FVec Ideal S2x4096x8x128 .f32) (g : FVec Ideal S2x4096x8 .f32) (h : fn (F := Ideal) q k v g = fun _ => 1#1) :
    (∀ i, IsReal (q i)) ∧ (∀ i, IsReal (k i)) ∧ ∀ i, IsReal (g i) := by
  have h0 := congrFun h ix0
  dsimp only [fn] at h0
  have split : ∀ a b : BitVec 1, a &&& b = 1#1 → a = 1#1 ∧ b = 1#1 := by decide
  obtain ⟨h1, hg⟩ := split _ _ h0
  obtain ⟨hq, hk⟩ := split _ _ h1
  refine ⟨fun i => ?_, fun i => ?_, fun i => ?_⟩
  · have e := Host.reduce_andi_all _ _ _ _ _ hq i
    idx_vars i
    refine isReal_of_lt (Eq.trans ?_ e)
    pointwise []
    rfl
  · have e := Host.reduce_andi_all _ _ _ _ _ hk i
    idx_vars i
    refine isReal_of_lt (Eq.trans ?_ e)
    pointwise []
    rfl
  · have e := Host.reduce_andi_all _ _ _ _ _ hg i
    idx_vars i
    refine isReal_of_lt (Eq.trans ?_ e)
    pointwise []
    rfl

end Cert.Pre_finite_scores.Fox

namespace Cert.KernelIdeal.Fox

open Cert.KernelIdeal Cert.KernelIdeal.Gen Idealize.ShloMosaic Idealize.SL.Sem Cert.Fox

/-- The scale is a real number. -/
theorem scale_real : IsReal (Ideal.ofBits .f32 0x3DB504F3#32) := by
  refine isReal_of (fun e => ?_) (fun e => ?_)
  · simp [Ideal.ofBits, Ideal.ieee] at e
    exact EReal.coe_ne_top _ ((EReal.coe_mul _ _).trans e)
  · simp [Ideal.ofBits, Ideal.ieee] at e
    exact EReal.coe_ne_bot _ ((EReal.coe_mul _ _).trans e)

theorem score_real {q k : Fin 128 → EReal} {cq ck : EReal} (hq : ∀ d, IsReal (q d)) (hk : ∀ d, IsReal (k d)) (h1 : IsReal cq) (h2 : IsReal ck) :
    IsReal (score q k cq ck) :=
  ((IsReal.sum _ _ fun d => (hq d).mul (hk d)).mul scale_real).add (h1.sub h2)

variable {q k : S2x4096x8x128.Idx → EReal} {g : S2x4096x8.Idx → EReal}

theorem rowS_ne_top (hq : ∀ i, IsReal (q i)) (hk : ∀ i, IsReal (k i)) (hg : ∀ i, IsReal (g i)) (b : Fin 2) (i : Fin 4096) (h : Fin 8) (j : ℕ) :
    rowS q k g b i h j ≠ ⊤ := by
  unfold rowS
  split
  · split
    · exact (score_real (fun _ => hq _) (fun _ => hk _) (hg _) (hg _)).ne_top
    · exact bot_ne_top
  · exact bot_ne_top

theorem rowS_ne_bot (hq : ∀ i, IsReal (q i)) (hk : ∀ i, IsReal (k i)) (hg : ∀ i, IsReal (g i)) (b : Fin 2) (i : Fin 4096) (h : Fin 8) :
    rowS q k g b i h 0 ≠ ⊥ := by
  unfold rowS
  rw [dif_pos (by omega), if_pos (Nat.zero_le _)]
  exact (score_real (fun _ => hq _) (fun _ => hk _) (hg _) (hg _)).ne_bot

end Cert.KernelIdeal.Fox

end
-- ==== Proof.Lin.Dn.lean ====
/- The projection to the columns of the gated delta heads is the product of the normed activations with those columns. -/
module

public import proofs.«01_k».proof.Proof.Gen.DnProjIdeal.Value
public import proofs.«01_k».proof.Proof.Gen.DnProjRefIdeal.Run
public import Idealize.ShloMosaic.Lib.Pipeline.ValueKit

@[expose] public section

set_option maxRecDepth 16384

noncomputable section

namespace Cert.DnProjIdeal.Lin

open Cert.DnProjIdeal Cert.DnProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Position `i` of sequence `b` times column `j` of the weights. -/
def cell (x : S2x4096x4096.Idx → EReal) (w : S1x4096x12328.Idx → EReal) (b : Fin 2) (i : Fin 4096) (j : Fin 12328) : EReal :=
  ∑ k : Fin 4096, x (ix3 b i k) * w (ix3 0 k j)

/-- The columns of the gated delta heads as one array: row `4096 b + i`, column `j`. -/
def cols (x : S2x4096x4096.Idx → EReal) (w : S1x4096x12328.Idx → EReal) : S8192x8192.Idx → EReal := fun y =>
  have h0 : (y 0).val < 8192 := (y 0).isLt
  have h1 : (y 1).val < 8192 := (y 1).isLt
  cell x w ⟨(y 0).val / 4096, by omega⟩ ⟨(y 0).val % 4096, by omega⟩ ⟨0 + (y 1).val, by omega⟩

/-- Where the blocks lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ (grid0.coords t 0).val < 8 ∧ (grid0.coords t 1).val < 16 :=
  (by decide +kernel : ∀ t : Fin grid0.N, _)

/-- A block of rows of the activations. -/
theorem a_blk (t : Fin cfg0.N) (r : Fin 1024) (k : Fin 4096) (b : Fin 2) (i : Fin 4096) (e : 4096 * b.val + i.val = 1024 * (grid0.coords t 0).val + r.val) :
    iblk m c 0 t (ix2 r k) = m ((c : Thread nD τ).loc main_arg0) (ix3 b i k) := by
  blk_simp [iblk, idx t]
  entry_read
  pointwise
  refine congrArg (m ((c : Thread nD τ).loc main_arg0)) ?_
  blk_ext [idx t]

/-- A block of rows of the transposed weights. -/
theorem w_blk (t : Fin cfg0.N) (r : Fin 512) (k : Fin 4096) (j : Fin 12328) (e : j.val = 0 + (512 * (grid0.coords t 1).val + r.val)) :
    iblk m c 1 t (ix2 r k) = m ((c : Thread nD τ).loc main_arg1) (ix3 0 k j) := by
  blk_simp [iblk, idx t]
  entry_read
  pointwise
  refine congrArg (m ((c : Thread nD τ).loc main_arg1)) ?_
  blk_ext [idx t]

/-- What the body stores, at an index. -/
theorem pay_at (a : FVec Ideal S1024x4096 .bf16) (w : FVec Ideal S512x4096 .bf16) (r : Fin 1024) (n : Fin 512) :
    k0_pay1 (F := Ideal) a w (ix2 r n) = ∑ k : Fin 4096, a (ix2 r k) * w (ix2 n k) := by
  pointwise [k0_pay1]

/-- The result array of the call. -/
theorem final : (dats m 0 c).arrAt 2 cfg0.N = cols (m ((c : Thread nD τ).loc main_arg0)) (m ((c : Thread nD τ).loc main_arg1)) := by
  refine (dats m 0 c).arrAt_eq_of_covers 2 _ (by decide +kernel) fun t _ y => ?_
  blk_simp
  rw [after0_2]; frame_out
  have e0 : ((win0_2.blk t).view.emb y 0).val = (grid0.coords t 0).val * 1024 + (y 0).val := by blk_simp [idx t]
  have e1 : ((win0_2.blk t).view.emb y 1).val = (grid0.coords t 1).val * 512 + (y 1).val := by blk_simp [idx t]
  obtain ⟨-, -, -, h0, h1⟩ := idx t
  generalize (win0_2.blk t).view.emb y = z at e0 e1 ⊢
  idx_vars y
  refine (pay_at _ _ _ _).trans (Finset.sum_congr rfl fun k _ =>
    congrArg₂ (fun a b : EReal => a * b) (a_blk m c t _ k _ _ ?_) (w_blk m c t _ k _ ?_))
  · show 4096 * ((z 0).val / 4096) + (z 0).val % 4096 = _; omega
  · show 0 + (z 1).val = _; omega

open Cert.DnProjRefIdeal in
/-- The reference's term is that array. -/
theorem result (x : FVec Ideal Cert.DnProjRefIdeal.S2x4096x4096 .f32) (w : FVec Ideal Cert.DnProjRefIdeal.S1x4096x12328 .f32) :
    shapeCast Cert.DnProjRefIdeal.S8192x8192 (extractStridedSlice Cert.DnProjRefIdeal.S2x4096x8192 ![0, 0, 0]
      (Host.dotGeneral dot_S2x4096x4096_S4096x12328_S2x4096x12328_2_0_01_1_n_n none x
        (shapeCast Cert.DnProjRefIdeal.S4096x12328 w Cert.DnProjRefIdeal.Gen.shapeCasts_S1x4096x12328_S4096x12328))
      Cert.DnProjRefIdeal.Gen.slices_S2x4096x12328_S2x4096x8192_0_0_0) Cert.DnProjRefIdeal.Gen.shapeCasts_S2x4096x8192_S8192x8192 = cols x w := by
  funext y
  idx_vars y
  pointwise [cols, cell]

end Cert.DnProjIdeal.Lin

end
-- ==== Proof.Lin.Fx.lean ====
/- The projection to the columns of the forgetting attention heads is the product of the normed activations with those columns. -/
module

public import proofs.«01_k».proof.Proof.Gen.FoxProjIdeal.Value
public import proofs.«01_k».proof.Proof.Gen.FoxProjRefIdeal.Run
public import Idealize.ShloMosaic.Lib.Pipeline.ValueKit

@[expose] public section

set_option maxRecDepth 16384

noncomputable section

namespace Cert.FoxProjIdeal.Lin

open Cert.FoxProjIdeal Cert.FoxProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Position `i` of sequence `b` times column `j` of the weights. -/
def cell (x : S2x4096x4096.Idx → EReal) (w : S1x4096x12328.Idx → EReal) (b : Fin 2) (i : Fin 4096) (j : Fin 12328) : EReal :=
  ∑ k : Fin 4096, x (ix3 b i k) * w (ix3 0 k j)

/-- The columns of the forgetting attention heads as one array: row `4096 b + i`, column `j`. -/
def cols (x : S2x4096x4096.Idx → EReal) (w : S1x4096x12328.Idx → EReal) : S8192x3072.Idx → EReal := fun y =>
  have h0 : (y 0).val < 8192 := (y 0).isLt
  have h1 : (y 1).val < 3072 := (y 1).isLt
  cell x w ⟨(y 0).val / 4096, by omega⟩ ⟨(y 0).val % 4096, by omega⟩ ⟨8224 + (y 1).val, by omega⟩

/-- Where the blocks lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ (grid0.coords t 0).val < 8 ∧ (grid0.coords t 1).val < 6 :=
  (by decide +kernel : ∀ t : Fin grid0.N, _)

/-- A block of rows of the activations. -/
theorem a_blk (t : Fin cfg0.N) (r : Fin 1024) (k : Fin 4096) (b : Fin 2) (i : Fin 4096) (e : 4096 * b.val + i.val = 1024 * (grid0.coords t 0).val + r.val) :
    iblk m c 0 t (ix2 r k) = m ((c : Thread nD τ).loc main_arg0) (ix3 b i k) := by
  blk_simp [iblk, idx t]
  entry_read
  pointwise
  refine congrArg (m ((c : Thread nD τ).loc main_arg0)) ?_
  blk_ext [idx t]

/-- A block of rows of the transposed weights. -/
theorem w_blk (t : Fin cfg0.N) (r : Fin 512) (k : Fin 4096) (j : Fin 12328) (e : j.val = 8224 + (512 * (grid0.coords t 1).val + r.val)) :
    iblk m c 1 t (ix2 r k) = m ((c : Thread nD τ).loc main_arg1) (ix3 0 k j) := by
  blk_simp [iblk, idx t]
  entry_read
  pointwise
  refine congrArg (m ((c : Thread nD τ).loc main_arg1)) ?_
  blk_ext [idx t]

/-- What the body stores, at an index. -/
theorem pay_at (a : FVec Ideal S1024x4096 .bf16) (w : FVec Ideal S512x4096 .bf16) (r : Fin 1024) (n : Fin 512) :
    k0_pay1 (F := Ideal) a w (ix2 r n) = ∑ k : Fin 4096, a (ix2 r k) * w (ix2 n k) := by
  pointwise [k0_pay1]

/-- The result array of the call. -/
theorem final : (dats m 0 c).arrAt 2 cfg0.N = cols (m ((c : Thread nD τ).loc main_arg0)) (m ((c : Thread nD τ).loc main_arg1)) := by
  refine (dats m 0 c).arrAt_eq_of_covers 2 _ (by decide +kernel) fun t _ y => ?_
  blk_simp
  rw [after0_2]; frame_out
  have e0 : ((win0_2.blk t).view.emb y 0).val = (grid0.coords t 0).val * 1024 + (y 0).val := by blk_simp [idx t]
  have e1 : ((win0_2.blk t).view.emb y 1).val = (grid0.coords t 1).val * 512 + (y 1).val := by blk_simp [idx t]
  obtain ⟨-, -, -, h0, h1⟩ := idx t
  generalize (win0_2.blk t).view.emb y = z at e0 e1 ⊢
  idx_vars y
  refine (pay_at _ _ _ _).trans (Finset.sum_congr rfl fun k _ =>
    congrArg₂ (fun a b : EReal => a * b) (a_blk m c t _ k _ _ ?_) (w_blk m c t _ k _ ?_))
  · show 4096 * ((z 0).val / 4096) + (z 0).val % 4096 = _; omega
  · show 8224 + (z 1).val = _; omega

open Cert.FoxProjRefIdeal in
/-- The reference's term is that array. -/
theorem result (x : FVec Ideal Cert.FoxProjRefIdeal.S2x4096x4096 .f32) (w : FVec Ideal Cert.FoxProjRefIdeal.S1x4096x12328 .f32) :
    shapeCast Cert.FoxProjRefIdeal.S8192x3072 (extractStridedSlice Cert.FoxProjRefIdeal.S2x4096x3072 ![0, 0, 8224]
      (Host.dotGeneral dot_S2x4096x4096_S4096x12328_S2x4096x12328_2_0_01_1_n_n none x
        (shapeCast Cert.FoxProjRefIdeal.S4096x12328 w Cert.FoxProjRefIdeal.Gen.shapeCasts_S1x4096x12328_S4096x12328))
      Cert.FoxProjRefIdeal.Gen.slices_S2x4096x12328_S2x4096x3072_0_0_8224) Cert.FoxProjRefIdeal.Gen.shapeCasts_S2x4096x3072_S8192x3072 = cols x w := by
  funext y
  idx_vars y
  pointwise [cols, cell]

end Cert.FoxProjIdeal.Lin

end
-- ==== Proof.Lin.Mq.lean ====
/- The projection to the columns of the memory attention heads is the product of the normed activations with those columns. -/
module

public import proofs.«01_k».proof.Proof.Gen.MemProjIdeal.Value
public import proofs.«01_k».proof.Proof.Gen.MemProjRefIdeal.Run
public import Idealize.ShloMosaic.Lib.Pipeline.ValueKit

@[expose] public section

set_option maxRecDepth 16384

noncomputable section

namespace Cert.MemProjIdeal.Lin

open Cert.MemProjIdeal Cert.MemProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Position `i` of sequence `b` times column `j` of the weights. -/
def cell (x : S2x4096x4096.Idx → EReal) (w : S1x4096x12328.Idx → EReal) (b : Fin 2) (i : Fin 4096) (j : Fin 12328) : EReal :=
  ∑ k : Fin 4096, x (ix3 b i k) * w (ix3 0 k j)

/-- The columns of the memory attention heads as one array: row `4096 b + i`, column `j`. -/
def cols (x : S2x4096x4096.Idx → EReal) (w : S1x4096x12328.Idx → EReal) : S8192x1024.Idx → EReal := fun y =>
  have h0 : (y 0).val < 8192 := (y 0).isLt
  have h1 : (y 1).val < 1024 := (y 1).isLt
  cell x w ⟨(y 0).val / 4096, by omega⟩ ⟨(y 0).val % 4096, by omega⟩ ⟨11304 + (y 1).val, by omega⟩

/-- Where the blocks lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ (grid0.coords t 0).val < 8 ∧ (grid0.coords t 1).val < 2 :=
  (by decide +kernel : ∀ t : Fin grid0.N, _)

/-- A block of rows of the activations. -/
theorem a_blk (t : Fin cfg0.N) (r : Fin 1024) (k : Fin 4096) (b : Fin 2) (i : Fin 4096) (e : 4096 * b.val + i.val = 1024 * (grid0.coords t 0).val + r.val) :
    iblk m c 0 t (ix2 r k) = m ((c : Thread nD τ).loc main_arg0) (ix3 b i k) := by
  blk_simp [iblk, idx t]
  entry_read
  pointwise
  refine congrArg (m ((c : Thread nD τ).loc main_arg0)) ?_
  blk_ext [idx t]

/-- A block of rows of the transposed weights. -/
theorem w_blk (t : Fin cfg0.N) (r : Fin 512) (k : Fin 4096) (j : Fin 12328) (e : j.val = 11304 + (512 * (grid0.coords t 1).val + r.val)) :
    iblk m c 1 t (ix2 r k) = m ((c : Thread nD τ).loc main_arg1) (ix3 0 k j) := by
  blk_simp [iblk, idx t]
  entry_read
  pointwise
  refine congrArg (m ((c : Thread nD τ).loc main_arg1)) ?_
  blk_ext [idx t]

/-- What the body stores, at an index. -/
theorem pay_at (a : FVec Ideal S1024x4096 .bf16) (w : FVec Ideal S512x4096 .bf16) (r : Fin 1024) (n : Fin 512) :
    k0_pay1 (F := Ideal) a w (ix2 r n) = ∑ k : Fin 4096, a (ix2 r k) * w (ix2 n k) := by
  pointwise [k0_pay1]

/-- The result array of the call. -/
theorem final : (dats m 0 c).arrAt 2 cfg0.N = cols (m ((c : Thread nD τ).loc main_arg0)) (m ((c : Thread nD τ).loc main_arg1)) := by
  refine (dats m 0 c).arrAt_eq_of_covers 2 _ (by decide +kernel) fun t _ y => ?_
  blk_simp
  rw [after0_2]; frame_out
  have e0 : ((win0_2.blk t).view.emb y 0).val = (grid0.coords t 0).val * 1024 + (y 0).val := by blk_simp [idx t]
  have e1 : ((win0_2.blk t).view.emb y 1).val = (grid0.coords t 1).val * 512 + (y 1).val := by blk_simp [idx t]
  obtain ⟨-, -, -, h0, h1⟩ := idx t
  generalize (win0_2.blk t).view.emb y = z at e0 e1 ⊢
  idx_vars y
  refine (pay_at _ _ _ _).trans (Finset.sum_congr rfl fun k _ =>
    congrArg₂ (fun a b : EReal => a * b) (a_blk m c t _ k _ _ ?_) (w_blk m c t _ k _ ?_))
  · show 4096 * ((z 0).val / 4096) + (z 0).val % 4096 = _; omega
  · show 11304 + (z 1).val = _; omega

open Cert.MemProjRefIdeal in
/-- The reference's term is that array. -/
theorem result (x : FVec Ideal Cert.MemProjRefIdeal.S2x4096x4096 .f32) (w : FVec Ideal Cert.MemProjRefIdeal.S1x4096x12328 .f32) :
    shapeCast Cert.MemProjRefIdeal.S8192x1024 (extractStridedSlice Cert.MemProjRefIdeal.S2x4096x1024 ![0, 0, 11304]
      (Host.dotGeneral dot_S2x4096x4096_S4096x12328_S2x4096x12328_2_0_01_1_n_n none x
        (shapeCast Cert.MemProjRefIdeal.S4096x12328 w Cert.MemProjRefIdeal.Gen.shapeCasts_S1x4096x12328_S4096x12328))
      Cert.MemProjRefIdeal.Gen.slices_S2x4096x12328_S2x4096x1024_0_0_11304) Cert.MemProjRefIdeal.Gen.shapeCasts_S2x4096x1024_S8192x1024 = cols x w := by
  funext y
  idx_vars y
  pointwise [cols, cell]

end Cert.MemProjIdeal.Lin

end
-- ==== Proof.Lin.Out.lean ====
/- The output projection with its residual: the three head groups' rows side by side times the weights, added to the layer's input. -/
module

public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

namespace Cert.OutProjIdeal.Lin

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- One position's projection to column `j`, group by group, with the residual. -/
def cell (x : S2x4096x4096.Idx → EReal) (p : S2x4096x2048.Idx → EReal) (q r : S2x4096x1024.Idx → EReal) (w : S1x4096x4096.Idx → EReal)
    (b : Fin 2) (i : Fin 4096) (j : Fin 4096) : EReal :=
  (∑ k : Fin 2048, p (ix3 b i k) * w (ix3 0 (⟨k.val, by omega⟩ : Fin 4096) j)) + (∑ k : Fin 1024, q (ix3 b i k) * w (ix3 0 (⟨2048 + k.val, by omega⟩ : Fin 4096) j))
    + (∑ k : Fin 1024, r (ix3 b i k) * w (ix3 0 (⟨3072 + k.val, by omega⟩ : Fin 4096) j)) + x (ix3 b i j)

/-- The projection as one array: row `4096 b + i`, column `j`. -/
def rows (x : S2x4096x4096.Idx → EReal) (p : S2x4096x2048.Idx → EReal) (q r : S2x4096x1024.Idx → EReal) (w : S1x4096x4096.Idx → EReal) :
    S8192x4096.Idx → EReal := fun y =>
  have h0 : (y 0).val < 8192 := (y 0).isLt
  cell x p q r w ⟨(y 0).val / 4096, by omega⟩ ⟨(y 0).val % 4096, by omega⟩ (y 1)

/-- Where the blocks lie. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![0, (grid0.coords t 1).val]
    ∧ win0_4.index t = ![(grid0.coords t 0).val, (grid0.coords t 1).val] ∧ win0_5.index t = ![(grid0.coords t 0).val, (grid0.coords t 1).val]
    ∧ (grid0.coords t 0).val < 8 ∧ (grid0.coords t 1).val < 8 :=
  (by decide +kernel : ∀ t : Fin grid0.N, _)

/-- A block of rows of the delta heads' output. -/
theorem p_blk (t : Fin cfg0.N) (r : Fin 1024) (k : Fin 2048) (b : Fin 2) (i : Fin 4096) (e : 4096 * b.val + i.val = 1024 * (grid0.coords t 0).val + r.val) :
    iblk m c 0 t (ix2 r k) = m ((c : Thread nD τ).loc main_arg1) (ix3 b i k) := by
  blk_simp [iblk, idx t]
  entry_read
  pointwise
  refine congrArg (m ((c : Thread nD τ).loc main_arg1)) ?_
  blk_ext [idx t]

/-- A block of rows of the forgetting heads' output. -/
theorem q_blk (t : Fin cfg0.N) (r : Fin 1024) (k : Fin 1024) (b : Fin 2) (i : Fin 4096) (e : 4096 * b.val + i.val = 1024 * (grid0.coords t 0).val + r.val) :
    iblk m c 1 t (ix2 r k) = m ((c : Thread nD τ).loc main_arg2) (ix3 b i k) := by
  blk_simp [iblk, idx t]
  entry_read
  pointwise
  refine congrArg (m ((c : Thread nD τ).loc main_arg2)) ?_
  blk_ext [idx t]

/-- A block of rows of the memory heads' output. -/
theorem r_blk (t : Fin cfg0.N) (r : Fin 1024) (k : Fin 1024) (b : Fin 2) (i : Fin 4096) (e : 4096 * b.val + i.val = 1024 * (grid0.coords t 0).val + r.val) :
    iblk m c 2 t (ix2 r k) = m ((c : Thread nD τ).loc main_arg3) (ix3 b i k) := by
  blk_simp [iblk, idx t]
  entry_read
  pointwise
  refine congrArg (m ((c : Thread nD τ).loc main_arg3)) ?_
  blk_ext [idx t]

/-- A block of columns of the weights. -/
theorem w_blk (t : Fin cfg0.N) (k : Fin 4096) (n : Fin 512) (j : Fin 4096) (e : j.val = 512 * (grid0.coords t 1).val + n.val) :
    iblk m c 3 t (ix2 k n) = m ((c : Thread nD τ).loc main_arg4) (ix3 0 k j) := by
  blk_simp [iblk, idx t]
  entry_read
  pointwise
  refine congrArg (m ((c : Thread nD τ).loc main_arg4)) ?_
  blk_ext [idx t]

/-- A block of the layer's input. -/
theorem x_blk (t : Fin cfg0.N) (r : Fin 1024) (n : Fin 512) (b : Fin 2) (i : Fin 4096) (j : Fin 4096) (e : 4096 * b.val + i.val = 1024 * (grid0.coords t 0).val + r.val)
    (f : j.val = 512 * (grid0.coords t 1).val + n.val) :
    iblk m c 4 t (ix2 r n) = m ((c : Thread nD τ).loc main_arg0) (ix3 b i j) := by
  blk_simp [iblk, idx t]
  entry_read
  pointwise
  refine congrArg (m ((c : Thread nD τ).loc main_arg0)) ?_
  blk_ext [idx t]

/-- What the body stores, at an index. -/
theorem pay_at (p : FVec Ideal S1024x2048 .bf16) (q r : FVec Ideal S1024x1024 .bf16) (w : FVec Ideal S4096x512 .bf16) (x : FVec Ideal S1024x512 .f32)
    (i : Fin 1024) (n : Fin 512) :
    k0_pay1 (F := Ideal) p (View.ld w r0_1) q (View.ld w r0_3) r (View.ld w r0_4) x (ix2 i n)
      = (∑ k : Fin 2048, p (ix2 i k) * w (ix2 (⟨k.val, by omega⟩ : Fin 4096) n)) + (∑ k : Fin 1024, q (ix2 i k) * w (ix2 (⟨2048 + k.val, by omega⟩ : Fin 4096) n))
        + (∑ k : Fin 1024, r (ix2 i k) * w (ix2 (⟨3072 + k.val, by omega⟩ : Fin 4096) n)) + x (ix2 i n) := by
  pointwise [k0_pay1]

/-- A sum over the 4096 head columns, group by group. -/
theorem split (f : Fin 4096 → EReal) : ∑ k, f k = (∑ k : Fin 2048, f ⟨k.val, by omega⟩) + (∑ k : Fin 1024, f ⟨2048 + k.val, by omega⟩)
    + ∑ k : Fin 1024, f ⟨3072 + k.val, by omega⟩ := by
  have h := Fin.sum_univ_add (a := 3072) (b := 1024) f
  have h' := Fin.sum_univ_add (a := 2048) (b := 1024) fun k : Fin 3072 => f ⟨k.val, by omega⟩
  exact h.trans (congrArg (fun a : EReal => a + ∑ k : Fin 1024, f ⟨3072 + k.val, by omega⟩) h')

/-- The result array of the call. -/
theorem final : (dats m 0 c).arrAt 5 cfg0.N = rows (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  have e0 : ((win0_5.blk t).view.emb y 0).val = (grid0.coords t 0).val * 1024 + (y 0).val := by blk_simp [idx t]
  have e1 : ((win0_5.blk t).view.emb y 1).val = (grid0.coords t 1).val * 512 + (y 1).val := by blk_simp [idx t]
  obtain ⟨-, -, -, -, -, -, h0, h1⟩ := idx t
  generalize (win0_5.blk t).view.emb y = z at e0 e1 ⊢
  idx_vars y
  have ea : 4096 * ((z 0).val / 4096) + (z 0).val % 4096 = 1024 * (grid0.coords t 0).val + y0.val := by omega
  have eb : (z 1).val = 512 * (grid0.coords t 1).val + y1.val := by omega
  refine (pay_at _ _ _ _ _ _ _).trans (congrArg₂ (fun a b : EReal => a + b) (congrArg₂ (fun a b : EReal => a + b) (congrArg₂ (fun a b : EReal => a + b)
    (Finset.sum_congr rfl fun k _ => congrArg₂ (fun a b : EReal => a * b) (p_blk m c t _ k _ _ ea) (w_blk m c t _ _ _ eb))
    (Finset.sum_congr rfl fun k _ => congrArg₂ (fun a b : EReal => a * b) (q_blk m c t _ k _ _ ea) (w_blk m c t _ _ _ eb)))
    (Finset.sum_congr rfl fun k _ => congrArg₂ (fun a b : EReal => a * b) (r_blk m c t _ k _ _ ea) (w_blk m c t _ _ _ eb))) (x_blk m c t _ _ _ _ _ ea eb))

open Cert.OutProjRefIdeal in
/-- The reference's term is that array. -/
theorem result (x : FVec Ideal Cert.OutProjRefIdeal.S2x4096x4096 .f32) (p : FVec Ideal Cert.OutProjRefIdeal.S2x4096x2048 .f32)
    (q r : FVec Ideal Cert.OutProjRefIdeal.S2x4096x1024 .f32) (w : FVec Ideal Cert.OutProjRefIdeal.S1x4096x4096 .f32) :
    shapeCast Cert.OutProjRefIdeal.S8192x4096 (addf x (Host.dotGeneral dot_S2x4096x4096_S4096x4096_S2x4096x4096_2_0_01_1_n_n none
      (concatenate Cert.OutProjRefIdeal.S2x4096x4096 2 [⟨Cert.OutProjRefIdeal.S2x4096x2048, p⟩, ⟨Cert.OutProjRefIdeal.S2x4096x1024, q⟩, ⟨Cert.OutProjRefIdeal.S2x4096x1024, r⟩]
        Cert.OutProjRefIdeal.Gen.concatenates_S2x4096x2048_S2x4096x1024_S2x4096x1024_S2x4096x4096_d2)
      (shapeCast Cert.OutProjRefIdeal.S4096x4096 w Cert.OutProjRefIdeal.Gen.shapeCasts_S1x4096x4096_S4096x4096)))
      Cert.OutProjRefIdeal.Gen.shapeCasts_S2x4096x4096_S8192x4096 = rows x p q r w := by
  funext y
  idx_vars y
  pointwise [rows, cell]
  rw [add_comm]
  refine congrArg (fun a : EReal => a + x (ix3 _ _ y1)) ?_
  refine (split _).trans (congrArg₂ (fun a b : EReal => a + b) (congrArg₂ (fun a b : EReal => a + b)
    (Finset.sum_congr rfl fun k _ => ?_) (Finset.sum_congr rfl fun k _ => ?_)) (Finset.sum_congr rfl fun k _ => ?_))
  · have := k.isLt
    rw [dif_pos (show k.val < 2048 by omega)]
  · have := k.isLt
    rw [dif_neg (show ¬ 2048 + k.val < 2048 by omega), dif_pos (show 2048 + k.val - 2048 < 1024 by omega)]
    refine congrArg (fun a : EReal => a * _) (congrArg q ?_)
    congr 1; exact Fin.ext (by show 2048 + k.val - 2048 = k.val; omega)
  · have := k.isLt
    rw [dif_neg (show ¬ 3072 + k.val < 2048 by omega), dif_neg (show ¬ 3072 + k.val - 2048 < 1024 by omega)]
    refine congrArg (fun a : EReal => a * _) (congrArg r ?_)
    congr 1; exact Fin.ext (by show 3072 + k.val - 2048 - 1024 = k.val; omega)

end Cert.OutProjIdeal.Lin

end
-- ==== Proof.Lin.Kv.lean ====
/- The memory's keys and values are the product of the normed memory with their weights. -/
module

public import proofs.«01_k».proof.Proof.Gen.MemKvIdeal.Value
public import proofs.«01_k».proof.Proof.Gen.MemKvRefIdeal.Run
public import Idealize.ShloMosaic.Lib.Pipeline.ValueKit

@[expose] public section

set_option maxRecDepth 16384

noncomputable section

namespace Cert.MemKvIdeal.Lin

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Token `i` of memory `b` times column `j` of the weights. -/
def cell (x : S2x256x4096.Idx → EReal) (w : S1x4096x2048.Idx → EReal) (b : Fin 2) (i : Fin 256) (j : Fin 2048) : EReal :=
  ∑ k : Fin 4096, x (ix3 b i k) * w (ix3 0 k j)

/-- Keys and values as one array: row `256 b + i`, column `j`. -/
def cols (x : S2x256x4096.Idx → EReal) (w : S1x4096x2048.Idx → EReal) : S512x2048.Idx → EReal := fun y =>
  have h0 : (y 0).val < 512 := (y 0).isLt
  have h1 : (y 1).val < 2048 := (y 1).isLt
  cell x w ⟨(y 0).val / 256, by omega⟩ ⟨(y 0).val % 256, by omega⟩ ⟨(y 1).val, by omega⟩

/-- Where the blocks lie. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ (grid0.coords t 0).val < 1 ∧ (grid0.coords t 1).val < 4 :=
  (by decide +kernel : ∀ t : Fin grid0.N, _)

/-- A block of rows of the memory. -/
theorem a_blk (t : Fin cfg0.N) (r : Fin 512) (k : Fin 4096) (b : Fin 2) (i : Fin 256) (e : 256 * b.val + i.val = 512 * (grid0.coords t 0).val + r.val) :
    iblk m c 0 t (ix2 r k) = m ((c : Thread nD τ).loc main_arg0) (ix3 b i k) := by
  blk_simp [iblk, idx t]
  entry_read
  pointwise
  refine congrArg (m ((c : Thread nD τ).loc main_arg0)) ?_
  blk_ext [idx t]

/-- A block of columns of the weights. -/
theorem w_blk (t : Fin cfg0.N) (k : Fin 4096) (r : Fin 512) (j : Fin 2048) (e : j.val = 512 * (grid0.coords t 1).val + r.val) :
    iblk m c 1 t (ix2 k r) = m ((c : Thread nD τ).loc main_arg1) (ix3 0 k j) := by
  blk_simp [iblk, idx t]
  entry_read
  pointwise
  refine congrArg (m ((c : Thread nD τ).loc main_arg1)) ?_
  blk_ext [idx t]

/-- What the body stores, at an index. -/
theorem pay_at (a : FVec Ideal S512x4096 .bf16) (w : FVec Ideal S4096x512 .bf16) (r : Fin 512) (n : Fin 512) :
    k0_pay1 (F := Ideal) a w (ix2 r n) = ∑ k : Fin 4096, a (ix2 r k) * w (ix2 k n) := by
  pointwise [k0_pay1]

/-- The result array of the call. -/
theorem final : (dats m 0 c).arrAt 2 cfg0.N = cols (m ((c : Thread nD τ).loc main_arg0)) (m ((c : Thread nD τ).loc main_arg1)) := by
  refine (dats m 0 c).arrAt_eq_of_covers 2 _ (by decide +kernel) fun t _ y => ?_
  blk_simp
  rw [after0_2]; frame_out
  have e0 : ((win0_2.blk t).view.emb y 0).val = (grid0.coords t 0).val * 512 + (y 0).val := by blk_simp [idx t]
  have e1 : ((win0_2.blk t).view.emb y 1).val = (grid0.coords t 1).val * 512 + (y 1).val := by blk_simp [idx t]
  obtain ⟨-, -, -, h0, h1⟩ := idx t
  generalize (win0_2.blk t).view.emb y = z at e0 e1 ⊢
  idx_vars y
  refine (pay_at _ _ _ _).trans (Finset.sum_congr rfl fun k _ =>
    congrArg₂ (fun a b : EReal => a * b) (a_blk m c t _ k _ _ ?_) (w_blk m c t k _ _ ?_))
  · show 256 * ((z 0).val / 256) + (z 0).val % 256 = _; omega
  · show (z 1).val = _; omega

open Cert.MemKvRefIdeal in
/-- The reference's term is that array. -/
theorem result (x : FVec Ideal Cert.MemKvRefIdeal.S2x256x4096 .f32) (w : FVec Ideal Cert.MemKvRefIdeal.S1x4096x2048 .f32) :
    shapeCast Cert.MemKvRefIdeal.S512x2048 (Host.dotGeneral dot_S2x256x4096_S4096x2048_S2x256x2048_2_0_01_1_n_n none x
        (shapeCast Cert.MemKvRefIdeal.S4096x2048 w Cert.MemKvRefIdeal.Gen.shapeCasts_S1x4096x2048_S4096x2048))
      Cert.MemKvRefIdeal.Gen.shapeCasts_S2x256x2048_S512x2048 = cols x w := by
  funext y
  idx_vars y
  pointwise [cols, cell]

end Cert.MemKvIdeal.Lin

end
-- ==== Proof.Lin.Kn.lean ====
/- The per-head normalisation of the keys: each head's lane of 128 columns divided by its root mean square and scaled. -/
module

public import proofs.«01_k».proof.Proof.Gen.KeyNormIdeal.Value
public import proofs.«01_k».proof.Proof.Gen.KeyNormRefIdeal.Run
public import Idealize.ShloMosaic.Lib.Pipeline.ValueKit

@[expose] public section

set_option maxRecDepth 16384

noncomputable section

namespace Cert.KeyNormIdeal.Lin

open Cert.KeyNormIdeal Cert.KeyNormIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- One lane of 128 numbers divided by its root mean square, then scaled, at entry `d`. -/
def lane (s g : Fin 128 → EReal) (d : Fin 128) : EReal :=
  s d * Ideal.rsqrt (Ideal.div (∑ k, s k * s k) (Ideal.ofBits FTy.f32 1124073472#32) + Ideal.ofBits FTy.f32 897988541#32) * g d

/-- The normed keys as one array: row `4096 b + i`, head `h` in columns `128 h …`; the keys are the middle third of the projection's columns. -/
def keys (x : S2x4096x3072.Idx → EReal) (g : S1x128.Idx → EReal) : S8192x1024.Idx → EReal := fun y =>
  have h0 : (y 0).val < 8192 := (y 0).isLt
  have h1 : (y 1).val < 1024 := (y 1).isLt
  lane (fun k => x (ix3 (⟨(y 0).val / 4096, by omega⟩ : Fin 2) (⟨(y 0).val % 4096, by omega⟩ : Fin 4096) (⟨1024 + ((y 1).val / 128 * 128 + k.val), by omega⟩ : Fin 3072)))
    (fun k => g (ix2 0 k)) ⟨(y 1).val % 128, by omega⟩

/-- The same on one block of 512 rows. -/
def block (x : S512x1024.Idx → EReal) (g : S1x128.Idx → EReal) (y : S512x1024.Idx) : EReal :=
  have h1 : (y 1).val < 1024 := (y 1).isLt
  lane (fun k => x (ix2 (y 0) (⟨(y 1).val / 128 * 128 + k.val, by omega⟩ : Fin 1024))) (fun k => g (ix2 0 k)) ⟨(y 1).val % 128, by omega⟩

/-- Inside the lane that begins at column `o`. -/
theorem block_at (x : S512x1024.Idx → EReal) (g : S1x128.Idx → EReal) (y : S512x1024.Idx) (r : Fin 512) (d : Fin 128) (o : ℕ)
    (ho : o + 128 ≤ 1024) (hm : o % 128 = 0) (h0 : (y 0).val = r.val) (h1 : (y 1).val = o + d.val) :
    block x g y = lane (fun k => x (ix2 r (⟨o + k.val, by omega⟩ : Fin 1024))) (fun k => g (ix2 0 k)) d := by
  have hd := d.isLt
  have e0 : y 0 = r := Fin.ext h0
  have e1 : (y 1).val / 128 * 128 = o := by omega
  have e2 : (y 1).val % 128 = d.val := by omega
  unfold block
  simp only [e0, e1, e2]

/-- What the eight stores of the body leave at an index of its block. -/
theorem point (u : FVec Ideal S512x1024 .f32) (g : FVec Ideal S1x128 .f32) (y : S512x1024.Idx) : out0_2 (F := Ideal) u g y = block u g y := by
  unfold_out out0_2
  canon_tiles x h
  case piece0 =>
    rw [block_at u g y (x 0) (x 1) 896 (by omega) (by omega) (by omega) (by omega)]
    idx_vars x
    pointwise [k0_pay1, k0_pay2, k0_pay12, k0_pay13, lane]
  case piece1 =>
    rw [block_at u g y (x 0) (x 1) 768 (by omega) (by omega) (by omega) (by omega)]
    idx_vars x
    pointwise [k0_pay11, k0_pay2, lane]
  case piece2 =>
    rw [block_at u g y (x 0) (x 1) 640 (by omega) (by omega) (by omega) (by omega)]
    idx_vars x
    pointwise [k0_pay10, k0_pay2, lane]
  case piece3 =>
    rw [block_at u g y (x 0) (x 1) 512 (by omega) (by omega) (by omega) (by omega)]
    idx_vars x
    pointwise [k0_pay9, k0_pay2, lane]
  case piece4 =>
    rw [block_at u g y (x 0) (x 1) 384 (by omega) (by omega) (by omega) (by omega)]
    idx_vars x
    pointwise [k0_pay8, k0_pay2, lane]
  case piece5 =>
    rw [block_at u g y (x 0) (x 1) 256 (by omega) (by omega) (by omega) (by omega)]
    idx_vars x
    pointwise [k0_pay7, k0_pay2, k0_pay5, k0_pay6, lane]
  case piece6 =>
    rw [block_at u g y (x 0) (x 1) 128 (by omega) (by omega) (by omega) (by omega)]
    idx_vars x
    pointwise [k0_pay4, k0_pay2, lane]
  case piece7 =>
    rw [block_at u g y (x 0) (x 1) 0 (by omega) (by omega) (by omega) (by omega)]
    idx_vars x
    pointwise [k0_pay3, k0_pay2, lane]

/-- Where the blocks lie. -/
theorem idx : ∀ t : Fin cfg0.N, win0_0.index t = ![(grid0.coords t 0).val, 1] ∧ win0_1.index t = ![0, 0] ∧ win0_2.index t = ![(grid0.coords t 0).val, 0]
    ∧ (grid0.coords t 0).val < 16 :=
  (by decide +kernel : ∀ t : Fin grid0.N, _)

/-- A block of rows of the projected keys. -/
theorem x_blk (t : Fin cfg0.N) (r : Fin 512) (k : Fin 1024) (b : Fin 2) (i : Fin 4096) (j : Fin 3072) (e : 4096 * b.val + i.val = 512 * (grid0.coords t 0).val + r.val)
    (f : j.val = 1024 + k.val) : iblk m c 0 t (ix2 r k) = m ((c : Thread nD τ).loc main_arg0) (ix3 b i j) := by
  blk_simp [iblk, idx t]
  entry_read
  pointwise
  refine congrArg (m ((c : Thread nD τ).loc main_arg0)) ?_
  blk_ext [idx t]

/-- The scale. -/
theorem g_blk (t : Fin cfg0.N) (d : Fin 128) : iblk m c 1 t (ix2 0 d) = m ((c : Thread nD τ).loc main_arg1) (ix2 0 d) := by
  blk_simp [iblk, idx t]
  entry_read
  pointwise
  refine congrArg (m ((c : Thread nD τ).loc main_arg1)) ?_
  blk_ext [idx t]

/-- The result array of the call. -/
theorem final : (dats m 0 c).arrAt 2 cfg0.N = keys (m ((c : Thread nD τ).loc main_arg0)) (m ((c : Thread nD τ).loc main_arg1)) := by
  refine (dats m 0 c).arrAt_eq_of_covers 2 _ (by decide +kernel) fun t _ y => ?_
  blk_simp
  rw [after0_2]
  refine (point _ _ _).trans ?_
  have e0 : ((win0_2.blk t).view.emb y 0).val = (grid0.coords t 0).val * 512 + (y 0).val := by blk_simp [idx t]
  have e1 : ((win0_2.blk t).view.emb y 1).val = (y 1).val := by blk_simp [idx t]
  obtain ⟨-, -, -, h0⟩ := idx t
  generalize (win0_2.blk t).view.emb y = z at e0 e1 ⊢
  have hl : (y 1).val < 1024 := (y 1).isLt
  have es : (fun k : Fin 128 => iblk m c 0 t (ix2 (y 0) (⟨(y 1).val / 128 * 128 + k.val, by omega⟩ : Fin 1024)))
      = fun k : Fin 128 => m ((c : Thread nD τ).loc main_arg0) (ix3 (⟨(z 0).val / 4096, by have : (z 0).val < 8192 := (z 0).isLt; omega⟩ : Fin 2)
        (⟨(z 0).val % 4096, by omega⟩ : Fin 4096) (⟨1024 + ((z 1).val / 128 * 128 + k.val), by omega⟩ : Fin 3072)) :=
    funext fun k => x_blk m c t _ _ _ _ _ (by show 4096 * ((z 0).val / 4096) + (z 0).val % 4096 = _; omega)
      (by show 1024 + ((z 1).val / 128 * 128 + k.val) = 1024 + ((y 1).val / 128 * 128 + k.val); omega)
  have eg : (fun k : Fin 128 => iblk m c 1 t (ix2 0 k)) = fun k : Fin 128 => m ((c : Thread nD τ).loc main_arg1) (ix2 0 k) := funext (g_blk m c t)
  have ed : (⟨(y 1).val % 128, by omega⟩ : Fin 128) = ⟨(z 1).val % 128, by omega⟩ := Fin.ext (by show (y 1).val % 128 = (z 1).val % 128; omega)
  unfold block keys
  exact (congrArg₂ (fun a b => lane a b _) es eg).trans (congrArg (lane _ _) ed)

open Cert.KeyNormRefIdeal Cert.KeyNormRefIdeal.Gen in
/-- The reference's term is that array. -/
theorem result (x : FVec Ideal Cert.KeyNormRefIdeal.S2x4096x3072 .f32) (g : FVec Ideal Cert.KeyNormRefIdeal.S1x128 .f32) :
    (shapeCast Cert.KeyNormRefIdeal.S8192x1024 (mulf (mulf (shapeCast Cert.KeyNormRefIdeal.S2x4096x8x128 (extractStridedSlice Cert.KeyNormRefIdeal.S2x4096x1024 ![0, 0, 1024] x Cert.KeyNormRefIdeal.Gen.slices_S2x4096x3072_S2x4096x1024_0_0_1024) Cert.KeyNormRefIdeal.Gen.shapeCasts_S2x4096x1024_S2x4096x8x128) (broadcastInDim Cert.KeyNormRefIdeal.S2x4096x8x128 ![0, 1, 2, 3] Cert.KeyNormRefIdeal.Gen.bcast_S2x4096x8x1_S2x4096x8x128_0_1_2_3 (Host.rsqrt (addf (Host.divf (broadcastInDim Cert.KeyNormRefIdeal.S2x4096x8x1 ![0, 1, 2] Cert.KeyNormRefIdeal.Gen.bcast_S2x4096x8_S2x4096x8x1_0_1_2 (Host.reduceAdd (mulf (shapeCast Cert.KeyNormRefIdeal.S2x4096x8x128 (extractStridedSlice Cert.KeyNormRefIdeal.S2x4096x1024 ![0, 0, 1024] x Cert.KeyNormRefIdeal.Gen.slices_S2x4096x3072_S2x4096x1024_0_0_1024) Cert.KeyNormRefIdeal.Gen.shapeCasts_S2x4096x1024_S2x4096x8x128) (shapeCast Cert.KeyNormRefIdeal.S2x4096x8x128 (extractStridedSlice Cert.KeyNormRefIdeal.S2x4096x1024 ![0, 0, 1024] x Cert.KeyNormRefIdeal.Gen.slices_S2x4096x3072_S2x4096x1024_0_0_1024) Cert.KeyNormRefIdeal.Gen.shapeCasts_S2x4096x1024_S2x4096x8x128)) (constant Cert.KeyNormRefIdeal.S_ .f32 0x00000000#32) Cert.KeyNormRefIdeal.Gen.reducesTo_S2x4096x8x128_S2x4096x8_d3 Cert.KeyNormRefIdeal.Gen.h_S_)) (broadcastInDim Cert.KeyNormRefIdeal.S2x4096x8x1 ![] Cert.KeyNormRefIdeal.Gen.bcast_S_S2x4096x8x1 (constant Cert.KeyNormRefIdeal.S_ .f32 0x43000000#32))) (broadcastInDim Cert.KeyNormRefIdeal.S2x4096x8x1 ![] Cert.KeyNormRefIdeal.Gen.bcast_S_S2x4096x8x1 (constant Cert.KeyNormRefIdeal.S_ .f32 0x358637BD#32)))))) (broadcastInDim Cert.KeyNormRefIdeal.S2x4096x8x128 ![0, 1, 2, 3] Cert.KeyNormRefIdeal.Gen.bcast_S1x1x1x128_S2x4096x8x128_0_1_2_3 (broadcastInDim Cert.KeyNormRefIdeal.S1x1x1x128 ![3] Cert.KeyNormRefIdeal.Gen.bcast_S128_S1x1x1x128_3 (shapeCast Cert.KeyNormRefIdeal.S128 g Cert.KeyNormRefIdeal.Gen.shapeCasts_S1x128_S128)))) Cert.KeyNormRefIdeal.Gen.shapeCasts_S2x4096x8x128_S8192x1024 : FVec Ideal Cert.KeyNormRefIdeal.S8192x1024 .f32) = keys x g := by
  funext y
  idx_vars y
  pointwise [keys, lane]
  refine congrArg (fun a : EReal => a * _ * _) (congrArg x (congrArg (ix3 _ _) (Fin.ext ?_)))
  show 1024 + y1.val = 1024 + (y1.val / 128 * 128 + y1.val % 128)
  omega

end Cert.KeyNormIdeal.Lin

end
-- ==== Proof.Lin.Mk.lean ====
/- The per-head normalisation of the memory's keys: each head's lane of 128 columns divided by its root mean square and scaled. -/
module

public import proofs.«01_k».proof.Proof.Gen.MemNormIdeal.Value
public import proofs.«01_k».proof.Proof.Gen.MemNormRefIdeal.Run
public import Idealize.ShloMosaic.Lib.Pipeline.ValueKit

@[expose] public section

set_option maxRecDepth 16384

noncomputable section

namespace Cert.MemNormIdeal.Lin

open Cert.MemNormIdeal Cert.MemNormIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- One lane of 256 numbers divided by its root mean square, then scaled, at entry `d`. -/
def lane (s g : Fin 256 → EReal) (d : Fin 256) : EReal :=
  s d * Ideal.rsqrt (Ideal.div (∑ k, s k * s k) (Ideal.ofBits FTy.f32 1132462080#32) + Ideal.ofBits FTy.f32 897988541#32) * g d

/-- The normed keys as one array: row `256 b + i`, head `h` in columns `256 h …`; the keys are the first half of the columns. -/
def keys (x : S2x256x2048.Idx → EReal) (g : S1x256.Idx → EReal) : S512x1024.Idx → EReal := fun y =>
  have h0 : (y 0).val < 512 := (y 0).isLt
  have h1 : (y 1).val < 1024 := (y 1).isLt
  lane (fun k => x (ix3 (⟨(y 0).val / 256, by omega⟩ : Fin 2) (⟨(y 0).val % 256, by omega⟩ : Fin 256) (⟨((y 1).val / 256 * 256 + k.val), by omega⟩ : Fin 2048)))
    (fun k => g (ix2 0 k)) ⟨(y 1).val % 256, by omega⟩

/-- The same on one block of 256 rows. -/
def block (x : S256x1024.Idx → EReal) (g : S1x256.Idx → EReal) (y : S256x1024.Idx) : EReal :=
  have h1 : (y 1).val < 1024 := (y 1).isLt
  lane (fun k => x (ix2 (y 0) (⟨(y 1).val / 256 * 256 + k.val, by omega⟩ : Fin 1024))) (fun k => g (ix2 0 k)) ⟨(y 1).val % 256, by omega⟩

/-- Inside the lane that begins at column `o`. -/
theorem block_at (x : S256x1024.Idx → EReal) (g : S1x256.Idx → EReal) (y : S256x1024.Idx) (r : Fin 256) (d : Fin 256) (o : ℕ)
    (ho : o + 256 ≤ 1024) (hm : o % 256 = 0) (h0 : (y 0).val = r.val) (h1 : (y 1).val = o + d.val) :
    block x g y = lane (fun k => x (ix2 r (⟨o + k.val, by omega⟩ : Fin 1024))) (fun k => g (ix2 0 k)) d := by
  have hd := d.isLt
  have e0 : y 0 = r := Fin.ext h0
  have e1 : (y 1).val / 256 * 256 = o := by omega
  have e2 : (y 1).val % 256 = d.val := by omega
  unfold block
  simp only [e0, e1, e2]

/-- What the eight stores of the body leave at an index of its block. -/
theorem point (u : FVec Ideal S256x1024 .f32) (g : FVec Ideal S1x256 .f32) (y : S256x1024.Idx) : out0_2 (F := Ideal) u g y = block u g y := by
  unfold_out out0_2
  canon_tiles x h
  case piece0 =>
    rw [block_at u g y (x 0) (x 1) 768 (by omega) (by omega) (by omega) (by omega)]
    idx_vars x
    pointwise [k0_pay2, k0_pay3, lane]
  case piece1 =>
    rw [block_at u g y (x 0) (x 1) 512 (by omega) (by omega) (by omega) (by omega)]
    idx_vars x
    pointwise [k0_pay1, k0_pay3, k0_pay6, k0_pay7, lane]
  case piece2 =>
    rw [block_at u g y (x 0) (x 1) 256 (by omega) (by omega) (by omega) (by omega)]
    idx_vars x
    pointwise [k0_pay5, k0_pay3, lane]
  case piece3 =>
    rw [block_at u g y (x 0) (x 1) 0 (by omega) (by omega) (by omega) (by omega)]
    idx_vars x
    pointwise [k0_pay4, k0_pay3, lane]

/-- Where the blocks lie. -/
theorem idx : ∀ t : Fin cfg0.N, win0_0.index t = ![(grid0.coords t 0).val, 0] ∧ win0_1.index t = ![0, 0] ∧ win0_2.index t = ![(grid0.coords t 0).val, 0]
    ∧ (grid0.coords t 0).val < 2 :=
  (by decide +kernel : ∀ t : Fin grid0.N, _)

/-- A block of rows of the projected memory. -/
theorem x_blk (t : Fin cfg0.N) (r : Fin 256) (k : Fin 1024) (b : Fin 2) (i : Fin 256) (j : Fin 2048) (e : 256 * b.val + i.val = 256 * (grid0.coords t 0).val + r.val)
    (f : j.val = k.val) : iblk m c 0 t (ix2 r k) = m ((c : Thread nD τ).loc main_arg0) (ix3 b i j) := by
  blk_simp [iblk, idx t]
  entry_read
  pointwise
  refine congrArg (m ((c : Thread nD τ).loc main_arg0)) ?_
  blk_ext [idx t]

/-- The scale. -/
theorem g_blk (t : Fin cfg0.N) (d : Fin 256) : iblk m c 1 t (ix2 0 d) = m ((c : Thread nD τ).loc main_arg1) (ix2 0 d) := by
  blk_simp [iblk, idx t]
  entry_read
  pointwise
  refine congrArg (m ((c : Thread nD τ).loc main_arg1)) ?_
  blk_ext [idx t]

/-- The result array of the call. -/
theorem final : (dats m 0 c).arrAt 2 cfg0.N = keys (m ((c : Thread nD τ).loc main_arg0)) (m ((c : Thread nD τ).loc main_arg1)) := by
  refine (dats m 0 c).arrAt_eq_of_covers 2 _ (by decide +kernel) fun t _ y => ?_
  blk_simp
  rw [after0_2]
  refine (point _ _ _).trans ?_
  have e0 : ((win0_2.blk t).view.emb y 0).val = (grid0.coords t 0).val * 256 + (y 0).val := by blk_simp [idx t]
  have e1 : ((win0_2.blk t).view.emb y 1).val = (y 1).val := by blk_simp [idx t]
  obtain ⟨-, -, -, h0⟩ := idx t
  generalize (win0_2.blk t).view.emb y = z at e0 e1 ⊢
  have hl : (y 1).val < 1024 := (y 1).isLt
  have es : (fun k : Fin 256 => iblk m c 0 t (ix2 (y 0) (⟨(y 1).val / 256 * 256 + k.val, by omega⟩ : Fin 1024)))
      = fun k : Fin 256 => m ((c : Thread nD τ).loc main_arg0) (ix3 (⟨(z 0).val / 256, by have : (z 0).val < 512 := (z 0).isLt; omega⟩ : Fin 2)
        (⟨(z 0).val % 256, by omega⟩ : Fin 256) (⟨((z 1).val / 256 * 256 + k.val), by omega⟩ : Fin 2048)) :=
    funext fun k => x_blk m c t _ _ _ _ _ (by show 256 * ((z 0).val / 256) + (z 0).val % 256 = _; omega)
      (by show ((z 1).val / 256 * 256 + k.val) = ((y 1).val / 256 * 256 + k.val); omega)
  have eg : (fun k : Fin 256 => iblk m c 1 t (ix2 0 k)) = fun k : Fin 256 => m ((c : Thread nD τ).loc main_arg1) (ix2 0 k) := funext (g_blk m c t)
  have ed : (⟨(y 1).val % 256, by omega⟩ : Fin 256) = ⟨(z 1).val % 256, by omega⟩ := Fin.ext (by show (y 1).val % 256 = (z 1).val % 256; omega)
  unfold block keys
  exact (congrArg₂ (fun a b => lane a b _) es eg).trans (congrArg (lane _ _) ed)

open Cert.MemNormRefIdeal Cert.MemNormRefIdeal.Gen in
/-- The reference's term is that array. -/
theorem result (x : FVec Ideal Cert.MemNormRefIdeal.S2x256x2048 .f32) (g : FVec Ideal Cert.MemNormRefIdeal.S1x256 .f32) :
    (shapeCast Cert.MemNormRefIdeal.S512x1024 (mulf (mulf (shapeCast Cert.MemNormRefIdeal.S2x256x4x256 (extractStridedSlice Cert.MemNormRefIdeal.S2x256x1024 ![0, 0, 0] x Cert.MemNormRefIdeal.Gen.slices_S2x256x2048_S2x256x1024_0_0_0) Cert.MemNormRefIdeal.Gen.shapeCasts_S2x256x1024_S2x256x4x256) (broadcastInDim Cert.MemNormRefIdeal.S2x256x4x256 ![0, 1, 2, 3] Cert.MemNormRefIdeal.Gen.bcast_S2x256x4x1_S2x256x4x256_0_1_2_3 (Host.rsqrt (addf (Host.divf (broadcastInDim Cert.MemNormRefIdeal.S2x256x4x1 ![0, 1, 2] Cert.MemNormRefIdeal.Gen.bcast_S2x256x4_S2x256x4x1_0_1_2 (Host.reduceAdd (mulf (shapeCast Cert.MemNormRefIdeal.S2x256x4x256 (extractStridedSlice Cert.MemNormRefIdeal.S2x256x1024 ![0, 0, 0] x Cert.MemNormRefIdeal.Gen.slices_S2x256x2048_S2x256x1024_0_0_0) Cert.MemNormRefIdeal.Gen.shapeCasts_S2x256x1024_S2x256x4x256) (shapeCast Cert.MemNormRefIdeal.S2x256x4x256 (extractStridedSlice Cert.MemNormRefIdeal.S2x256x1024 ![0, 0, 0] x Cert.MemNormRefIdeal.Gen.slices_S2x256x2048_S2x256x1024_0_0_0) Cert.MemNormRefIdeal.Gen.shapeCasts_S2x256x1024_S2x256x4x256)) (constant Cert.MemNormRefIdeal.S_ .f32 0x00000000#32) Cert.MemNormRefIdeal.Gen.reducesTo_S2x256x4x256_S2x256x4_d3 Cert.MemNormRefIdeal.Gen.h_S_)) (broadcastInDim Cert.MemNormRefIdeal.S2x256x4x1 ![] Cert.MemNormRefIdeal.Gen.bcast_S_S2x256x4x1 (constant Cert.MemNormRefIdeal.S_ .f32 0x43800000#32))) (broadcastInDim Cert.MemNormRefIdeal.S2x256x4x1 ![] Cert.MemNormRefIdeal.Gen.bcast_S_S2x256x4x1 (constant Cert.MemNormRefIdeal.S_ .f32 0x358637BD#32)))))) (broadcastInDim Cert.MemNormRefIdeal.S2x256x4x256 ![0, 1, 2, 3] Cert.MemNormRefIdeal.Gen.bcast_S1x1x1x256_S2x256x4x256_0_1_2_3 (broadcastInDim Cert.MemNormRefIdeal.S1x1x1x256 ![3] Cert.MemNormRefIdeal.Gen.bcast_S256_S1x1x1x256_3 (shapeCast Cert.MemNormRefIdeal.S256 g Cert.MemNormRefIdeal.Gen.shapeCasts_S1x256_S256)))) Cert.MemNormRefIdeal.Gen.shapeCasts_S2x256x4x256_S512x1024 : FVec Ideal Cert.MemNormRefIdeal.S512x1024 .f32) = keys x g := by
  funext y
  idx_vars y
  pointwise [keys, lane]
  refine congrArg (fun a : EReal => a * _ * _) (congrArg x (congrArg (ix3 _ _) (Fin.ext ?_)))
  show y1.val = (y1.val / 256 * 256 + y1.val % 256)
  omega

end Cert.MemNormIdeal.Lin

end
-- ==== Proof.Lin.Scatter.lean ====
/- A row of a matrix overwritten in part: the scatter that jax prints for `x.at[0, o:o + U].set(v)`, read at an entry. -/
module

public import Idealize.ShloMosaic.Lib.Routing.OpsOne

@[expose] public section

namespace Cert.Lin

open Idealize.ShloMosaic Idealize.ShloMosaic.ValueIdx Idealize.ShloMosaic.Routing

/-- Entry `k` of the vector lands at `(r, c)` exactly when the first index word is `r` and the second plus `k` is `c`. -/
theorem lands_row {R C U w : Nat} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

/-- The vector where the column lies in its range, the row as it was elsewhere. -/
theorem scatter_row {α : Type} {C U w : Nat} (d : ScatterDims (shape2 1 C) (shape1 2) (shape1 U)) (hiw : d.insertedWindowDims = [0])
    (hsd : d.scatterDimsToOperandDims = [0, 1]) (hivd : d.indexVectorDim = 0) (x0 : (shape2 1 C).Idx → α) (idx : IVec (shape1 2) w)
    (upd : (shape1 U).Idx → α) (o : ℕ) (h0 : (idx (ix1 (0 : Fin 2))).toInt = 0) (h1 : (idx (ix1 (1 : Fin 2))).toInt = (o : Int)) (c : Fin C) :
    Host.scatter d (fun _ b => b) x0 idx upd (ix2 (0 : Fin 1) c)
      = if h : o ≤ c.val ∧ c.val - o < U then upd (ix1 ⟨c.val - o, h.2⟩) else x0 (ix2 (0 : Fin 1) c) := by
  have lands : ∀ k' : (shape1 U).Idx, d.resultIdx? k' idx = some (ix2 (0 : Fin 1) c) → o + (k' 0).val = c.val := fun k' hk' => by
    have := ((lands_row d hiw hsd hivd idx (k' 0) 0 c).1 ((congrArg (fun t => d.resultIdx? t idx) (eq_ix1 k').symm).trans hk')).2
    rw [h1] at this
    omega
  by_cases h : o ≤ c.val ∧ c.val - o < U
  · rw [dif_pos h]
    refine scatter_set_hit d x0 idx upd _ _ (fun k' hk' => ?_) (ix1 ⟨c.val - o, h.2⟩) ((lands_row d hiw hsd hivd idx _ 0 c).2 ⟨h0, ?_⟩)
    · have q := lands k' hk'
      rw [eq_ix1 k']
      refine congrArg (fun e => upd (ix1 e)) (Fin.ext ?_)
      show (k' 0).val = c.val - o
      omega
    · rw [h1]
      show (o : Int) + ((c.val - o : ℕ) : Int) = c.val
      omega
  · rw [dif_neg h]
    refine scatter_set_miss d x0 idx upd _ fun k' hk' => h ?_
    have q := lands k' hk'
    have hlt : (k' 0).val < U := (k' 0).isLt
    exact ⟨by omega, by omega⟩

end Cert.Lin
-- ==== Proof.Lin.Ga.lean ====
/- The gates: write strengths, log decays and log forget gates from their columns of the projection. -/
module

public import proofs.«01_k».proof.Proof.Gen.GatesIdeal.Value
public import proofs.«01_k».proof.Proof.Lin.Scatter
public import Idealize.ShloMosaic.Lib.Pipeline.ValueKit

@[expose] public section

set_option maxRecDepth 16384

noncomputable section

namespace Cert.GatesIdeal.Lin

open Cert.GatesIdeal Cert.GatesIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The logarithm of one plus the exponential, in the form that does not overflow. -/
def soft (z : EReal) : EReal := max z 0 + Ideal.log1p (Ideal.exp (-FloatOps.absf (F := Ideal) (φ := FTy.f32) z))

/-- One entry of the array: in columns 0 to 15 the logistic function, in columns 16 to 31 the log decay, in columns 32 to 39 the
    log forget gate, then 0. -/
def entry (s : EReal) (a d f : Fin 128 → EReal) (j : Fin 128) : EReal :=
  if j.val < 16 then Ideal.div 1 (1 + Ideal.exp (-s)) else if j.val < 32 then -Ideal.exp (a j) * soft (s + d j)
  else if j.val < 40 then -soft (-(s + f j)) else 0

/-- A vector put at offset `o` of a row of zeros. -/
def pad {n : ℕ} (v : (⟨2, ![1, n]⟩ : Shape).Idx → EReal) (o : ℕ) (j : Fin 128) : EReal :=
  if h : o ≤ j.val ∧ j.val - o < n then v (ix2 (0 : Fin 1) (⟨j.val - o, h.2⟩ : Fin n)) else 0

/-- The gates of every position as one array: row `4096 b + i`. -/
def gate (x : S2x4096x128.Idx → EReal) (a d : S1x16.Idx → EReal) (f : S1x8.Idx → EReal) : S8192x128.Idx → EReal := fun y =>
  have h0 : (y 0).val < 8192 := (y 0).isLt
  entry (x (ix3 (⟨(y 0).val / 4096, by omega⟩ : Fin 2) (⟨(y 0).val % 4096, by omega⟩ : Fin 4096) (y 1))) (pad a 16) (pad d 16) (pad f 32) (y 1)

/-- Where the blocks lie. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![(grid0.coords t 0).val, 0] ∧ (grid0.coords t 0).val < 8 :=
  (by decide +kernel : ∀ t : Fin grid0.N, _)

/-- A block of rows. -/
theorem x_blk (t : Fin cfg0.N) (r : Fin 1024) (k : Fin 128) (b : Fin 2) (i : Fin 4096) (e : 4096 * b.val + i.val = 1024 * (grid0.coords t 0).val + r.val) :
    iblk m c 0 t (ix2 r k) = m ((c : Thread nD τ).loc main_arg0) (ix3 b i k) := by
  blk_simp [iblk, idx t]
  entry_read
  pointwise
  refine congrArg (m ((c : Thread nD τ).loc main_arg0)) ?_
  blk_ext [idx t]

/-- The logarithms of the decay rates, in their columns. -/
theorem a_blk (t : Fin cfg0.N) (d : Fin 128) : iblk m c 1 t (ix2 0 d) = pad (m ((c : Thread nD τ).loc main_arg1)) 16 d := by
  blk_simp [iblk, idx t]
  entry_read
  have e : ((View.whole main_v8).slice (win0_1.rect t)).emb (ix2 0 d) = ix2 (0 : Fin 1) d := by blk_ext [idx t]
  rw [e]
  refine (Cert.Lin.scatter_row _ rfl rfl rfl _ _ _ 16 (by pointwise; rfl) (by pointwise; rfl) d).trans ?_
  unfold pad
  split
  · pointwise
  · pointwise

/-- The decays' offsets, in their columns. -/
theorem d_blk (t : Fin cfg0.N) (d : Fin 128) : iblk m c 2 t (ix2 0 d) = pad (m ((c : Thread nD τ).loc main_arg2)) 16 d := by
  blk_simp [iblk, idx t]
  entry_read
  have e : ((View.whole main_v13).slice (win0_2.rect t)).emb (ix2 0 d) = ix2 (0 : Fin 1) d := by blk_ext [idx t]
  rw [e]
  refine (Cert.Lin.scatter_row _ rfl rfl rfl _ _ _ 16 (by pointwise; rfl) (by pointwise; rfl) d).trans ?_
  unfold pad
  split
  · pointwise
  · pointwise

/-- The forget gates' offsets, in their columns. -/
theorem f_blk (t : Fin cfg0.N) (d : Fin 128) : iblk m c 3 t (ix2 0 d) = pad (m ((c : Thread nD τ).loc main_arg3)) 32 d := by
  blk_simp [iblk, idx t]
  entry_read
  have e : ((View.whole main_v18).slice (win0_3.rect t)).emb (ix2 0 d) = ix2 (0 : Fin 1) d := by blk_ext [idx t]
  rw [e]
  refine (Cert.Lin.scatter_row _ rfl rfl rfl _ _ _ 32 (by pointwise; rfl) (by pointwise; rfl) d).trans ?_
  unfold pad
  split
  · pointwise
  · pointwise

/-- The three comparisons of a column's number. -/
theorem lt16 : ∀ j : Fin 128, IntOp.cmpi CmpIPredicate.slt (BitVec.ofNat 32 j.val) 16#32 = if j.val < 16 then 1#1 else 0#1 := by decide
theorem lt32 : ∀ j : Fin 128, IntOp.cmpi CmpIPredicate.slt (BitVec.ofNat 32 j.val) 32#32 = if j.val < 32 then 1#1 else 0#1 := by decide
theorem lt40 : ∀ j : Fin 128, IntOp.cmpi CmpIPredicate.slt (BitVec.ofNat 32 j.val) 40#32 = if j.val < 40 then 1#1 else 0#1 := by decide

/-- A choice by such a comparison. -/
theorem select_ite (p : Prop) [Decidable p] (u v : EReal) : Scalar.select (if p then 1#1 else 0#1) u v = if p then u else v := by
  by_cases h : p
  · rw [if_pos h, if_pos h]; rfl
  · rw [if_neg h, if_neg h]; rfl

/-- What the body stores, at an index. -/
theorem pay_at (x : FVec Ideal S1024x128 .f32) (a d f : FVec Ideal S1x128 .f32) (r : Fin 1024) (j : Fin 128) :
    out0_4 (F := Ideal) x a d f (ix2 r j) = entry (x (ix2 r j)) (fun j => a (ix2 0 j)) (fun j => d (ix2 0 j)) (fun j => f (ix2 0 j)) j := by
  frame_out
  pointwise [k0_pay1, k0_pay2, k0_pay3, k0_pay4, k0_pay5, k0_pay6, k0_pay7]
  rw [lt16, lt32, lt40, select_ite, select_ite, select_ite]
  simp only [zero_sub, entry, soft]

/-- The result array of the call. -/
theorem final : (dats m 0 c).arrAt 4 cfg0.N = gate (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  have e0 : ((win0_4.blk t).view.emb y 0).val = (grid0.coords t 0).val * 1024 + (y 0).val := by blk_simp [idx t]
  have e1 : ((win0_4.blk t).view.emb y 1).val = (y 1).val := by blk_simp [idx t]
  obtain ⟨-, -, -, -, -, h0⟩ := idx t
  generalize (win0_4.blk t).view.emb y = z at e0 e1 ⊢
  idx_vars y
  have ed : y1 = z 1 := Fin.ext e1.symm
  subst ed
  have hx : iblk m c 0 t (ix2 y0 (z 1)) = m ((c : Thread nD τ).loc main_arg0) (ix3 (⟨(z 0).val / 4096, by have : (z 0).val < 8192 := (z 0).isLt; omega⟩ : Fin 2)
      (⟨(z 0).val % 4096, by omega⟩ : Fin 4096) (z 1)) :=
    x_blk m c t _ _ _ _ (by show 4096 * ((z 0).val / 4096) + (z 0).val % 4096 = _; omega)
  refine (pay_at _ _ _ _ _ _).trans ?_
  rw [hx, funext (a_blk m c t), funext (d_blk m c t), funext (f_blk m c t)]
  rfl

end Cert.GatesIdeal.Lin

end
-- ==== Proof.Lin.GaRef.lean ====
/- The gates' plain reference, read at an entry. -/
module

public import proofs.«01_k».proof.Proof.Gen.GatesRefIdeal.Run
public import proofs.«01_k».proof.Proof.Lin.Ga

@[expose] public section

set_option maxRecDepth 16384

noncomputable section

namespace Cert.GatesIdeal.Lin

open Cert.GatesIdeal Idealize.ShloMosaic Idealize.ShloMosaic.TcCoe Idealize.SL.Sem
open Idealize.ShloMosaic.Pipeline (Dat)

/-- The reference's piecewise entry, its column counted from each piece's first. -/
theorem pieces (x : Fin 128 → EReal) (u v : S1x16.Idx → EReal) (w : S1x8.Idx → EReal) (j : Fin 128) :
    (if h : j.val < 16 then Ideal.div 1 (1 + Ideal.exp (-x j))
      else if h : j.val - 16 < 16 then -Ideal.exp (u (ix2 0 ⟨j.val - 16, h⟩)) * soft (x ⟨16 + (j.val - 16), by omega⟩ + v (ix2 0 ⟨j.val - 16, h⟩))
      else if h : j.val - 16 - 16 < 8 then -soft (-(x ⟨32 + (j.val - 16 - 16), by omega⟩ + w (ix2 0 ⟨j.val - 16 - 16, h⟩))) else 0)
      = entry (x j) (pad u 16) (pad v 16) (pad w 32) j := by
  unfold entry
  by_cases h1 : j.val < 16
  · rw [dif_pos h1, if_pos h1]
  · rw [dif_neg h1, if_neg h1]
    by_cases h2 : j.val - 16 < 16
    · have q : (⟨16 + (j.val - 16), by omega⟩ : Fin 128) = j := Fin.ext (by show 16 + (j.val - 16) = j.val; omega)
      rw [dif_pos h2, if_pos (by omega : j.val < 32), q, pad, pad, dif_pos ⟨by omega, h2⟩, dif_pos ⟨by omega, h2⟩]
    · rw [dif_neg h2, if_neg (by omega : ¬ j.val < 32)]
      by_cases h3 : j.val - 16 - 16 < 8
      · have q : (⟨32 + (j.val - 16 - 16), by omega⟩ : Fin 128) = j := Fin.ext (by show 32 + (j.val - 16 - 16) = j.val; omega)
        have p : (⟨j.val - 16 - 16, h3⟩ : Fin 8) = ⟨j.val - 32, by omega⟩ := Fin.ext (by show j.val - 16 - 16 = j.val - 32; omega)
        rw [dif_pos h3, if_pos (by omega : j.val < 40), q, p, pad, dif_pos ⟨by omega, by omega⟩]
      · rw [dif_neg h3, if_neg (by omega : ¬ j.val < 40)]

set_option maxHeartbeats 1000000 in
/-- The reference's array is that array. -/
theorem result (m : (ℓ : Loc Cert.GatesRefIdeal.nD Cert.GatesRefIdeal.τ Cert.GatesRefIdeal.sig) → Buf (Elt Ideal) ℓ) (c : Dev Cert.GatesRefIdeal.nD) :
    Cert.GatesRefIdeal.Value.res_main_v27 m c = gate (m (c.tc.loc Cert.GatesRefIdeal.main_arg0)) (m (c.tc.loc Cert.GatesRefIdeal.main_arg1))
      (m (c.tc.loc Cert.GatesRefIdeal.main_arg2)) (m (c.tc.loc Cert.GatesRefIdeal.main_arg3)) := by
  unfold Cert.GatesRefIdeal.Value.res_main_v27
  generalize m (c.tc.loc Cert.GatesRefIdeal.main_arg0) = x
  generalize m (c.tc.loc Cert.GatesRefIdeal.main_arg1) = u
  generalize m (c.tc.loc Cert.GatesRefIdeal.main_arg2) = v
  generalize m (c.tc.loc Cert.GatesRefIdeal.main_arg3) = w
  funext y
  idx_vars y
  pointwise
  simp only [ne_eq, not_true_eq_false, ite_false]
  have e := pieces (fun k => x (ix3 (⟨y0.val / 4096, by omega⟩ : Fin 2) (⟨y0.val % 4096, by omega⟩ : Fin 4096) k)) u v w y1
  simp only [soft] at e
  exact e

end Cert.GatesIdeal.Lin

end
-- ==== Proof.Lin.DnS.lean ====
/- The projection to the columns of the gated delta heads is the product of the sample group's normed activations with those columns. -/
module

public import proofs.«01_k».proof.Proof.Gen.DnProjSIdeal.Value
public import proofs.«01_k».proof.Proof.Gen.DnProjSRefIdeal.Run
public import Idealize.ShloMosaic.Lib.Pipeline.ValueKit

@[expose] public section

set_option maxRecDepth 16384

noncomputable section

namespace Cert.DnProjSIdeal.Lin

open Cert.DnProjSIdeal Cert.DnProjSIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Sequence `b` times column `j` of the weights. -/
def cell (x : S128x1x4096.Idx → EReal) (w : S1x4096x12328.Idx → EReal) (b : Fin 128) (j : Fin 12328) : EReal :=
  ∑ k : Fin 4096, x (ix3 b 0 k) * w (ix3 0 k j)

/-- The columns of the gated delta heads as one array: row `b`, column `j`. -/
def cols (x : S128x1x4096.Idx → EReal) (w : S1x4096x12328.Idx → EReal) : S128x8192.Idx → EReal := fun y =>
  have h0 : (y 0).val < 128 := (y 0).isLt
  have h1 : (y 1).val < 8192 := (y 1).isLt
  cell x w (y 0) ⟨0 + (y 1).val, by omega⟩

/-- Where the blocks lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ (grid0.coords t 0).val < 1 ∧ (grid0.coords t 1).val < 16 :=
  (by decide +kernel : ∀ t : Fin grid0.N, _)

/-- A block of rows of the activations. -/
theorem a_blk (t : Fin cfg0.N) (r : Fin 128) (k : Fin 4096) (b : Fin 128) (e : b.val = r.val) :
    iblk m c 0 t (ix2 r k) = m ((c : Thread nD τ).loc main_arg0) (ix3 b 0 k) := by
  blk_simp [iblk, idx t]
  entry_read
  pointwise
  refine congrArg (m ((c : Thread nD τ).loc main_arg0)) ?_
  blk_ext [idx t]

/-- A block of rows of the transposed weights. -/
theorem w_blk (t : Fin cfg0.N) (r : Fin 512) (k : Fin 4096) (j : Fin 12328) (e : j.val = 0 + (512 * (grid0.coords t 1).val + r.val)) :
    iblk m c 1 t (ix2 r k) = m ((c : Thread nD τ).loc main_arg1) (ix3 0 k j) := by
  blk_simp [iblk, idx t]
  entry_read
  pointwise
  refine congrArg (m ((c : Thread nD τ).loc main_arg1)) ?_
  blk_ext [idx t]

/-- What the body stores, at an index. -/
theorem pay_at (a : FVec Ideal S128x4096 .bf16) (w : FVec Ideal S512x4096 .bf16) (r : Fin 128) (n : Fin 512) :
    k0_pay1 (F := Ideal) a w (ix2 r n) = ∑ k : Fin 4096, a (ix2 r k) * w (ix2 n k) := by
  pointwise [k0_pay1]

/-- The result array of the call. -/
theorem final : (dats m 0 c).arrAt 2 cfg0.N = cols (m ((c : Thread nD τ).loc main_arg0)) (m ((c : Thread nD τ).loc main_arg1)) := by
  refine (dats m 0 c).arrAt_eq_of_covers 2 _ (by decide +kernel) fun t _ y => ?_
  blk_simp
  rw [after0_2]; frame_out
  have e0 : ((win0_2.blk t).view.emb y 0).val = (grid0.coords t 0).val * 128 + (y 0).val := by blk_simp [idx t]
  have e1 : ((win0_2.blk t).view.emb y 1).val = (grid0.coords t 1).val * 512 + (y 1).val := by blk_simp [idx t]
  obtain ⟨-, -, -, h0, h1⟩ := idx t
  generalize (win0_2.blk t).view.emb y = z at e0 e1 ⊢
  idx_vars y
  refine (pay_at _ _ _ _).trans (Finset.sum_congr rfl fun k _ =>
    congrArg₂ (fun a b : EReal => a * b) (a_blk m c t _ k _ ?_) (w_blk m c t _ k _ ?_))
  · show (z 0).val = _; omega
  · show 0 + (z 1).val = _; omega

open Cert.DnProjSRefIdeal in
/-- The reference's term is that array. -/
theorem result (x : FVec Ideal Cert.DnProjSRefIdeal.S128x1x4096 .f32) (w : FVec Ideal Cert.DnProjSRefIdeal.S1x4096x12328 .f32) :
    shapeCast Cert.DnProjSRefIdeal.S128x8192 (extractStridedSlice Cert.DnProjSRefIdeal.S128x1x8192 ![0, 0, 0]
      (Host.dotGeneral dot_S128x1x4096_S4096x12328_S128x1x12328_2_0_01_1_n_n none x
        (shapeCast Cert.DnProjSRefIdeal.S4096x12328 w Cert.DnProjSRefIdeal.Gen.shapeCasts_S1x4096x12328_S4096x12328))
      Cert.DnProjSRefIdeal.Gen.slices_S128x1x12328_S128x1x8192_0_0_0) Cert.DnProjSRefIdeal.Gen.shapeCasts_S128x1x8192_S128x8192 = cols x w := by
  funext y
  idx_vars y
  pointwise [cols, cell]

end Cert.DnProjSIdeal.Lin

end
-- ==== Proof.Lin.FxS.lean ====
/- The projection to the columns of the forgetting attention heads is the product of the sample group's normed activations with those columns. -/
module

public import proofs.«01_k».proof.Proof.Gen.FoxProjSIdeal.Value
public import proofs.«01_k».proof.Proof.Gen.FoxProjSRefIdeal.Run
public import Idealize.ShloMosaic.Lib.Pipeline.ValueKit

@[expose] public section

set_option maxRecDepth 16384

noncomputable section

namespace Cert.FoxProjSIdeal.Lin

open Cert.FoxProjSIdeal Cert.FoxProjSIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Sequence `b` times column `j` of the weights. -/
def cell (x : S128x1x4096.Idx → EReal) (w : S1x4096x12328.Idx → EReal) (b : Fin 128) (j : Fin 12328) : EReal :=
  ∑ k : Fin 4096, x (ix3 b 0 k) * w (ix3 0 k j)

/-- The columns of the forgetting attention heads as one array: row `b`, column `j`. -/
def cols (x : S128x1x4096.Idx → EReal) (w : S1x4096x12328.Idx → EReal) : S128x3072.Idx → EReal := fun y =>
  have h0 : (y 0).val < 128 := (y 0).isLt
  have h1 : (y 1).val < 3072 := (y 1).isLt
  cell x w (y 0) ⟨8224 + (y 1).val, by omega⟩

/-- Where the blocks lie. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ (grid0.coords t 0).val < 1 ∧ (grid0.coords t 1).val < 6 :=
  (by decide +kernel : ∀ t : Fin grid0.N, _)

/-- A block of rows of the activations. -/
theorem a_blk (t : Fin cfg0.N) (r : Fin 128) (k : Fin 4096) (b : Fin 128) (e : b.val = r.val) :
    iblk m c 0 t (ix2 r k) = m ((c : Thread nD τ).loc main_arg0) (ix3 b 0 k) := by
  blk_simp [iblk, idx t]
  entry_read
  pointwise
  refine congrArg (m ((c : Thread nD τ).loc main_arg0)) ?_
  blk_ext [idx t]

/-- A block of rows of the transposed weights. -/
theorem w_blk (t : Fin cfg0.N) (r : Fin 512) (k : Fin 4096) (j : Fin 12328) (e : j.val = 8224 + (512 * (grid0.coords t 1).val + r.val)) :
    iblk m c 1 t (ix2 r k) = m ((c : Thread nD τ).loc main_arg1) (ix3 0 k j) := by
  blk_simp [iblk, idx t]
  entry_read
  pointwise
  refine congrArg (m ((c : Thread nD τ).loc main_arg1)) ?_
  blk_ext [idx t]

/-- What the body stores, at an index. -/
theorem pay_at (a : FVec Ideal S128x4096 .bf16) (w : FVec Ideal S512x4096 .bf16) (r : Fin 128) (n : Fin 512) :
    k0_pay1 (F := Ideal) a w (ix2 r n) = ∑ k : Fin 4096, a (ix2 r k) * w (ix2 n k) := by
  pointwise [k0_pay1]

/-- The result array of the call. -/
theorem final : (dats m 0 c).arrAt 2 cfg0.N = cols (m ((c : Thread nD τ).loc main_arg0)) (m ((c : Thread nD τ).loc main_arg1)) := by
  refine (dats m 0 c).arrAt_eq_of_covers 2 _ (by decide +kernel) fun t _ y => ?_
  blk_simp
  rw [after0_2]; frame_out
  have e0 : ((win0_2.blk t).view.emb y 0).val = (grid0.coords t 0).val * 128 + (y 0).val := by blk_simp [idx t]
  have e1 : ((win0_2.blk t).view.emb y 1).val = (grid0.coords t 1).val * 512 + (y 1).val := by blk_simp [idx t]
  obtain ⟨-, -, -, h0, h1⟩ := idx t
  generalize (win0_2.blk t).view.emb y = z at e0 e1 ⊢
  idx_vars y
  refine (pay_at _ _ _ _).trans (Finset.sum_congr rfl fun k _ =>
    congrArg₂ (fun a b : EReal => a * b) (a_blk m c t _ k _ ?_) (w_blk m c t _ k _ ?_))
  · show (z 0).val = _; omega
  · show 8224 + (z 1).val = _; omega

open Cert.FoxProjSRefIdeal in
/-- The reference's term is that array. -/
theorem result (x : FVec Ideal Cert.FoxProjSRefIdeal.S128x1x4096 .f32) (w : FVec Ideal Cert.FoxProjSRefIdeal.S1x4096x12328 .f32) :
    shapeCast Cert.FoxProjSRefIdeal.S128x3072 (extractStridedSlice Cert.FoxProjSRefIdeal.S128x1x3072 ![0, 0, 8224]
      (Host.dotGeneral dot_S128x1x4096_S4096x12328_S128x1x12328_2_0_01_1_n_n none x
        (shapeCast Cert.FoxProjSRefIdeal.S4096x12328 w Cert.FoxProjSRefIdeal.Gen.shapeCasts_S1x4096x12328_S4096x12328))
      Cert.FoxProjSRefIdeal.Gen.slices_S128x1x12328_S128x1x3072_0_0_8224) Cert.FoxProjSRefIdeal.Gen.shapeCasts_S128x1x3072_S128x3072 = cols x w := by
  funext y
  idx_vars y
  pointwise [cols, cell]

end Cert.FoxProjSIdeal.Lin

end
-- ==== Proof.Lin.KnS.lean ====
/- The per-head normalisation of the sample group's keys: each head's lane of 128 columns divided by its root mean square and scaled. -/
module

public import proofs.«01_k».proof.Proof.Gen.KeyNormSIdeal.Value
public import proofs.«01_k».proof.Proof.Gen.KeyNormSRefIdeal.Run
public import Idealize.ShloMosaic.Lib.Pipeline.ValueKit

@[expose] public section

set_option maxRecDepth 16384

noncomputable section

namespace Cert.KeyNormSIdeal.Lin

open Cert.KeyNormSIdeal Cert.KeyNormSIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- One lane of 128 numbers divided by its root mean square, then scaled, at entry `d`. -/
def lane (s g : Fin 128 → EReal) (d : Fin 128) : EReal :=
  s d * Ideal.rsqrt (Ideal.div (∑ k, s k * s k) (Ideal.ofBits FTy.f32 1124073472#32) + Ideal.ofBits FTy.f32 897988541#32) * g d

/-- The normed keys as one array: row `b`, head `h` in columns `128 h …`; the keys are the middle third of the projection's columns. -/
def keys (x : S128x1x3072.Idx → EReal) (g : S1x128.Idx → EReal) : S128x1024.Idx → EReal := fun y =>
  have h0 : (y 0).val < 128 := (y 0).isLt
  have h1 : (y 1).val < 1024 := (y 1).isLt
  lane (fun k => x (ix3 (y 0) 0 (⟨1024 + ((y 1).val / 128 * 128 + k.val), by omega⟩ : Fin 3072)))
    (fun k => g (ix2 0 k)) ⟨(y 1).val % 128, by omega⟩

/-- The same on one block of 128 rows. -/
def block (x : S128x1024.Idx → EReal) (g : S1x128.Idx → EReal) (y : S128x1024.Idx) : EReal :=
  have h1 : (y 1).val < 1024 := (y 1).isLt
  lane (fun k => x (ix2 (y 0) (⟨(y 1).val / 128 * 128 + k.val, by omega⟩ : Fin 1024))) (fun k => g (ix2 0 k)) ⟨(y 1).val % 128, by omega⟩

/-- Inside the lane that begins at column `o`. -/
theorem block_at (x : S128x1024.Idx → EReal) (g : S1x128.Idx → EReal) (y : S128x1024.Idx) (r : Fin 128) (d : Fin 128) (o : ℕ)
    (ho : o + 128 ≤ 1024) (hm : o % 128 = 0) (h0 : (y 0).val = r.val) (h1 : (y 1).val = o + d.val) :
    block x g y = lane (fun k => x (ix2 r (⟨o + k.val, by omega⟩ : Fin 1024))) (fun k => g (ix2 0 k)) d := by
  have hd := d.isLt
  have e0 : y 0 = r := Fin.ext h0
  have e1 : (y 1).val / 128 * 128 = o := by omega
  have e2 : (y 1).val % 128 = d.val := by omega
  unfold block
  simp only [e0, e1, e2]

/-- What the eight stores of the body leave at an index of its block. -/
theorem point (u : FVec Ideal S128x1024 .f32) (g : FVec Ideal S1x128 .f32) (y : S128x1024.Idx) : out0_2 (F := Ideal) u g y = block u g y := by
  unfold_out out0_2
  canon_tiles x h
  case piece0 =>
    rw [block_at u g y (x 0) (x 1) 896 (by omega) (by omega) (by omega) (by omega)]
    idx_vars x
    pointwise [k0_pay1, k0_pay2, k0_pay12, k0_pay13, lane]
  case piece1 =>
    rw [block_at u g y (x 0) (x 1) 768 (by omega) (by omega) (by omega) (by omega)]
    idx_vars x
    pointwise [k0_pay11, k0_pay2, lane]
  case piece2 =>
    rw [block_at u g y (x 0) (x 1) 640 (by omega) (by omega) (by omega) (by omega)]
    idx_vars x
    pointwise [k0_pay10, k0_pay2, lane]
  case piece3 =>
    rw [block_at u g y (x 0) (x 1) 512 (by omega) (by omega) (by omega) (by omega)]
    idx_vars x
    pointwise [k0_pay9, k0_pay2, lane]
  case piece4 =>
    rw [block_at u g y (x 0) (x 1) 384 (by omega) (by omega) (by omega) (by omega)]
    idx_vars x
    pointwise [k0_pay8, k0_pay2, lane]
  case piece5 =>
    rw [block_at u g y (x 0) (x 1) 256 (by omega) (by omega) (by omega) (by omega)]
    idx_vars x
    pointwise [k0_pay7, k0_pay2, k0_pay5, k0_pay6, lane]
  case piece6 =>
    rw [block_at u g y (x 0) (x 1) 128 (by omega) (by omega) (by omega) (by omega)]
    idx_vars x
    pointwise [k0_pay4, k0_pay2, lane]
  case piece7 =>
    rw [block_at u g y (x 0) (x 1) 0 (by omega) (by omega) (by omega) (by omega)]
    idx_vars x
    pointwise [k0_pay3, k0_pay2, lane]

/-- Where the blocks lie. -/
theorem idx : ∀ t : Fin cfg0.N, win0_0.index t = ![(grid0.coords t 0).val, 1] ∧ win0_1.index t = ![0, 0] ∧ win0_2.index t = ![(grid0.coords t 0).val, 0]
    ∧ (grid0.coords t 0).val < 1 :=
  (by decide +kernel : ∀ t : Fin grid0.N, _)

/-- A block of rows of the projected keys. -/
theorem x_blk (t : Fin cfg0.N) (r : Fin 128) (k : Fin 1024) (b : Fin 128) (j : Fin 3072) (e : b.val = r.val)
    (f : j.val = 1024 + k.val) : iblk m c 0 t (ix2 r k) = m ((c : Thread nD τ).loc main_arg0) (ix3 b 0 j) := by
  blk_simp [iblk, idx t]
  entry_read
  pointwise
  refine congrArg (m ((c : Thread nD τ).loc main_arg0)) ?_
  blk_ext [idx t]

/-- The scale. -/
theorem g_blk (t : Fin cfg0.N) (d : Fin 128) : iblk m c 1 t (ix2 0 d) = m ((c : Thread nD τ).loc main_arg1) (ix2 0 d) := by
  blk_simp [iblk, idx t]
  entry_read
  pointwise
  refine congrArg (m ((c : Thread nD τ).loc main_arg1)) ?_
  blk_ext [idx t]

/-- The result array of the call. -/
theorem final : (dats m 0 c).arrAt 2 cfg0.N = keys (m ((c : Thread nD τ).loc main_arg0)) (m ((c : Thread nD τ).loc main_arg1)) := by
  refine (dats m 0 c).arrAt_eq_of_covers 2 _ (by decide +kernel) fun t _ y => ?_
  blk_simp
  rw [after0_2]
  refine (point _ _ _).trans ?_
  have e0 : ((win0_2.blk t).view.emb y 0).val = (grid0.coords t 0).val * 128 + (y 0).val := by blk_simp [idx t]
  have e1 : ((win0_2.blk t).view.emb y 1).val = (y 1).val := by blk_simp [idx t]
  obtain ⟨-, -, -, h0⟩ := idx t
  generalize (win0_2.blk t).view.emb y = z at e0 e1 ⊢
  have hl : (y 1).val < 1024 := (y 1).isLt
  have es : (fun k : Fin 128 => iblk m c 0 t (ix2 (y 0) (⟨(y 1).val / 128 * 128 + k.val, by omega⟩ : Fin 1024)))
      = fun k : Fin 128 => m ((c : Thread nD τ).loc main_arg0) (ix3 (z 0) 0
        (⟨1024 + ((z 1).val / 128 * 128 + k.val), by omega⟩ : Fin 3072)) :=
    funext fun k => x_blk m c t _ _ _ _ (by show (z 0).val = _; omega)
      (by show 1024 + ((z 1).val / 128 * 128 + k.val) = 1024 + ((y 1).val / 128 * 128 + k.val); omega)
  have eg : (fun k : Fin 128 => iblk m c 1 t (ix2 0 k)) = fun k : Fin 128 => m ((c : Thread nD τ).loc main_arg1) (ix2 0 k) := funext (g_blk m c t)
  have ed : (⟨(y 1).val % 128, by omega⟩ : Fin 128) = ⟨(z 1).val % 128, by omega⟩ := Fin.ext (by show (y 1).val % 128 = (z 1).val % 128; omega)
  unfold block keys
  exact (congrArg₂ (fun a b => lane a b _) es eg).trans (congrArg (lane _ _) ed)

open Cert.KeyNormSRefIdeal Cert.KeyNormSRefIdeal.Gen in
/-- The reference's term is that array. -/
theorem result (x : FVec Ideal Cert.KeyNormSRefIdeal.S128x1x3072 .f32) (g : FVec Ideal Cert.KeyNormSRefIdeal.S1x128 .f32) :
    (shapeCast Cert.KeyNormSRefIdeal.S128x1024 (mulf (mulf (shapeCast Cert.KeyNormSRefIdeal.S128x1x8x128 (extractStridedSlice Cert.KeyNormSRefIdeal.S128x1x1024 ![0, 0, 1024] x Cert.KeyNormSRefIdeal.Gen.slices_S128x1x3072_S128x1x1024_0_0_1024) Cert.KeyNormSRefIdeal.Gen.shapeCasts_S128x1x1024_S128x1x8x128) (broadcastInDim Cert.KeyNormSRefIdeal.S128x1x8x128 ![0, 1, 2, 3] Cert.KeyNormSRefIdeal.Gen.bcast_S128x1x8x1_S128x1x8x128_0_1_2_3 (Host.rsqrt (addf (Host.divf (broadcastInDim Cert.KeyNormSRefIdeal.S128x1x8x1 ![0, 1, 2] Cert.KeyNormSRefIdeal.Gen.bcast_S128x1x8_S128x1x8x1_0_1_2 (Host.reduceAdd (mulf (shapeCast Cert.KeyNormSRefIdeal.S128x1x8x128 (extractStridedSlice Cert.KeyNormSRefIdeal.S128x1x1024 ![0, 0, 1024] x Cert.KeyNormSRefIdeal.Gen.slices_S128x1x3072_S128x1x1024_0_0_1024) Cert.KeyNormSRefIdeal.Gen.shapeCasts_S128x1x1024_S128x1x8x128) (shapeCast Cert.KeyNormSRefIdeal.S128x1x8x128 (extractStridedSlice Cert.KeyNormSRefIdeal.S128x1x1024 ![0, 0, 1024] x Cert.KeyNormSRefIdeal.Gen.slices_S128x1x3072_S128x1x1024_0_0_1024) Cert.KeyNormSRefIdeal.Gen.shapeCasts_S128x1x1024_S128x1x8x128)) (constant Cert.KeyNormSRefIdeal.S_ .f32 0x00000000#32) Cert.KeyNormSRefIdeal.Gen.reducesTo_S128x1x8x128_S128x1x8_d3 Cert.KeyNormSRefIdeal.Gen.h_S_)) (broadcastInDim Cert.KeyNormSRefIdeal.S128x1x8x1 ![] Cert.KeyNormSRefIdeal.Gen.bcast_S_S128x1x8x1 (constant Cert.KeyNormSRefIdeal.S_ .f32 0x43000000#32))) (broadcastInDim Cert.KeyNormSRefIdeal.S128x1x8x1 ![] Cert.KeyNormSRefIdeal.Gen.bcast_S_S128x1x8x1 (constant Cert.KeyNormSRefIdeal.S_ .f32 0x358637BD#32)))))) (broadcastInDim Cert.KeyNormSRefIdeal.S128x1x8x128 ![0, 1, 2, 3] Cert.KeyNormSRefIdeal.Gen.bcast_S1x1x1x128_S128x1x8x128_0_1_2_3 (broadcastInDim Cert.KeyNormSRefIdeal.S1x1x1x128 ![3] Cert.KeyNormSRefIdeal.Gen.bcast_S128_S1x1x1x128_3 (shapeCast Cert.KeyNormSRefIdeal.S128 g Cert.KeyNormSRefIdeal.Gen.shapeCasts_S1x128_S128)))) Cert.KeyNormSRefIdeal.Gen.shapeCasts_S128x1x8x128_S128x1024 : FVec Ideal Cert.KeyNormSRefIdeal.S128x1024 .f32) = keys x g := by
  funext y
  idx_vars y
  pointwise [keys, lane]
  refine congrArg (fun a : EReal => a * _ * _) (congrArg x (congrArg (ix3 _ _) (Fin.ext ?_)))
  show 1024 + y1.val = 1024 + (y1.val / 128 * 128 + y1.val % 128)
  omega

end Cert.KeyNormSIdeal.Lin

end
-- ==== Proof.Lin.GaS.lean ====
/- The gates of the sample group: write strengths, log decays and log forget gates from their columns of the projection. -/
module

public import proofs.«01_k».proof.Proof.Gen.GatesSIdeal.Value
public import proofs.«01_k».proof.Proof.Lin.Scatter
public import Idealize.ShloMosaic.Lib.Pipeline.ValueKit

@[expose] public section

set_option maxRecDepth 16384

noncomputable section

namespace Cert.GatesSIdeal.Lin

open Cert.GatesSIdeal Cert.GatesSIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The logarithm of one plus the exponential, in the form that does not overflow. -/
def soft (z : EReal) : EReal := max z 0 + Ideal.log1p (Ideal.exp (-FloatOps.absf (F := Ideal) (φ := FTy.f32) z))

/-- One entry of the array: in columns 0 to 15 the logistic function, in columns 16 to 31 the log decay, in columns 32 to 39 the
    log forget gate, then 0. -/
def entry (s : EReal) (a d f : Fin 128 → EReal) (j : Fin 128) : EReal :=
  if j.val < 16 then Ideal.div 1 (1 + Ideal.exp (-s)) else if j.val < 32 then -Ideal.exp (a j) * soft (s + d j)
  else if j.val < 40 then -soft (-(s + f j)) else 0

/-- A vector put at offset `o` of a row of zeros. -/
def pad {n : ℕ} (v : (⟨2, ![1, n]⟩ : Shape).Idx → EReal) (o : ℕ) (j : Fin 128) : EReal :=
  if h : o ≤ j.val ∧ j.val - o < n then v (ix2 (0 : Fin 1) (⟨j.val - o, h.2⟩ : Fin n)) else 0

/-- The gates of every position as one array: row `b`. -/
def gate (x : S128x1x128.Idx → EReal) (a d : S1x16.Idx → EReal) (f : S1x8.Idx → EReal) : S128x128.Idx → EReal := fun y =>
  entry (x (ix3 (y 0) (0 : Fin 1) (y 1))) (pad a 16) (pad d 16) (pad f 32) (y 1)

/-- Where the blocks lie. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![(grid0.coords t 0).val, 0] ∧ (grid0.coords t 0).val < 1 :=
  (by decide +kernel : ∀ t : Fin grid0.N, _)

/-- A block of rows. -/
theorem x_blk (t : Fin cfg0.N) (r : Fin 128) (k : Fin 128) (b : Fin 128) (e : b.val = 128 * (grid0.coords t 0).val + r.val) :
    iblk m c 0 t (ix2 r k) = m ((c : Thread nD τ).loc main_arg0) (ix3 b 0 k) := by
  blk_simp [iblk, idx t]
  entry_read
  pointwise
  refine congrArg (m ((c : Thread nD τ).loc main_arg0)) ?_
  blk_ext [idx t]

/-- The logarithms of the decay rates, in their columns. -/
theorem a_blk (t : Fin cfg0.N) (d : Fin 128) : iblk m c 1 t (ix2 0 d) = pad (m ((c : Thread nD τ).loc main_arg1)) 16 d := by
  blk_simp [iblk, idx t]
  entry_read
  have e : ((View.whole main_v8).slice (win0_1.rect t)).emb (ix2 0 d) = ix2 (0 : Fin 1) d := by blk_ext [idx t]
  rw [e]
  refine (Cert.Lin.scatter_row _ rfl rfl rfl _ _ _ 16 (by pointwise; rfl) (by pointwise; rfl) d).trans ?_
  unfold pad
  split
  · pointwise
  · pointwise

/-- The decays' offsets, in their columns. -/
theorem d_blk (t : Fin cfg0.N) (d : Fin 128) : iblk m c 2 t (ix2 0 d) = pad (m ((c : Thread nD τ).loc main_arg2)) 16 d := by
  blk_simp [iblk, idx t]
  entry_read
  have e : ((View.whole main_v13).slice (win0_2.rect t)).emb (ix2 0 d) = ix2 (0 : Fin 1) d := by blk_ext [idx t]
  rw [e]
  refine (Cert.Lin.scatter_row _ rfl rfl rfl _ _ _ 16 (by pointwise; rfl) (by pointwise; rfl) d).trans ?_
  unfold pad
  split
  · pointwise
  · pointwise

/-- The forget gates' offsets, in their columns. -/
theorem f_blk (t : Fin cfg0.N) (d : Fin 128) : iblk m c 3 t (ix2 0 d) = pad (m ((c : Thread nD τ).loc main_arg3)) 32 d := by
  blk_simp [iblk, idx t]
  entry_read
  have e : ((View.whole main_v18).slice (win0_3.rect t)).emb (ix2 0 d) = ix2 (0 : Fin 1) d := by blk_ext [idx t]
  rw [e]
  refine (Cert.Lin.scatter_row _ rfl rfl rfl _ _ _ 32 (by pointwise; rfl) (by pointwise; rfl) d).trans ?_
  unfold pad
  split
  · pointwise
  · pointwise

/-- The three comparisons of a column's number. -/
theorem lt16 : ∀ j : Fin 128, IntOp.cmpi CmpIPredicate.slt (BitVec.ofNat 32 j.val) 16#32 = if j.val < 16 then 1#1 else 0#1 := by decide
theorem lt32 : ∀ j : Fin 128, IntOp.cmpi CmpIPredicate.slt (BitVec.ofNat 32 j.val) 32#32 = if j.val < 32 then 1#1 else 0#1 := by decide
theorem lt40 : ∀ j : Fin 128, IntOp.cmpi CmpIPredicate.slt (BitVec.ofNat 32 j.val) 40#32 = if j.val < 40 then 1#1 else 0#1 := by decide

/-- A choice by such a comparison. -/
theorem select_ite (p : Prop) [Decidable p] (u v : EReal) : Scalar.select (if p then 1#1 else 0#1) u v = if p then u else v := by
  by_cases h : p
  · rw [if_pos h, if_pos h]; rfl
  · rw [if_neg h, if_neg h]; rfl

/-- What the body stores, at an index. -/
theorem pay_at (x : FVec Ideal S128x128 .f32) (a d f : FVec Ideal S1x128 .f32) (r : Fin 128) (j : Fin 128) :
    out0_4 (F := Ideal) x a d f (ix2 r j) = entry (x (ix2 r j)) (fun j => a (ix2 0 j)) (fun j => d (ix2 0 j)) (fun j => f (ix2 0 j)) j := by
  frame_out
  pointwise [k0_pay1, k0_pay2, k0_pay3, k0_pay4, k0_pay5, k0_pay6, k0_pay7]
  rw [lt16, lt32, lt40, select_ite, select_ite, select_ite]
  simp only [zero_sub, entry, soft]

/-- The result array of the call. -/
theorem final : (dats m 0 c).arrAt 4 cfg0.N = gate (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  have e0 : ((win0_4.blk t).view.emb y 0).val = (grid0.coords t 0).val * 128 + (y 0).val := by blk_simp [idx t]
  have e1 : ((win0_4.blk t).view.emb y 1).val = (y 1).val := by blk_simp [idx t]
  obtain ⟨-, -, -, -, -, h0⟩ := idx t
  generalize (win0_4.blk t).view.emb y = z at e0 e1 ⊢
  idx_vars y
  have ed : y1 = z 1 := Fin.ext e1.symm
  subst ed
  have hx : iblk m c 0 t (ix2 y0 (z 1)) = m ((c : Thread nD τ).loc main_arg0) (ix3 (z 0) (0 : Fin 1) (z 1)) :=
    x_blk m c t _ _ _ (by omega)
  refine (pay_at _ _ _ _ _ _).trans ?_
  rw [hx, funext (a_blk m c t), funext (d_blk m c t), funext (f_blk m c t)]
  rfl

end Cert.GatesSIdeal.Lin

end
-- ==== Proof.Lin.GaSRef.lean ====
/- The sample group's gates' plain reference, read at an entry. -/
module

public import proofs.«01_k».proof.Proof.Gen.GatesSRefIdeal.Run
public import proofs.«01_k».proof.Proof.Lin.GaS

@[expose] public section

set_option maxRecDepth 16384

noncomputable section

namespace Cert.GatesSIdeal.Lin

open Cert.GatesSIdeal Idealize.ShloMosaic Idealize.ShloMosaic.TcCoe Idealize.SL.Sem
open Idealize.ShloMosaic.Pipeline (Dat)

/-- The reference's piecewise entry, its column counted from each piece's first. -/
theorem pieces (x : Fin 128 → EReal) (u v : S1x16.Idx → EReal) (w : S1x8.Idx → EReal) (j : Fin 128) :
    (if h : j.val < 16 then Ideal.div 1 (1 + Ideal.exp (-x j))
      else if h : j.val - 16 < 16 then -Ideal.exp (u (ix2 0 ⟨j.val - 16, h⟩)) * soft (x ⟨16 + (j.val - 16), by omega⟩ + v (ix2 0 ⟨j.val - 16, h⟩))
      else if h : j.val - 16 - 16 < 8 then -soft (-(x ⟨32 + (j.val - 16 - 16), by omega⟩ + w (ix2 0 ⟨j.val - 16 - 16, h⟩))) else 0)
      = entry (x j) (pad u 16) (pad v 16) (pad w 32) j := by
  unfold entry
  by_cases h1 : j.val < 16
  · rw [dif_pos h1, if_pos h1]
  · rw [dif_neg h1, if_neg h1]
    by_cases h2 : j.val - 16 < 16
    · have q : (⟨16 + (j.val - 16), by omega⟩ : Fin 128) = j := Fin.ext (by show 16 + (j.val - 16) = j.val; omega)
      rw [dif_pos h2, if_pos (by omega : j.val < 32), q, pad, pad, dif_pos ⟨by omega, h2⟩, dif_pos ⟨by omega, h2⟩]
    · rw [dif_neg h2, if_neg (by omega : ¬ j.val < 32)]
      by_cases h3 : j.val - 16 - 16 < 8
      · have q : (⟨32 + (j.val - 16 - 16), by omega⟩ : Fin 128) = j := Fin.ext (by show 32 + (j.val - 16 - 16) = j.val; omega)
        have p : (⟨j.val - 16 - 16, h3⟩ : Fin 8) = ⟨j.val - 32, by omega⟩ := Fin.ext (by show j.val - 16 - 16 = j.val - 32; omega)
        rw [dif_pos h3, if_pos (by omega : j.val < 40), q, p, pad, dif_pos ⟨by omega, by omega⟩]
      · rw [dif_neg h3, if_neg (by omega : ¬ j.val < 40)]

set_option maxHeartbeats 1000000 in
/-- The reference's array is that array. -/
theorem result (m : (ℓ : Loc Cert.GatesSRefIdeal.nD Cert.GatesSRefIdeal.τ Cert.GatesSRefIdeal.sig) → Buf (Elt Ideal) ℓ) (c : Dev Cert.GatesSRefIdeal.nD) :
    Cert.GatesSRefIdeal.Value.res_main_v27 m c = gate (m (c.tc.loc Cert.GatesSRefIdeal.main_arg0)) (m (c.tc.loc Cert.GatesSRefIdeal.main_arg1))
      (m (c.tc.loc Cert.GatesSRefIdeal.main_arg2)) (m (c.tc.loc Cert.GatesSRefIdeal.main_arg3)) := by
  unfold Cert.GatesSRefIdeal.Value.res_main_v27
  generalize m (c.tc.loc Cert.GatesSRefIdeal.main_arg0) = x
  generalize m (c.tc.loc Cert.GatesSRefIdeal.main_arg1) = u
  generalize m (c.tc.loc Cert.GatesSRefIdeal.main_arg2) = v
  generalize m (c.tc.loc Cert.GatesSRefIdeal.main_arg3) = w
  funext y
  idx_vars y
  pointwise
  simp only [ne_eq, not_true_eq_false, ite_false]
  have e := pieces (fun k => x (ix3 y0 (0 : Fin 1) k)) u v w y1
  simp only [soft] at e
  exact e

end Cert.GatesSIdeal.Lin

end
-- ==== Proof.Lin.Rows.lean ====
/- The norm of the rows before a projection: each position divided by its root mean square and scaled. -/
module

public import proofs.«01_k».proof.Proof.Gen.RowNormIdeal.Value
public import proofs.«01_k».proof.Proof.Gen.RowNormRefIdeal.Run
public import Idealize.ShloMosaic.Lib.Pipeline.ValueKit

@[expose] public section

set_option maxRecDepth 16384

noncomputable section

namespace Cert.RowNormIdeal.Lin

open Cert.RowNormIdeal Cert.RowNormIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- 4096 numbers divided by their root mean square, then scaled, at entry `d`. -/
def lane (s g : Fin 4096 → EReal) (d : Fin 4096) : EReal :=
  s d * Ideal.rsqrt (Ideal.div (∑ k, s k * s k) (Ideal.ofBits FTy.f32 1166016512#32) + Ideal.ofBits FTy.f32 897988541#32) * g d

/-- The normed positions as one array: row `4096 b + i`. -/
def rows (x : S2x4096x4096.Idx → EReal) (g : S1x4096.Idx → EReal) : S8192x4096.Idx → EReal := fun y =>
  have h0 : (y 0).val < 8192 := (y 0).isLt
  lane (fun k => x (ix3 (⟨(y 0).val / 4096, by omega⟩ : Fin 2) (⟨(y 0).val % 4096, by omega⟩ : Fin 4096) k)) (fun k => g (ix2 0 k)) (y 1)

/-- Where the blocks lie. -/
theorem idx : ∀ t : Fin cfg0.N, win0_0.index t = ![(grid0.coords t 0).val, 0] ∧ win0_1.index t = ![0, 0] ∧ win0_2.index t = ![(grid0.coords t 0).val, 0]
    ∧ (grid0.coords t 0).val < 32 :=
  (by decide +kernel : ∀ t : Fin grid0.N, _)

/-- A block of rows. -/
theorem x_blk (t : Fin cfg0.N) (r : Fin 256) (k : Fin 4096) (b : Fin 2) (i : Fin 4096) (e : 4096 * b.val + i.val = 256 * (grid0.coords t 0).val + r.val) :
    iblk m c 0 t (ix2 r k) = m ((c : Thread nD τ).loc main_arg0) (ix3 b i k) := by
  blk_simp [iblk, idx t]
  entry_read
  pointwise
  refine congrArg (m ((c : Thread nD τ).loc main_arg0)) ?_
  blk_ext [idx t]

/-- The scale. -/
theorem g_blk (t : Fin cfg0.N) (d : Fin 4096) : iblk m c 1 t (ix2 0 d) = m ((c : Thread nD τ).loc main_arg1) (ix2 0 d) := by
  blk_simp [iblk, idx t]
  entry_read
  pointwise
  refine congrArg (m ((c : Thread nD τ).loc main_arg1)) ?_
  blk_ext [idx t]

/-- What the body stores, at an index. -/
theorem pay_at (x : FVec Ideal S256x4096 .f32) (g : FVec Ideal S1x4096 .f32) (r : Fin 256) (d : Fin 4096) :
    k0_pay1 (F := Ideal) x g (ix2 r d) = lane (fun k => x (ix2 r k)) (fun k => g (ix2 0 k)) d := by
  pointwise [k0_pay1, lane]

/-- The result array of the call. -/
theorem final : (dats m 0 c).arrAt 2 cfg0.N = rows (m ((c : Thread nD τ).loc main_arg0)) (m ((c : Thread nD τ).loc main_arg1)) := by
  refine (dats m 0 c).arrAt_eq_of_covers 2 _ (by decide +kernel) fun t _ y => ?_
  blk_simp
  rw [after0_2]; frame_out
  have e0 : ((win0_2.blk t).view.emb y 0).val = (grid0.coords t 0).val * 256 + (y 0).val := by blk_simp [idx t]
  have e1 : ((win0_2.blk t).view.emb y 1).val = (y 1).val := by blk_simp [idx t]
  obtain ⟨-, -, -, h0⟩ := idx t
  generalize (win0_2.blk t).view.emb y = z at e0 e1 ⊢
  idx_vars y
  have es : (fun k : Fin 4096 => iblk m c 0 t (ix2 y0 k))
      = fun k : Fin 4096 => m ((c : Thread nD τ).loc main_arg0) (ix3 (⟨(z 0).val / 4096, by have : (z 0).val < 8192 := (z 0).isLt; omega⟩ : Fin 2)
        (⟨(z 0).val % 4096, by omega⟩ : Fin 4096) k) :=
    funext fun k => x_blk m c t _ _ _ _ (by show 4096 * ((z 0).val / 4096) + (z 0).val % 4096 = _; omega)
  have eg : (fun k : Fin 4096 => iblk m c 1 t (ix2 0 k)) = fun k : Fin 4096 => m ((c : Thread nD τ).loc main_arg1) (ix2 0 k) := funext (g_blk m c t)
  have ed : y1 = z 1 := Fin.ext e1.symm
  exact (pay_at _ _ _ _).trans ((congrArg₂ (fun a b => lane a b _) es eg).trans (congrArg (lane _ _) ed))

open Cert.RowNormRefIdeal Cert.RowNormRefIdeal.Gen in
/-- The reference's term is that array. -/
theorem result (x : FVec Ideal Cert.RowNormRefIdeal.S2x4096x4096 .f32) (g : FVec Ideal Cert.RowNormRefIdeal.S1x4096 .f32) :
    (truncf .bf16 (shapeCast Cert.RowNormRefIdeal.S8192x4096 (mulf (mulf x (broadcastInDim Cert.RowNormRefIdeal.S2x4096x4096 ![0, 1, 2] Cert.RowNormRefIdeal.Gen.bcast_S2x4096x1_S2x4096x4096_0_1_2 (Host.rsqrt (addf (Host.divf (broadcastInDim Cert.RowNormRefIdeal.S2x4096x1 ![0, 1] Cert.RowNormRefIdeal.Gen.bcast_S2x4096_S2x4096x1_0_1 (Host.reduceAdd (mulf x x) (constant Cert.RowNormRefIdeal.S_ .f32 0x00000000#32) Cert.RowNormRefIdeal.Gen.reducesTo_S2x4096x4096_S2x4096_d2 Cert.RowNormRefIdeal.Gen.h_S_)) (broadcastInDim Cert.RowNormRefIdeal.S2x4096x1 ![] Cert.RowNormRefIdeal.Gen.bcast_S_S2x4096x1 (constant Cert.RowNormRefIdeal.S_ .f32 0x45800000#32))) (broadcastInDim Cert.RowNormRefIdeal.S2x4096x1 ![] Cert.RowNormRefIdeal.Gen.bcast_S_S2x4096x1 (constant Cert.RowNormRefIdeal.S_ .f32 0x358637BD#32)))))) (broadcastInDim Cert.RowNormRefIdeal.S2x4096x4096 ![0, 1, 2] Cert.RowNormRefIdeal.Gen.bcast_S1x1x4096_S2x4096x4096_0_1_2 (broadcastInDim Cert.RowNormRefIdeal.S1x1x4096 ![2] Cert.RowNormRefIdeal.Gen.bcast_S4096_S1x1x4096_2 (shapeCast Cert.RowNormRefIdeal.S4096 g Cert.RowNormRefIdeal.Gen.shapeCasts_S1x4096_S4096)))) Cert.RowNormRefIdeal.Gen.shapeCasts_S2x4096x4096_S8192x4096) Cert.RowNormRefIdeal.Gen.bitsLt_bf16_f32 : FVec Ideal Cert.RowNormRefIdeal.S8192x4096 .bf16) = rows x g := by
  funext y
  idx_vars y
  pointwise [rows, lane]

end Cert.RowNormIdeal.Lin

end
-- ==== Proof.Lin.Ma.lean ====
/- The attention to the memory: the norm of the queries by heads, the softmax over the memory's positions and the weighted sum. -/
module

public import proofs.«01_k».proof.Proof.Gen.MemAttnIdeal.Value
public import Idealize.ShloMosaic.Lib.Pipeline.ValueKit

@[expose] public section

set_option maxRecDepth 16384

noncomputable section

namespace Cert.MemAttnIdeal.Lin

open Cert.MemAttnIdeal Cert.MemAttnIdeal.Gen Idealize.ShloMosaic Idealize.ShloMosaic.TcCoe Idealize.SL.Sem
open Idealize.ShloMosaic.Pipeline (Dat)

/-- A query's 256 numbers divided by their root mean square, then scaled. -/
def lane (s g : Fin 256 → EReal) (d : Fin 256) : EReal :=
  s d * Ideal.rsqrt (Ideal.div (∑ k, s k * s k) (Ideal.ofBits FTy.f32 1132462080#32) + Ideal.ofBits FTy.f32 897988541#32) * g d

/-- The scaled scores of a query against the keys. -/
def score (s g : Fin 256 → EReal) (k : Fin 256 → Fin 256 → EReal) (x : Fin 256) : EReal :=
  (∑ d, lane s g d * k x d) * Ideal.ofBits FTy.f32 1031798784#32

/-- The softmax of a row of scores less `M`, against a column of values. -/
def mixed (s : Fin 256 → EReal) (M : EReal) (v : Fin 256 → EReal) : EReal :=
  ∑ x, Ideal.div (Ideal.exp (s x - M)) (∑ z, Ideal.exp (s z - M)) * v x

/-- The largest of a row of scores. -/
def top (s : Fin 256 → EReal) : EReal := (Finset.univ : Finset (Fin 256)).fold max (Ideal.ofBits FTy.f32 0xFF800000#32) s

/-- The softmax of a row of scores against a column of values. -/
def soft (s : Fin 256 → EReal) (v : Fin 256 → EReal) : EReal := mixed s (top s) v

/-- The attention on one block of 512 queries, four heads of 256 columns each. -/
def block (q : S512x1024.Idx → EReal) (k v : S256x1024.Idx → EReal) (g : S1x256.Idx → EReal) (y : S512x1024.Idx) : EReal :=
  have h1 : (y 1).val < 1024 := (y 1).isLt
  soft (score (fun d => q (ix2 (y 0) (⟨(y 1).val / 256 * 256 + d.val, by omega⟩ : Fin 1024))) (fun d => g (ix2 0 d))
    fun x d => k (ix2 x (⟨(y 1).val / 256 * 256 + d.val, by omega⟩ : Fin 1024))) fun x => v (ix2 x (y 1))

/-- Inside the head that begins at column `o`. -/
theorem block_at (q : S512x1024.Idx → EReal) (k v : S256x1024.Idx → EReal) (g : S1x256.Idx → EReal) (y : S512x1024.Idx) (r : Fin 512) (d : Fin 256)
    (o : ℕ) (ho : o + 256 ≤ 1024) (hm : o % 256 = 0) (h0 : (y 0).val = r.val) (h1 : (y 1).val = o + d.val) :
    block q k v g y = soft (score (fun d => q (ix2 r (⟨o + d.val, by omega⟩ : Fin 1024))) (fun d => g (ix2 0 d))
      fun x d => k (ix2 x (⟨o + d.val, by omega⟩ : Fin 1024))) fun x => v (ix2 x (⟨o + d.val, by omega⟩ : Fin 1024)) := by
  have hd := d.isLt
  have e0 : y 0 = r := Fin.ext h0
  have e1 : (y 1).val / 256 * 256 = o := by omega
  have e2 : y 1 = (⟨o + d.val, by omega⟩ : Fin 1024) := Fin.ext h1
  unfold block
  simp only [e0, e1]
  exact congrArg (soft _) (funext fun x => congrArg (fun z => v (ix2 x z)) e2)

/-- What the four stores of the body leave at an index of its block. -/
theorem point (u : FVec Ideal S512x1024 .f32) (k v : FVec Ideal S256x1024 .bf16) (g : FVec Ideal S1x256 .f32) (y : S512x1024.Idx) :
    out0_4 (F := Ideal) u k v g y = block u k v g y := by
  unfold_out out0_4
  canon_tiles x h
  case piece0 =>
    rw [block_at u k v g y (x 0) (x 1) 768 (by omega) (by omega) (by omega) (by omega)]
    idx_vars x
    pointwise [k0_pay1, k0_pay9, k0_pay10, k0_pay11, k0_pay2, soft, mixed, top, score, lane]
  case piece1 =>
    rw [block_at u k v g y (x 0) (x 1) 512 (by omega) (by omega) (by omega) (by omega)]
    idx_vars x
    pointwise [k0_pay8, k0_pay5, k0_pay6, k0_pay7, k0_pay11, k0_pay2, soft, mixed, top, score, lane]
  case piece2 =>
    rw [block_at u k v g y (x 0) (x 1) 256 (by omega) (by omega) (by omega) (by omega)]
    idx_vars x
    pointwise [k0_pay4, k0_pay11, k0_pay2, soft, mixed, top, score, lane]
  case piece3 =>
    rw [block_at u k v g y (x 0) (x 1) 0 (by omega) (by omega) (by omega) (by omega)]
    idx_vars x
    pointwise [k0_pay3, k0_pay2, soft, mixed, top, score, lane]

variable (m : (ℓ : Loc nD τ sig) → Buf (Elt Ideal) ℓ) (c : Dev nD)

/-- Where the blocks lie. -/
theorem idx : ∀ t : Fin cfg0.N, win0_0.index t = ![8 * (grid0.coords t 0).val + (grid0.coords t 1).val, 0] ∧ win0_1.index t = ![(grid0.coords t 0).val, 0]
    ∧ win0_2.index t = ![(grid0.coords t 0).val, 0] ∧ win0_3.index t = ![0, 0]
    ∧ win0_4.index t = ![8 * (grid0.coords t 0).val + (grid0.coords t 1).val, 0] ∧ (grid0.coords t 0).val < 2 ∧ (grid0.coords t 1).val < 8 :=
  (by decide +kernel : ∀ t : Fin grid0.N, _)

/-- A block of queries. -/
theorem q_blk (t : Fin cfg0.N) (r : Fin 512) (k : Fin 1024) (b : Fin 2) (i : Fin 4096)
    (e : 4096 * b.val + i.val = 512 * (8 * (grid0.coords t 0).val + (grid0.coords t 1).val) + r.val) :
    iblk m c 0 t (ix2 r k) = m ((c : Thread nD τ).loc main_arg0) (ix3 b i k) := by
  blk_simp [iblk, idx t]
  entry_read
  pointwise
  refine congrArg (m ((c : Thread nD τ).loc main_arg0)) ?_
  blk_ext [idx t]

/-- A sequence's keys. -/
theorem k_blk (t : Fin cfg0.N) (x : Fin 256) (k : Fin 1024) (b : Fin 2) (h : Fin 4) (d : Fin 256) (eb : b.val = (grid0.coords t 0).val)
    (e : 256 * h.val + d.val = k.val) : iblk m c 1 t (ix2 x k) = m ((c : Thread nD τ).loc main_arg1) (ix4 b x h d) := by
  blk_simp [iblk, idx t]
  entry_read
  pointwise
  refine congrArg (m ((c : Thread nD τ).loc main_arg1)) ?_
  blk_ext [idx t]

/-- A sequence's values. -/
theorem v_blk (t : Fin cfg0.N) (x : Fin 256) (k : Fin 1024) (b : Fin 2) (h : Fin 4) (d : Fin 256) (eb : b.val = (grid0.coords t 0).val)
    (e : 256 * h.val + d.val = k.val) : iblk m c 2 t (ix2 x k) = m ((c : Thread nD τ).loc main_arg2) (ix4 b x h d) := by
  blk_simp [iblk, idx t]
  entry_read
  pointwise
  refine congrArg (m ((c : Thread nD τ).loc main_arg2)) ?_
  blk_ext [idx t]

/-- The scale. -/
theorem g_blk (t : Fin cfg0.N) (d : Fin 256) : iblk m c 3 t (ix2 0 d) = m ((c : Thread nD τ).loc main_arg3) (ix2 0 d) := by
  blk_simp [iblk, idx t]
  entry_read
  pointwise
  refine congrArg (m ((c : Thread nD τ).loc main_arg3)) ?_
  blk_ext [idx t]

/-- The attention of every position as one array: row `4096 b + i`, columns `256 h` to `256 h + 255` for head `h`. -/
def attend (q : S2x4096x1024.Idx → EReal) (k v : S2x256x4x256.Idx → EReal) (g : S1x256.Idx → EReal) : S8192x1024.Idx → EReal := fun y =>
  have h0 : (y 0).val < 8192 := (y 0).isLt
  have h1 : (y 1).val < 1024 := (y 1).isLt
  soft (score (fun d => q (ix3 (⟨(y 0).val / 4096, by omega⟩ : Fin 2) (⟨(y 0).val % 4096, by omega⟩ : Fin 4096) (⟨(y 1).val / 256 * 256 + d.val, by omega⟩ : Fin 1024)))
      (fun d => g (ix2 0 d)) fun x d => k (ix4 (⟨(y 0).val / 4096, by omega⟩ : Fin 2) x (⟨(y 1).val / 256, by omega⟩ : Fin 4) d))
    fun x => v (ix4 (⟨(y 0).val / 4096, by omega⟩ : Fin 2) x (⟨(y 1).val / 256, by omega⟩ : Fin 4) (⟨(y 1).val % 256, by omega⟩ : Fin 256))

/-- The same at a place given by sequence, position, head and coordinate. -/
theorem attend_at (q : S2x4096x1024.Idx → EReal) (k v : S2x256x4x256.Idx → EReal) (g : S1x256.Idx → EReal) (y : S8192x1024.Idx) (b : Fin 2) (i : Fin 4096)
    (h : Fin 4) (d : Fin 256) (e0 : (y 0).val = 4096 * b.val + i.val) (e1 : (y 1).val = 256 * h.val + d.val) :
    attend q k v g y = soft (score (fun d => q (ix3 b i (⟨256 * h.val + d.val, by omega⟩ : Fin 1024))) (fun d => g (ix2 0 d))
      fun x d => k (ix4 b x h d)) fun x => v (ix4 b x h d) := by
  have h0 : (y 0).val < 8192 := (y 0).isLt
  have h1 : (y 1).val < 1024 := (y 1).isLt
  have E : ∀ (b' : Fin 2) (i' : Fin 4096) (h' : Fin 4) (d' : Fin 256) (z : Fin 256 → Fin 1024), b' = b → i' = i → h' = h → d' = d →
      (∀ d, z d = (⟨256 * h.val + d.val, by omega⟩ : Fin 1024)) →
      soft (score (fun d => q (ix3 b' i' (z d))) (fun d => g (ix2 0 d)) fun x d => k (ix4 b' x h' d)) (fun x => v (ix4 b' x h' d'))
      = soft (score (fun d => q (ix3 b i (⟨256 * h.val + d.val, by omega⟩ : Fin 1024))) (fun d => g (ix2 0 d))
        fun x d => k (ix4 b x h d)) fun x => v (ix4 b x h d) := by
    rintro b' i' h' d' z rfl rfl rfl rfl e
    simp only [e]
  exact E ⟨(y 0).val / 4096, by omega⟩ ⟨(y 0).val % 4096, by omega⟩ ⟨(y 1).val / 256, by omega⟩ ⟨(y 1).val % 256, by omega⟩
    (fun d => ⟨(y 1).val / 256 * 256 + d.val, by omega⟩)
    (Fin.ext (by dsimp only; omega)) (Fin.ext (by dsimp only; omega)) (Fin.ext (by dsimp only; omega)) (Fin.ext (by dsimp only; omega))
    fun d => Fin.ext (by dsimp only; omega)

/-- The result array of the call. -/
theorem final : (dats m 0 c).arrAt 4 cfg0.N = attend (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]
  refine (point _ _ _ _ _).trans ?_
  have e0 : ((win0_4.blk t).view.emb y 0).val = (8 * (grid0.coords t 0).val + (grid0.coords t 1).val) * 512 + (y 0).val := by blk_simp [idx t]
  have e1 : ((win0_4.blk t).view.emb y 1).val = (y 1).val := by blk_simp [idx t]
  obtain ⟨-, -, -, -, -, hb, hi⟩ := idx t
  generalize (win0_4.blk t).view.emb y = z at e0 e1 ⊢
  have hr : (y 0).val < 512 := (y 0).isLt
  have hl : (y 1).val < 1024 := (y 1).isLt
  have a0 : (z 0).val = 4096 * (⟨(grid0.coords t 0).val, hb⟩ : Fin 2).val + (⟨512 * (grid0.coords t 1).val + (y 0).val, by omega⟩ : Fin 4096).val := by
    dsimp only; omega
  have a1 : (z 1).val = 256 * (⟨(y 1).val / 256, by omega⟩ : Fin 4).val + (⟨(y 1).val % 256, by omega⟩ : Fin 256).val := by dsimp only; omega
  refine Eq.trans ?_ (attend_at _ _ _ _ z _ _ _ _ a0 a1).symm
  refine (block_at _ _ _ _ y (y 0) (⟨(y 1).val % 256, by omega⟩ : Fin 256) ((y 1).val / 256 * 256) (by omega) (by omega) rfl (by dsimp only; omega)).trans ?_
  refine congrArg₂ soft ?_ ?_
  · have eq : (fun d : Fin 256 => iblk m c 0 t (ix2 (y 0) (⟨(y 1).val / 256 * 256 + d.val, by omega⟩ : Fin 1024)))
        = fun d : Fin 256 => m ((c : Thread nD τ).loc main_arg0) (ix3 (⟨(grid0.coords t 0).val, hb⟩ : Fin 2)
          (⟨512 * (grid0.coords t 1).val + (y 0).val, by omega⟩ : Fin 4096) (⟨256 * ((y 1).val / 256) + d.val, by omega⟩ : Fin 1024)) :=
      funext fun d => (q_blk m c t _ _ _ _ (by dsimp only; omega)).trans
        (congrArg (m ((c : Thread nD τ).loc main_arg0)) (congrArg (ix3 _ _) (Fin.ext (by dsimp only; omega))))
    have eg : (fun d : Fin 256 => iblk m c 3 t (ix2 0 d)) = fun d : Fin 256 => m ((c : Thread nD τ).loc main_arg3) (ix2 0 d) := funext (g_blk m c t)
    have ek : (fun x d : Fin 256 => iblk m c 1 t (ix2 x (⟨(y 1).val / 256 * 256 + d.val, by omega⟩ : Fin 1024)))
        = fun x d : Fin 256 => m ((c : Thread nD τ).loc main_arg1) (ix4 (⟨(grid0.coords t 0).val, hb⟩ : Fin 2) x (⟨(y 1).val / 256, by omega⟩ : Fin 4) d) :=
      funext fun x => funext fun d => k_blk m c t _ _ _ _ _ rfl (by dsimp only; omega)
    exact (congrArg₂ (fun a b => score a b _) eq eg).trans (congrArg (score _ _) ek)
  · exact funext fun x => v_blk m c t _ _ _ _ _ rfl (by dsimp only; omega)

end Cert.MemAttnIdeal.Lin

end
-- ==== Proof.Lin.MaRef.lean ====
/- The attention to the memory, its plain reference read at a place. -/
module

public import proofs.«01_k».proof.Proof.Gen.MemAttnRefIdeal.Run
public import proofs.«01_k».proof.Proof.Fox.Plain
public import proofs.«01_k».proof.Proof.Lin.Ma

@[expose] public section

set_option maxRecDepth 16384

noncomputable section

namespace Cert.MemAttnRefIdeal.Lin

open Cert.MemAttnRefIdeal Cert.MemAttnRefIdeal.Gen Idealize.ShloMosaic Idealize.ShloMosaic.TcCoe Idealize.SL.Sem Cert.MemAttnIdeal.Lin

/-- The scaled scores of the normed queries against the keys. -/
def logits (q : FVec Ideal S2x4096x1024 .f32) (k : FVec Ideal S2x256x4x256 .f32) (g : FVec Ideal S1x256 .f32) : FVec Ideal S2x4x4096x256 .f32 :=
  mulf (Host.dotGeneral dot_S2x4096x4x256_S2x256x4x256_S2x4x4096x256_3_3_1_1_02_02 none (mulf (mulf (shapeCast S2x4096x4x256 q shapeCasts_S2x4096x1024_S2x4096x4x256) (broadcastInDim S2x4096x4x256 ![0, 1, 2, 3] bcast_S2x4096x4x1_S2x4096x4x256_0_1_2_3 (Host.rsqrt (addf (Host.divf (broadcastInDim S2x4096x4x1 ![0, 1, 2] bcast_S2x4096x4_S2x4096x4x1_0_1_2 (Host.reduceAdd (mulf (shapeCast S2x4096x4x256 q shapeCasts_S2x4096x1024_S2x4096x4x256) (shapeCast S2x4096x4x256 q shapeCasts_S2x4096x1024_S2x4096x4x256)) (constant S_ .f32 0x00000000#32) reducesTo_S2x4096x4x256_S2x4096x4_d3 h_S_)) (broadcastInDim S2x4096x4x1 ![] bcast_S_S2x4096x4x1 (constant S_ .f32 0x43800000#32))) (broadcastInDim S2x4096x4x1 ![] bcast_S_S2x4096x4x1 (constant S_ .f32 0x358637BD#32)))))) (broadcastInDim S2x4096x4x256 ![0, 1, 2, 3] bcast_S1x1x1x256_S2x4096x4x256_0_1_2_3 (broadcastInDim S1x1x1x256 ![3] bcast_S256_S1x1x1x256_3 (shapeCast S256 g shapeCasts_S1x256_S256)))) k) (broadcastInDim S2x4x4096x256 ![] bcast_S_S2x4x4096x256 (constant S_ .f32 0x3D800000#32))

/-- The scores less their row's maximum. -/
def shifted (s : FVec Ideal S2x4x4096x256 .f32) : FVec Ideal S2x4x4096x256 .f32 :=
  subf s (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) (Host.reduce FloatOps.maximumf s (constant S_ .f32 0xFF800000#32) reducesTo_S2x4x4096x256_S2x4x4096_d3 h_S_))))

/-- The weights: exponentials over their row's sum. -/
def weights (z : FVec Ideal S2x4x4096x256 .f32) : FVec Ideal S2x4x4096x256 .f32 :=
  Host.divf (Host.exp z) (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd (Host.exp z) (constant S_ .f32 0x00000000#32) reducesTo_S2x4x4096x256_S2x4x4096_d3 h_S_)))

/-- The weights against the values, positions down the rows. -/
def summed (v : FVec Ideal S2x256x4x256 .f32) (p : FVec Ideal S2x4x4096x256 .f32) : FVec Ideal S8192x1024 .bf16 :=
  truncf .bf16 (shapeCast S8192x1024 (transpose S2x4096x4x256 [0, 3, 1, 2] (Host.dotGeneral dot_S2x256x4x256_S2x4x4096x256_S2x4x256x4096_1_3_3_2_02_01 none v p) transposes_S2x4x256x4096_S2x4096x4x256_0_3_1_2) shapeCasts_S2x4096x4x256_S8192x1024) bitsLt_bf16_f32

theorem logits_at (q : FVec Ideal S2x4096x1024 .f32) (k : FVec Ideal S2x256x4x256 .f32) (g : FVec Ideal S1x256 .f32) (b : Fin 2) (h : Fin 4) (i : Fin 4096) (x : Fin 256) :
    logits q k g (ix4 b h i x) = score (fun d => q (ix3 b i (⟨256 * h.val + d.val, by omega⟩ : Fin 1024))) (fun d => g (ix2 0 d)) (fun x d => k (ix4 b x h d)) x := by
  pointwise [logits, score, lane]
  have e : ∀ d : Fin 256, (⟨h.val * 256 + d.val, by omega⟩ : Fin 1024) = ⟨256 * h.val + d.val, by omega⟩ :=
    fun d => Fin.ext (by show h.val * 256 + d.val = 256 * h.val + d.val; omega)
  simp only [e]

/-- The subtraction of a row's maximum, read at a place. -/
theorem shifted_read (s : FVec Ideal S2x4x4096x256 .f32) (M : FVec Ideal S2x4x4096 .f32) (b : Fin 2) (h : Fin 4) (i : Fin 4096) (j : Fin 256) :
    subf s (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) M))) (ix4 b h i j)
      = s (ix4 b h i j) - max ⊥ (M (ix3 b h i)) := by
  pointwise [Cert.Fox.minus_inf]

theorem shifted_at (s : FVec Ideal S2x4x4096x256 .f32) (T : Fin 256 → EReal) (b : Fin 2) (h : Fin 4) (i : Fin 4096) (j : Fin 256)
    (hs : ∀ x : Fin 256, s (ix4 b h i x) = T x) : shifted s (ix4 b h i j) = T j - top T := by
  refine (shifted_read s (Host.reduce FloatOps.maximumf s (constant S_ .f32 0xFF800000#32) reducesTo_S2x4x4096x256_S2x4x4096_d3 h_S_) b h i j).trans ?_
  have e := Cert.ReferenceIdeal.Fox.row_max reducesTo_S2x4x4096x256_S2x4x4096_d3 h_S_ s (constant (F := Ideal) S_ .f32 0xFF800000#32) b h i
  have z : constant (F := Ideal) S_ .f32 0xFF800000#32 (Shape.Idx.first h_S_) = (⊥ : EReal) := Cert.Fox.minus_inf
  have f : (fun x : Fin 256 => s (ix4 b h i x)) = T := funext hs
  rw [z, f] at e
  rw [hs j, top, Cert.Fox.minus_inf]
  exact congrArg (fun M => T j - M) ((max_eq_right bot_le).trans e)

theorem weights_at (z : FVec Ideal S2x4x4096x256 .f32) (b : Fin 2) (h : Fin 4) (i : Fin 4096) (j : Fin 256) :
    weights z (ix4 b h i j) = Ideal.div (Ideal.exp (z (ix4 b h i j))) (0 + ∑ x : Fin 256, Ideal.exp (z (ix4 b h i x))) := by
  pointwise [weights]

theorem summed_at (v : FVec Ideal S2x256x4x256 .f32) (p : FVec Ideal S2x4x4096x256 .f32) (y : S8192x1024.Idx) (b : Fin 2) (i : Fin 4096)
    (h : Fin 4) (d : Fin 256) (e0 : (y 0).val = 4096 * b.val + i.val) (e1 : (y 1).val = 256 * h.val + d.val) :
    summed v p y = ∑ x : Fin 256, v (ix4 b x h d) * p (ix4 b h i x) := by
  idx_vars y
  pointwise [summed]
  have E : ∀ b' i' h' d', b' = b → i' = i → h' = h → d' = d →
      ∑ x : Fin 256, v (ix4 b' x h' d') * p (ix4 b' h' i' x) = ∑ x : Fin 256, v (ix4 b x h d) * p (ix4 b h i x) := by
    rintro b' i' h' d' rfl rfl rfl rfl; rfl
  exact E _ _ _ _ (Fin.ext (by show y0.val / 4096 = b.val; omega)) (Fin.ext (by show y0.val % 4096 = i.val; omega))
    (Fin.ext (by show y1.val / 256 = h.val; omega)) (Fin.ext (by show y1.val % 256 = d.val; omega))

/-- One entry of the plain attention. -/
theorem entry (q : FVec Ideal S2x4096x1024 .f32) (k v : FVec Ideal S2x256x4x256 .f32) (g : FVec Ideal S1x256 .f32) (b : Fin 2) (i : Fin 4096) (h : Fin 4) (d : Fin 256) :
    ∑ x : Fin 256, v (ix4 b x h d) * weights (shifted (logits q k g)) (ix4 b h i x)
      = soft (score (fun d => q (ix3 b i (⟨256 * h.val + d.val, by omega⟩ : Fin 1024))) (fun d => g (ix2 0 d)) fun x d => k (ix4 b x h d)) fun x => v (ix4 b x h d) := by
  have e := fun x => shifted_at (logits q k g) _ b h i x (logits_at q k g b h i)
  generalize shifted (logits q k g) = z at e ⊢
  generalize score (fun d => q (ix3 b i (⟨256 * h.val + d.val, by omega⟩ : Fin 1024))) (fun d => g (ix2 0 d)) (fun x d => k (ix4 b x h d)) = T at e ⊢
  unfold soft mixed
  generalize top T = M at e ⊢
  refine Finset.sum_congr rfl fun x _ => ?_
  rw [weights_at, e x, mul_comm]
  simp only [e, zero_add]

/-- The plain attention is `attend`. -/
theorem plain (q : FVec Ideal S2x4096x1024 .f32) (k v : FVec Ideal S2x256x4x256 .f32) (g : FVec Ideal S1x256 .f32) :
    summed v (weights (shifted (logits q k g))) = attend q k v g := by
  funext y
  have h0 : (y 0).val < 8192 := (y 0).isLt
  have h1 : (y 1).val < 1024 := (y 1).isLt
  have e0 : (y 0).val = 4096 * (⟨(y 0).val / 4096, by omega⟩ : Fin 2).val + (⟨(y 0).val % 4096, by omega⟩ : Fin 4096).val := by
    dsimp only; omega
  have e1 : (y 1).val = 256 * (⟨(y 1).val / 256, by omega⟩ : Fin 4).val + (⟨(y 1).val % 256, by omega⟩ : Fin 256).val := by
    dsimp only; omega
  exact (summed_at v _ y _ _ _ _ e0 e1).trans ((entry q k v g _ _ _ _).trans (attend_at q k v g y _ _ _ _ e0 e1).symm)

variable (m : (ℓ : Loc nD τ sig) → Buf (Elt Ideal) ℓ) (c : Dev nD)

/-- The reference's result is `attend` of its arguments. -/
theorem result : Value.res_main_v32 m c = attend (m ((c : Thread nD τ).loc main_arg0)) (m ((c : Thread nD τ).loc main_arg1))
    (m ((c : Thread nD τ).loc main_arg2)) (m ((c : Thread nD τ).loc main_arg3)) :=
  (show Value.res_main_v32 m c = summed (m ((c : Thread nD τ).loc main_arg2)) (weights (shifted (logits (m ((c : Thread nD τ).loc main_arg0))
    (m ((c : Thread nD τ).loc main_arg1)) (m ((c : Thread nD τ).loc main_arg3))))) from rfl).trans (plain _ _ _ _)

end Cert.MemAttnRefIdeal.Lin

end
-- ==== Proof.lean ====
module

public import proofs.«01_k».proof.Proof.Gen.KernelIdeal.Value
public import proofs.«01_k».proof.Proof.Gen.ReferenceIdeal.Run
public import proofs.«01_k».proof.Proof.Fox.Plain
public import proofs.«01_k».proof.Proof.Fox.Finite
public import proofs.«01_k».proof.Proof.Gen.Pre_finite_scores
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.DnProjS
public import proofs.«01_k».proof.Proof.Gen.DnProjS.Frame
public import proofs.«01_k».proof.Proof.Gen.DnProjSIdeal
public import proofs.«01_k».proof.Proof.Gen.DnProjSIdeal.Frame
public import proofs.«01_k».proof.Proof.Gen.DnProjSIdeal.Value
public import proofs.«01_k».proof.Proof.Gen.DnProjSRefIdeal
public import proofs.«01_k».proof.Proof.Gen.DnProjSRefIdeal.Run
public import proofs.«01_k».proof.Proof.Gen.FoxProjS
public import proofs.«01_k».proof.Proof.Gen.FoxProjS.Frame
public import proofs.«01_k».proof.Proof.Gen.FoxProjSIdeal
public import proofs.«01_k».proof.Proof.Gen.FoxProjSIdeal.Frame
public import proofs.«01_k».proof.Proof.Gen.FoxProjSIdeal.Value
public import proofs.«01_k».proof.Proof.Gen.FoxProjSRefIdeal
public import proofs.«01_k».proof.Proof.Gen.FoxProjSRefIdeal.Run
public import proofs.«01_k».proof.Proof.Gen.KeyNormS
public import proofs.«01_k».proof.Proof.Gen.KeyNormS.Frame
public import proofs.«01_k».proof.Proof.Gen.KeyNormSIdeal
public import proofs.«01_k».proof.Proof.Gen.KeyNormSIdeal.Frame
public import proofs.«01_k».proof.Proof.Gen.KeyNormSIdeal.Value
public import proofs.«01_k».proof.Proof.Gen.KeyNormSRefIdeal
public import proofs.«01_k».proof.Proof.Gen.KeyNormSRefIdeal.Run
public import proofs.«01_k».proof.Proof.Gen.GatesS
public import proofs.«01_k».proof.Proof.Gen.GatesS.Frame
public import proofs.«01_k».proof.Proof.Gen.GatesSIdeal
public import proofs.«01_k».proof.Proof.Gen.GatesSIdeal.Frame
public import proofs.«01_k».proof.Proof.Gen.GatesSIdeal.Value
public import proofs.«01_k».proof.Proof.Gen.GatesSRefIdeal
public import proofs.«01_k».proof.Proof.Gen.GatesSRefIdeal.Run
public import proofs.«01_k».proof.Proof.Gen.RowNorm
public import proofs.«01_k».proof.Proof.Gen.RowNorm.Frame
public import proofs.«01_k».proof.Proof.Gen.RowNormIdeal
public import proofs.«01_k».proof.Proof.Gen.RowNormIdeal.Frame
public import proofs.«01_k».proof.Proof.Gen.RowNormIdeal.Value
public import proofs.«01_k».proof.Proof.Gen.RowNormRefIdeal
public import proofs.«01_k».proof.Proof.Gen.RowNormRefIdeal.Run
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Frame
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Lin.Dn
public import proofs.«01_k».proof.Proof.Lin.Fx
public import proofs.«01_k».proof.Proof.Lin.Mq
public import proofs.«01_k».proof.Proof.Lin.Out
public import proofs.«01_k».proof.Proof.Lin.Kv
public import proofs.«01_k».proof.Proof.Lin.Kn
public import proofs.«01_k».proof.Proof.Lin.Mk
public import proofs.«01_k».proof.Proof.Lin.GaRef
public import proofs.«01_k».proof.Proof.Lin.DnS
public import proofs.«01_k».proof.Proof.Lin.FxS
public import proofs.«01_k».proof.Proof.Lin.KnS
public import proofs.«01_k».proof.Proof.Lin.GaSRef
public import proofs.«01_k».proof.Proof.Lin.Rows
public import proofs.«01_k».proof.Proof.Lin.MaRef
public import proofs.«01_k».proof.Proof.Gen.DnProj
public import proofs.«01_k».proof.Proof.Gen.DnProj.Frame
public import proofs.«01_k».proof.Proof.Gen.DnProjIdeal
public import proofs.«01_k».proof.Proof.Gen.DnProjIdeal.Frame
public import proofs.«01_k».proof.Proof.Gen.DnProjIdeal.Value
public import proofs.«01_k».proof.Proof.Gen.DnProjRefIdeal
public import proofs.«01_k».proof.Proof.Gen.DnProjRefIdeal.Run
public import proofs.«01_k».proof.Proof.Gen.FoxProj
public import proofs.«01_k».proof.Proof.Gen.FoxProj.Frame
public import proofs.«01_k».proof.Proof.Gen.FoxProjIdeal
public import proofs.«01_k».proof.Proof.Gen.FoxProjIdeal.Frame
public import proofs.«01_k».proof.Proof.Gen.FoxProjIdeal.Value
public import proofs.«01_k».proof.Proof.Gen.FoxProjRefIdeal
public import proofs.«01_k».proof.Proof.Gen.FoxProjRefIdeal.Run
public import proofs.«01_k».proof.Proof.Gen.MemProj
public import proofs.«01_k».proof.Proof.Gen.MemProj.Frame
public import proofs.«01_k».proof.Proof.Gen.MemProjIdeal
public import proofs.«01_k».proof.Proof.Gen.MemProjIdeal.Frame
public import proofs.«01_k».proof.Proof.Gen.MemProjIdeal.Value
public import proofs.«01_k».proof.Proof.Gen.MemProjRefIdeal
public import proofs.«01_k».proof.Proof.Gen.MemProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.KeyNorm
public import proofs.«01_k».proof.Proof.Gen.KeyNorm.Frame
public import proofs.«01_k».proof.Proof.Gen.KeyNormIdeal
public import proofs.«01_k».proof.Proof.Gen.KeyNormIdeal.Frame
public import proofs.«01_k».proof.Proof.Gen.KeyNormIdeal.Value
public import proofs.«01_k».proof.Proof.Gen.KeyNormRefIdeal
public import proofs.«01_k».proof.Proof.Gen.KeyNormRefIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The prompt attention with its forget bias is the plain softmax attention, where queries, keys and summed log gates are finite. -/
theorem attention : Cert.algebraic_KernelIdeal_ReferenceIdeal_pre_finite_scores := by
  intro m g m' g' hpre hagree
  refine ⟨fun c => Cert.KernelIdeal.Fox.attend (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · refine θ_run_mono (Cert.KernelIdeal.Value.run_blocks m g) fun r hr c => ?_
    obtain ⟨hq, hk, hg⟩ := Cert.Pre_finite_scores.Fox.real_of_pre _ _ _ _ (hpre c)
    exact ⟨(hr c).1.trans (Cert.KernelIdeal.Fox.final m c (Cert.KernelIdeal.Fox.rowS_ne_top hq hk hg)
      (Cert.KernelIdeal.Fox.rowS_ne_bot hq hk hg)), (hr c).2⟩
  · refine θ_run_mono (Cert.ReferenceIdeal.Value.run m' g') fun r hr c => ?_
    obtain ⟨a0, a1, a2, a3⟩ := hagree c
    refine ⟨(hr c).1.trans ((Cert.ReferenceIdeal.Fox.result m' c).trans ?_), (hr c).2⟩
    rw [a0, a1, a2, a3]

/-- The plain attention leaves its arguments alone; it declares no semaphore. -/
theorem attention_frame : Cert.quiescent_ReferenceIdeal := fun m ρ _ =>
  θ_run_mono (Cert.ReferenceIdeal.Value.run m ρ) fun r hr => ⟨fun c => (hr c).2, sem_eq_zero_of_no_sems (by decide) r.2⟩

/-- The input projection to the delta heads: the call and the reference compute the same array. -/
theorem delta_projection : Cert.algebraic_DnProjIdeal_DnProjRefIdeal := by
  intro m g m' g' _ hagree
  refine ⟨fun c => Cert.DnProjIdeal.Lin.cols (m (c.tc.loc Cert.DnProjIdeal.main_arg0)) (m (c.tc.loc Cert.DnProjIdeal.main_arg1)), ?_, ?_⟩
  · exact θ_run_mono (Cert.DnProjIdeal.Value.run_blocks m g) fun r hr c => ⟨(hr c).1.trans (Cert.DnProjIdeal.Lin.final m c), (hr c).2⟩
  · refine θ_run_mono (Cert.DnProjRefIdeal.Value.run m' g') fun r hr c => ?_
    obtain ⟨a0, a1⟩ := hagree c
    refine ⟨(hr c).1.trans ((Cert.DnProjIdeal.Lin.result _ _).trans ?_), (hr c).2⟩
    rw [a0, a1]

/-- The reference of the input projection to the delta heads runs to its end and leaves its arguments as they were. -/
theorem delta_projection_frame : Cert.quiescent_DnProjRefIdeal := fun m ρ _ =>
  θ_run_mono (Cert.DnProjRefIdeal.Value.run m ρ) fun r hr => ⟨fun c => (hr c).2, sem_eq_zero_of_no_sems (by decide) r.2⟩

/-- The input projection to the forgetting heads: the call and the reference compute the same array. -/
theorem forgetting_projection : Cert.algebraic_FoxProjIdeal_FoxProjRefIdeal := by
  intro m g m' g' _ hagree
  refine ⟨fun c => Cert.FoxProjIdeal.Lin.cols (m (c.tc.loc Cert.FoxProjIdeal.main_arg0)) (m (c.tc.loc Cert.FoxProjIdeal.main_arg1)), ?_, ?_⟩
  · exact θ_run_mono (Cert.FoxProjIdeal.Value.run_blocks m g) fun r hr c => ⟨(hr c).1.trans (Cert.FoxProjIdeal.Lin.final m c), (hr c).2⟩
  · refine θ_run_mono (Cert.FoxProjRefIdeal.Value.run m' g') fun r hr c => ?_
    obtain ⟨a0, a1⟩ := hagree c
    refine ⟨(hr c).1.trans ((Cert.FoxProjIdeal.Lin.result _ _).trans ?_), (hr c).2⟩
    rw [a0, a1]

/-- The reference of the input projection to the forgetting heads runs to its end and leaves its arguments as they were. -/
theorem forgetting_projection_frame : Cert.quiescent_FoxProjRefIdeal := fun m ρ _ =>
  θ_run_mono (Cert.FoxProjRefIdeal.Value.run m ρ) fun r hr => ⟨fun c => (hr c).2, sem_eq_zero_of_no_sems (by decide) r.2⟩

/-- The input projection to the memory heads: the call and the reference compute the same array. -/
theorem memory_projection : Cert.algebraic_MemProjIdeal_MemProjRefIdeal := by
  intro m g m' g' _ hagree
  refine ⟨fun c => Cert.MemProjIdeal.Lin.cols (m (c.tc.loc Cert.MemProjIdeal.main_arg0)) (m (c.tc.loc Cert.MemProjIdeal.main_arg1)), ?_, ?_⟩
  · exact θ_run_mono (Cert.MemProjIdeal.Value.run_blocks m g) fun r hr c => ⟨(hr c).1.trans (Cert.MemProjIdeal.Lin.final m c), (hr c).2⟩
  · refine θ_run_mono (Cert.MemProjRefIdeal.Value.run m' g') fun r hr c => ?_
    obtain ⟨a0, a1⟩ := hagree c
    refine ⟨(hr c).1.trans ((Cert.MemProjIdeal.Lin.result _ _).trans ?_), (hr c).2⟩
    rw [a0, a1]

/-- The reference of the input projection to the memory heads runs to its end and leaves its arguments as they were. -/
theorem memory_projection_frame : Cert.quiescent_MemProjRefIdeal := fun m ρ _ =>
  θ_run_mono (Cert.MemProjRefIdeal.Value.run m ρ) fun r hr => ⟨fun c => (hr c).2, sem_eq_zero_of_no_sems (by decide) r.2⟩

/-- The output projection with its residual: the call and the reference compute the same array. -/
theorem output_projection : Cert.algebraic_OutProjIdeal_OutProjRefIdeal := by
  intro m g m' g' _ hagree
  refine ⟨fun c => Cert.OutProjIdeal.Lin.rows (m (c.tc.loc Cert.OutProjIdeal.main_arg0)) (m (c.tc.loc Cert.OutProjIdeal.main_arg1)) (m (c.tc.loc Cert.OutProjIdeal.main_arg2)) (m (c.tc.loc Cert.OutProjIdeal.main_arg3)) (m (c.tc.loc Cert.OutProjIdeal.main_arg4)), ?_, ?_⟩
  · exact θ_run_mono (Cert.OutProjIdeal.Value.run_blocks m g) fun r hr c => ⟨(hr c).1.trans (Cert.OutProjIdeal.Lin.final m c), (hr c).2⟩
  · refine θ_run_mono (Cert.OutProjRefIdeal.Value.run m' g') fun r hr c => ?_
    obtain ⟨a0, a1, a2, a3, a4⟩ := hagree c
    refine ⟨(hr c).1.trans ((Cert.OutProjIdeal.Lin.result _ _ _ _ _).trans ?_), (hr c).2⟩
    rw [a0, a1, a2, a3, a4]

/-- The reference of the output projection with its residual runs to its end and leaves its arguments as they were. -/
theorem output_projection_frame : Cert.quiescent_OutProjRefIdeal := fun m ρ _ =>
  θ_run_mono (Cert.OutProjRefIdeal.Value.run m ρ) fun r hr => ⟨fun c => (hr c).2, sem_eq_zero_of_no_sems (by decide) r.2⟩

/-- The projection of the memory to keys and values: the call and the reference compute the same array. -/
theorem memory_keys : Cert.algebraic_MemKvIdeal_MemKvRefIdeal := by
  intro m g m' g' _ hagree
  refine ⟨fun c => Cert.MemKvIdeal.Lin.cols (m (c.tc.loc Cert.MemKvIdeal.main_arg0)) (m (c.tc.loc Cert.MemKvIdeal.main_arg1)), ?_, ?_⟩
  · exact θ_run_mono (Cert.MemKvIdeal.Value.run_blocks m g) fun r hr c => ⟨(hr c).1.trans (Cert.MemKvIdeal.Lin.final m c), (hr c).2⟩
  · refine θ_run_mono (Cert.MemKvRefIdeal.Value.run m' g') fun r hr c => ?_
    obtain ⟨a0, a1⟩ := hagree c
    refine ⟨(hr c).1.trans ((Cert.MemKvIdeal.Lin.result _ _).trans ?_), (hr c).2⟩
    rw [a0, a1]

/-- The reference of the projection of the memory to keys and values runs to its end and leaves its arguments as they were. -/
theorem memory_keys_frame : Cert.quiescent_MemKvRefIdeal := fun m ρ _ =>
  θ_run_mono (Cert.MemKvRefIdeal.Value.run m ρ) fun r hr => ⟨fun c => (hr c).2, sem_eq_zero_of_no_sems (by decide) r.2⟩

/-- The per-head norm of the keys: the call and the reference compute the same array. -/
theorem key_norm : Cert.algebraic_KeyNormIdeal_KeyNormRefIdeal := by
  intro m g m' g' _ hagree
  refine ⟨fun c => Cert.KeyNormIdeal.Lin.keys (m (c.tc.loc Cert.KeyNormIdeal.main_arg0)) (m (c.tc.loc Cert.KeyNormIdeal.main_arg1)), ?_, ?_⟩
  · exact θ_run_mono (Cert.KeyNormIdeal.Value.run_blocks m g) fun r hr c => ⟨(hr c).1.trans (Cert.KeyNormIdeal.Lin.final m c), (hr c).2⟩
  · refine θ_run_mono (Cert.KeyNormRefIdeal.Value.run m' g') fun r hr c => ?_
    obtain ⟨a0, a1⟩ := hagree c
    refine ⟨(hr c).1.trans ((Cert.KeyNormIdeal.Lin.result _ _).trans ?_), (hr c).2⟩
    rw [a0, a1]

/-- The reference of the per-head norm of the keys runs to its end and leaves its arguments as they were. -/
theorem key_norm_frame : Cert.quiescent_KeyNormRefIdeal := fun m ρ _ =>
  θ_run_mono (Cert.KeyNormRefIdeal.Value.run m ρ) fun r hr => ⟨fun c => (hr c).2, sem_eq_zero_of_no_sems (by decide) r.2⟩

/-- The per-head norm of the memory keys: the call and the reference compute the same array. -/
theorem memory_key_norm : Cert.algebraic_MemNormIdeal_MemNormRefIdeal := by
  intro m g m' g' _ hagree
  refine ⟨fun c => Cert.MemNormIdeal.Lin.keys (m (c.tc.loc Cert.MemNormIdeal.main_arg0)) (m (c.tc.loc Cert.MemNormIdeal.main_arg1)), ?_, ?_⟩
  · exact θ_run_mono (Cert.MemNormIdeal.Value.run_blocks m g) fun r hr c => ⟨(hr c).1.trans (Cert.MemNormIdeal.Lin.final m c), (hr c).2⟩
  · refine θ_run_mono (Cert.MemNormRefIdeal.Value.run m' g') fun r hr c => ?_
    obtain ⟨a0, a1⟩ := hagree c
    refine ⟨(hr c).1.trans ((Cert.MemNormIdeal.Lin.result _ _).trans ?_), (hr c).2⟩
    rw [a0, a1]

/-- The reference of the per-head norm of the memory keys runs to its end and leaves its arguments as they were. -/
theorem memory_key_norm_frame : Cert.quiescent_MemNormRefIdeal := fun m ρ _ =>
  θ_run_mono (Cert.MemNormRefIdeal.Value.run m ρ) fun r hr => ⟨fun c => (hr c).2, sem_eq_zero_of_no_sems (by decide) r.2⟩

/-- The gates: the call and the reference compute the same array. -/
theorem gates : Cert.algebraic_GatesIdeal_GatesRefIdeal := by
  intro m g m' g' _ hagree
  refine ⟨fun c => Cert.GatesIdeal.Lin.gate (m (c.tc.loc Cert.GatesIdeal.main_arg0)) (m (c.tc.loc Cert.GatesIdeal.main_arg1)) (m (c.tc.loc Cert.GatesIdeal.main_arg2)) (m (c.tc.loc Cert.GatesIdeal.main_arg3)), ?_, ?_⟩
  · exact θ_run_mono (Cert.GatesIdeal.Value.run_blocks m g) fun r hr c => ⟨(hr c).1.trans (Cert.GatesIdeal.Lin.final m c), (hr c).2⟩
  · refine θ_run_mono (Cert.GatesRefIdeal.Value.run m' g') fun r hr c => ?_
    obtain ⟨a0, a1, a2, a3⟩ := hagree c
    refine ⟨(hr c).1.trans ((Cert.GatesIdeal.Lin.result m' c).trans ?_), (hr c).2⟩
    rw [a0, a1, a2, a3]

/-- The reference of the gates runs to its end and leaves its arguments as they were. -/
theorem gates_frame : Cert.quiescent_GatesRefIdeal := fun m ρ _ =>
  θ_run_mono (Cert.GatesRefIdeal.Value.run m ρ) fun r hr => ⟨fun c => (hr c).2, sem_eq_zero_of_no_sems (by decide) r.2⟩

/-- The sample's input projection to the delta heads: the call and the reference compute the same array. -/
theorem sample_delta_projection : Cert.algebraic_DnProjSIdeal_DnProjSRefIdeal := by
  intro m g m' g' _ hagree
  refine ⟨fun c => Cert.DnProjSIdeal.Lin.cols (m (c.tc.loc Cert.DnProjSIdeal.main_arg0)) (m (c.tc.loc Cert.DnProjSIdeal.main_arg1)), ?_, ?_⟩
  · exact θ_run_mono (Cert.DnProjSIdeal.Value.run_blocks m g) fun r hr c => ⟨(hr c).1.trans (Cert.DnProjSIdeal.Lin.final m c), (hr c).2⟩
  · refine θ_run_mono (Cert.DnProjSRefIdeal.Value.run m' g') fun r hr c => ?_
    obtain ⟨a0, a1⟩ := hagree c
    refine ⟨(hr c).1.trans ((Cert.DnProjSIdeal.Lin.result _ _).trans ?_), (hr c).2⟩
    rw [a0, a1]

/-- The reference of the sample's input projection to the delta heads runs to its end and leaves its arguments as they were. -/
theorem sample_delta_projection_frame : Cert.quiescent_DnProjSRefIdeal := fun m ρ _ =>
  θ_run_mono (Cert.DnProjSRefIdeal.Value.run m ρ) fun r hr => ⟨fun c => (hr c).2, sem_eq_zero_of_no_sems (by decide) r.2⟩

/-- The sample's input projection to the forgetting heads: the call and the reference compute the same array. -/
theorem sample_forgetting_projection : Cert.algebraic_FoxProjSIdeal_FoxProjSRefIdeal := by
  intro m g m' g' _ hagree
  refine ⟨fun c => Cert.FoxProjSIdeal.Lin.cols (m (c.tc.loc Cert.FoxProjSIdeal.main_arg0)) (m (c.tc.loc Cert.FoxProjSIdeal.main_arg1)), ?_, ?_⟩
  · exact θ_run_mono (Cert.FoxProjSIdeal.Value.run_blocks m g) fun r hr c => ⟨(hr c).1.trans (Cert.FoxProjSIdeal.Lin.final m c), (hr c).2⟩
  · refine θ_run_mono (Cert.FoxProjSRefIdeal.Value.run m' g') fun r hr c => ?_
    obtain ⟨a0, a1⟩ := hagree c
    refine ⟨(hr c).1.trans ((Cert.FoxProjSIdeal.Lin.result _ _).trans ?_), (hr c).2⟩
    rw [a0, a1]

/-- The reference of the sample's input projection to the forgetting heads runs to its end and leaves its arguments as they were. -/
theorem sample_forgetting_projection_frame : Cert.quiescent_FoxProjSRefIdeal := fun m ρ _ =>
  θ_run_mono (Cert.FoxProjSRefIdeal.Value.run m ρ) fun r hr => ⟨fun c => (hr c).2, sem_eq_zero_of_no_sems (by decide) r.2⟩

/-- The sample's per-head norm of the keys: the call and the reference compute the same array. -/
theorem sample_key_norm : Cert.algebraic_KeyNormSIdeal_KeyNormSRefIdeal := by
  intro m g m' g' _ hagree
  refine ⟨fun c => Cert.KeyNormSIdeal.Lin.keys (m (c.tc.loc Cert.KeyNormSIdeal.main_arg0)) (m (c.tc.loc Cert.KeyNormSIdeal.main_arg1)), ?_, ?_⟩
  · exact θ_run_mono (Cert.KeyNormSIdeal.Value.run_blocks m g) fun r hr c => ⟨(hr c).1.trans (Cert.KeyNormSIdeal.Lin.final m c), (hr c).2⟩
  · refine θ_run_mono (Cert.KeyNormSRefIdeal.Value.run m' g') fun r hr c => ?_
    obtain ⟨a0, a1⟩ := hagree c
    refine ⟨(hr c).1.trans ((Cert.KeyNormSIdeal.Lin.result _ _).trans ?_), (hr c).2⟩
    rw [a0, a1]

/-- The reference of the sample's per-head norm of the keys runs to its end and leaves its arguments as they were. -/
theorem sample_key_norm_frame : Cert.quiescent_KeyNormSRefIdeal := fun m ρ _ =>
  θ_run_mono (Cert.KeyNormSRefIdeal.Value.run m ρ) fun r hr => ⟨fun c => (hr c).2, sem_eq_zero_of_no_sems (by decide) r.2⟩

/-- The sample's gates: the call and the reference compute the same array. -/
theorem sample_gates : Cert.algebraic_GatesSIdeal_GatesSRefIdeal := by
  intro m g m' g' _ hagree
  refine ⟨fun c => Cert.GatesSIdeal.Lin.gate (m (c.tc.loc Cert.GatesSIdeal.main_arg0)) (m (c.tc.loc Cert.GatesSIdeal.main_arg1)) (m (c.tc.loc Cert.GatesSIdeal.main_arg2)) (m (c.tc.loc Cert.GatesSIdeal.main_arg3)), ?_, ?_⟩
  · exact θ_run_mono (Cert.GatesSIdeal.Value.run_blocks m g) fun r hr c => ⟨(hr c).1.trans (Cert.GatesSIdeal.Lin.final m c), (hr c).2⟩
  · refine θ_run_mono (Cert.GatesSRefIdeal.Value.run m' g') fun r hr c => ?_
    obtain ⟨a0, a1, a2, a3⟩ := hagree c
    refine ⟨(hr c).1.trans ((Cert.GatesSIdeal.Lin.result m' c).trans ?_), (hr c).2⟩
    rw [a0, a1, a2, a3]

/-- The reference of the sample's gates runs to its end and leaves its arguments as they were. -/
theorem sample_gates_frame : Cert.quiescent_GatesSRefIdeal := fun m ρ _ =>
  θ_run_mono (Cert.GatesSRefIdeal.Value.run m ρ) fun r hr => ⟨fun c => (hr c).2, sem_eq_zero_of_no_sems (by decide) r.2⟩

/-- The norm of the rows: the call and the reference compute the same array. -/
theorem row_norm : Cert.algebraic_RowNormIdeal_RowNormRefIdeal := by
  intro m g m' g' _ hagree
  refine ⟨fun c => Cert.RowNormIdeal.Lin.rows (m (c.tc.loc Cert.RowNormIdeal.main_arg0)) (m (c.tc.loc Cert.RowNormIdeal.main_arg1)), ?_, ?_⟩
  · exact θ_run_mono (Cert.RowNormIdeal.Value.run_blocks m g) fun r hr c => ⟨(hr c).1.trans (Cert.RowNormIdeal.Lin.final m c), (hr c).2⟩
  · refine θ_run_mono (Cert.RowNormRefIdeal.Value.run m' g') fun r hr c => ?_
    obtain ⟨a0, a1⟩ := hagree c
    refine ⟨(hr c).1.trans ((Cert.RowNormIdeal.Lin.result _ _).trans ?_), (hr c).2⟩
    rw [a0, a1]

/-- The reference of the norm of the rows runs to its end and leaves its arguments as they were. -/
theorem row_norm_frame : Cert.quiescent_RowNormRefIdeal := fun m ρ _ =>
  θ_run_mono (Cert.RowNormRefIdeal.Value.run m ρ) fun r hr => ⟨fun c => (hr c).2, sem_eq_zero_of_no_sems (by decide) r.2⟩

/-- The attention to the memory: the call and the reference compute the same array. -/
theorem memory_attention : Cert.algebraic_MemAttnIdeal_MemAttnRefIdeal := by
  intro m g m' g' _ hagree
  refine ⟨fun c => Cert.MemAttnIdeal.Lin.attend (m (c.tc.loc Cert.MemAttnIdeal.main_arg0)) (m (c.tc.loc Cert.MemAttnIdeal.main_arg1)) (m (c.tc.loc Cert.MemAttnIdeal.main_arg2)) (m (c.tc.loc Cert.MemAttnIdeal.main_arg3)), ?_, ?_⟩
  · exact θ_run_mono (Cert.MemAttnIdeal.Value.run_blocks m g) fun r hr c => ⟨(hr c).1.trans (Cert.MemAttnIdeal.Lin.final m c), (hr c).2⟩
  · refine θ_run_mono (Cert.MemAttnRefIdeal.Value.run m' g') fun r hr c => ?_
    obtain ⟨a0, a1, a2, a3⟩ := hagree c
    refine ⟨(hr c).1.trans ((Cert.MemAttnRefIdeal.Lin.result m' c).trans ?_), (hr c).2⟩
    rw [a0, a1, a2, a3]

/-- The reference of the attention to the memory runs to its end and leaves its arguments as they were. -/
theorem memory_attention_frame : Cert.quiescent_MemAttnRefIdeal := fun m ρ _ =>
  θ_run_mono (Cert.MemAttnRefIdeal.Value.run m ρ) fun r hr => ⟨fun c => (hr c).2, sem_eq_zero_of_no_sems (by decide) r.2⟩

/-- Everything claimed. -/
theorem claim : Cert.Claim := ⟨Cert.Kernel.Gen.facts, Cert.KernelIdeal.Gen.facts, Cert.ReferenceIdeal.Gen.facts,
  Cert.DnProj.Gen.facts, Cert.DnProjIdeal.Gen.facts, Cert.DnProjRefIdeal.Gen.facts, Cert.FoxProj.Gen.facts, Cert.FoxProjIdeal.Gen.facts, Cert.FoxProjRefIdeal.Gen.facts, Cert.MemProj.Gen.facts, Cert.MemProjIdeal.Gen.facts, Cert.MemProjRefIdeal.Gen.facts, Cert.OutProj.Gen.facts, Cert.OutProjIdeal.Gen.facts, Cert.OutProjRefIdeal.Gen.facts, Cert.MemKv.Gen.facts, Cert.MemKvIdeal.Gen.facts, Cert.MemKvRefIdeal.Gen.facts, Cert.KeyNorm.Gen.facts, Cert.KeyNormIdeal.Gen.facts, Cert.KeyNormRefIdeal.Gen.facts,
  Cert.MemNorm.Gen.facts, Cert.MemNormIdeal.Gen.facts, Cert.MemNormRefIdeal.Gen.facts,
  Cert.Gates.Gen.facts, Cert.GatesIdeal.Gen.facts, Cert.GatesRefIdeal.Gen.facts,
  Cert.DnProjS.Gen.facts, Cert.DnProjSIdeal.Gen.facts, Cert.DnProjSRefIdeal.Gen.facts,
  Cert.FoxProjS.Gen.facts, Cert.FoxProjSIdeal.Gen.facts, Cert.FoxProjSRefIdeal.Gen.facts,
  Cert.KeyNormS.Gen.facts, Cert.KeyNormSIdeal.Gen.facts, Cert.KeyNormSRefIdeal.Gen.facts,
  Cert.GatesS.Gen.facts, Cert.GatesSIdeal.Gen.facts, Cert.GatesSRefIdeal.Gen.facts,
  Cert.RowNorm.Gen.facts, Cert.RowNormIdeal.Gen.facts, Cert.RowNormRefIdeal.Gen.facts,
  Cert.MemAttn.Gen.facts, Cert.MemAttnIdeal.Gen.facts, Cert.MemAttnRefIdeal.Gen.facts,
  Cert.Pre_finite_scores.Gen.facts,
  fun m ρ _ => Cert.Kernel.Gen.frame m ρ, fun m ρ _ => Cert.KernelIdeal.Gen.frame m ρ, fun m ρ _ => Cert.KernelIdeal.Gen.frame m ρ,
  attention_frame, fun m ρ _ => attention_frame m ρ trivial,
  fun m ρ _ => Cert.DnProj.Gen.frame m ρ, fun m ρ _ => Cert.DnProjIdeal.Gen.frame m ρ, delta_projection_frame,
  fun m ρ _ => Cert.FoxProj.Gen.frame m ρ, fun m ρ _ => Cert.FoxProjIdeal.Gen.frame m ρ, forgetting_projection_frame,
  fun m ρ _ => Cert.MemProj.Gen.frame m ρ, fun m ρ _ => Cert.MemProjIdeal.Gen.frame m ρ, memory_projection_frame,
  fun m ρ _ => Cert.OutProj.Gen.frame m ρ, fun m ρ _ => Cert.OutProjIdeal.Gen.frame m ρ, output_projection_frame,
  fun m ρ _ => Cert.MemKv.Gen.frame m ρ, fun m ρ _ => Cert.MemKvIdeal.Gen.frame m ρ, memory_keys_frame,
  fun m ρ _ => Cert.KeyNorm.Gen.frame m ρ, fun m ρ _ => Cert.KeyNormIdeal.Gen.frame m ρ, key_norm_frame,
  fun m ρ _ => Cert.MemNorm.Gen.frame m ρ, fun m ρ _ => Cert.MemNormIdeal.Gen.frame m ρ, memory_key_norm_frame,
  fun m ρ _ => Cert.Gates.Gen.frame m ρ, fun m ρ _ => Cert.GatesIdeal.Gen.frame m ρ, gates_frame,
  fun m ρ _ => Cert.DnProjS.Gen.frame m ρ, fun m ρ _ => Cert.DnProjSIdeal.Gen.frame m ρ, sample_delta_projection_frame,
  fun m ρ _ => Cert.FoxProjS.Gen.frame m ρ, fun m ρ _ => Cert.FoxProjSIdeal.Gen.frame m ρ, sample_forgetting_projection_frame,
  fun m ρ _ => Cert.KeyNormS.Gen.frame m ρ, fun m ρ _ => Cert.KeyNormSIdeal.Gen.frame m ρ, sample_key_norm_frame,
  fun m ρ _ => Cert.GatesS.Gen.frame m ρ, fun m ρ _ => Cert.GatesSIdeal.Gen.frame m ρ, sample_gates_frame,
  fun m ρ _ => Cert.RowNorm.Gen.frame m ρ, fun m ρ _ => Cert.RowNormIdeal.Gen.frame m ρ, row_norm_frame,
  fun m ρ _ => Cert.MemAttn.Gen.frame m ρ, fun m ρ _ => Cert.MemAttnIdeal.Gen.frame m ρ, memory_attention_frame,
  trivial, attention, trivial, delta_projection, trivial, forgetting_projection, trivial, memory_projection, trivial, output_projection, trivial, memory_keys, trivial, key_norm,
  trivial, memory_key_norm,
  trivial, gates,
  trivial, sample_delta_projection,
  trivial, sample_forgetting_projection,
  trivial, sample_key_norm,
  trivial, sample_gates,
  trivial, row_norm,
  trivial, memory_attention⟩

end Cert.Proof

end
